-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_d" .f32 0x3A2AAAAB#32 ((1 / 1536 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v4_1)) (v3 : (c : Dev Cert.KernelIdeal.nD) → Buf (Elt Ideal) ((c.tc : Thread Cert.KernelIdeal.nD Cert.KernelIdeal.τ).loc Cert.KernelIdeal.main_v5_1)) (v4 : (c : Dev Cert.KernelIdeal.nD) → Buf (Elt Ideal) ((c.tc : Thread Cert.KernelIdeal.nD Cert.KernelIdeal.τ).loc Cert.KernelIdeal.main_v5_2)) (v5 : (c : Dev Cert.KernelIdeal.nD) → Buf (Elt Ideal) ((c.tc : Thread Cert.KernelIdeal.nD Cert.KernelIdeal.τ).loc Cert.KernelIdeal.main_v5_3)) (v6 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_v5_1) = v3 c
          ∧ r.2.mem ((c.tc : Thread Cert.KernelIdeal.nD Cert.KernelIdeal.τ).loc Cert.KernelIdeal.main_v5_2) = v4 c
          ∧ r.2.mem ((c.tc : Thread Cert.KernelIdeal.nD Cert.KernelIdeal.τ).loc Cert.KernelIdeal.main_v5_3) = v5 c
          ∧ r.2.mem ((c.tc : Thread Cert.KernelIdeal.nD Cert.KernelIdeal.τ).loc Cert.KernelIdeal.main_v5_4) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_v6_4) = v4 c
          ∧ r.2.mem ((c.tc : Thread Cert.ReferenceIdeal.nD Cert.ReferenceIdeal.τ).loc Cert.ReferenceIdeal.main_v6_5) = v5 c
          ∧ r.2.mem ((c.tc : Thread Cert.ReferenceIdeal.nD Cert.ReferenceIdeal.τ).loc Cert.ReferenceIdeal.main_v6_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x1536 : Shape := ⟨3, ![4, 512, 1536]⟩
abbrev S4x512 : Shape := ⟨2, ![4, 512]⟩
abbrev S1536 : Shape := ⟨1, ![1536]⟩
abbrev S1536x2048 : Shape := ⟨2, ![1536, 2048]⟩
abbrev S2048 : Shape := ⟨1, ![2048]⟩
abbrev S4x512x2048 : Shape := ⟨3, ![4, 512, 2048]⟩
abbrev S2048x1536 : Shape := ⟨2, ![2048, 1536]⟩
abbrev S2048x2048 : Shape := ⟨2, ![2048, 2048]⟩
abbrev S1x1536 : Shape := ⟨2, ![1, 1536]⟩
abbrev S1x2048 : Shape := ⟨2, ![1, 2048]⟩
abbrev S512x1536 : Shape := ⟨2, ![512, 1536]⟩
abbrev S512x2048 : Shape := ⟨2, ![512, 2048]⟩
abbrev S512x128 : Shape := ⟨2, ![512, 128]⟩
abbrev S1x512 : Shape := ⟨2, ![1, 512]⟩
abbrev S512x1 : Shape := ⟨2, ![512, 1]⟩
abbrev S64x1 : Shape := ⟨2, ![64, 1]⟩
abbrev S64x1536 : Shape := ⟨2, ![64, 1536]⟩
abbrev S64x2048 : Shape := ⟨2, ![64, 2048]⟩
abbrev S64 : Shape := ⟨1, ![64]⟩
abbrev S2048x512 : Shape := ⟨2, ![2048, 512]⟩
abbrev S1536x512 : Shape := ⟨2, ![1536, 512]⟩
abbrev S1536x128 : Shape := ⟨2, ![1536, 128]⟩
abbrev S253x1536 : Shape := ⟨2, ![253, 1536]⟩
abbrev S1536x1 : Shape := ⟨2, ![1536, 1]⟩
abbrev S253x512 : Shape := ⟨2, ![253, 512]⟩
abbrev S512 : Shape := ⟨1, ![512]⟩

abbrev nBuf : Space → Nat
  | .hbm => 20
  | .vmem => 36
  | .smem => 0
  | _ => 0

abbrev bufTy : (tb : Table) → Fin (tcTables nBuf tb) → BufTy
  | .hbm, ⟨0, _⟩ => ⟨S4x512x1536, .fp8e4m3⟩
  | .hbm, ⟨1, _⟩ => ⟨S4x512, .f32⟩
  | .hbm, ⟨2, _⟩ => ⟨S4x512, .f32⟩
  | .hbm, ⟨3, _⟩ => ⟨S1536, .f32⟩
  | .hbm, ⟨4, _⟩ => ⟨S1536x2048, .fp8e4m3⟩
  | .hbm, ⟨5, _⟩ => ⟨S2048, .f32⟩
  | .hbm, ⟨6, _⟩ => ⟨S4x512x2048, .bf16⟩
  | .hbm, ⟨7, _⟩ => ⟨S2048x1536, .fp8e4m3⟩
  | .hbm, ⟨8, _⟩ => ⟨S2048x2048, .bf16⟩
  | .hbm, ⟨9, _⟩ => ⟨S1x1536, .f32⟩
  | .hbm, ⟨10, _⟩ => ⟨S1x2048, .f32⟩
  | .hbm, ⟨11, _⟩ => ⟨S2048x1536, .bf16⟩
  | .hbm, ⟨12, _⟩ => ⟨S1x1536, .f32⟩
  | .hbm, ⟨13, _⟩ => ⟨S1x1536, .f32⟩
  | .hbm, ⟨14, _⟩ => ⟨S1x2048, .f32⟩
  | .hbm, ⟨15, _⟩ => ⟨S1536x2048, .f32⟩
  | .hbm, ⟨16, _⟩ => ⟨S2048x1536, .fp8e4m3⟩
  | .hbm, ⟨17, _⟩ => ⟨S1x1536, .f32⟩
  | .hbm, ⟨18, _⟩ => ⟨S2048x2048, .fp8e4m3⟩
  | .hbm, ⟨19, _⟩ => ⟨S1x2048, .f32⟩
  | .local _ .vmem, ⟨0, _⟩ => ⟨S4x512, .f32⟩
  | .local _ .vmem, ⟨1, _⟩ => ⟨S4x512, .f32⟩
  | .local _ .vmem, ⟨2, _⟩ => ⟨S1x1536, .f32⟩
  | .local _ .vmem, ⟨3, _⟩ => ⟨S1x2048, .f32⟩
  | .local _ .vmem, ⟨4, _⟩ => ⟨S512x1536, .fp8e4m3⟩
  | .local _ .vmem, ⟨5, _⟩ => ⟨S512x1536, .fp8e4m3⟩
  | .local _ .vmem, ⟨6, _⟩ => ⟨S1536x2048, .fp8e4m3⟩
  | .local _ .vmem, ⟨7, _⟩ => ⟨S512x2048, .bf16⟩
  | .local _ .vmem, ⟨8, _⟩ => ⟨S512x2048, .bf16⟩
  | .local _ .vmem, ⟨9, _⟩ => ⟨S512x1536, .bf16⟩
  | .local _ .vmem, ⟨10, _⟩ => ⟨S512x1536, .bf16⟩
  | .local _ .vmem, ⟨11, _⟩ => ⟨S1x1536, .f32⟩
  | .local _ .vmem, ⟨12, _⟩ => ⟨S1x1536, .f32⟩
  | .local _ .vmem, ⟨13, _⟩ => ⟨S1x2048, .f32⟩
  | .local _ .vmem, ⟨14, _⟩ => ⟨S1536x2048, .bf16⟩
  | .local _ .vmem, ⟨15, _⟩ => ⟨S512x1536, .f32⟩
  | .local _ .vmem, ⟨16, _⟩ => ⟨S512x128, .f32⟩
  | .local _ .vmem, ⟨17, _⟩ => ⟨S512x128, .f32⟩
  | .local _ .vmem, ⟨18, _⟩ => ⟨S4x512, .f32⟩
  | .local _ .vmem, ⟨19, _⟩ => ⟨S4x512, .f32⟩
  | .local _ .vmem, ⟨20, _⟩ => ⟨S1x1536, .f32⟩
  | .local _ .vmem, ⟨21, _⟩ => ⟨S1x1536, .f32⟩
  | .local _ .vmem, ⟨22, _⟩ => ⟨S1x512, .f32⟩
  | .local _ .vmem, ⟨23, _⟩ => ⟨S1x512, .f32⟩
  | .local _ .vmem, ⟨24, _⟩ => ⟨S2048x1536, .fp8e4m3⟩
  | .local _ .vmem, ⟨25, _⟩ => ⟨S2048x512, .bf16⟩
  | .local _ .vmem, ⟨26, _⟩ => ⟨S2048x512, .bf16⟩
  | .local _ .vmem, ⟨27, _⟩ => ⟨S1536x512, .f32⟩
  | .local _ .vmem, ⟨28, _⟩ => ⟨S1536x512, .f32⟩
  | .local _ .vmem, ⟨29, _⟩ => ⟨S2048x1536, .fp8e4m3⟩
  | .local _ .vmem, ⟨30, _⟩ => ⟨S1x1536, .f32⟩
  | .local _ .vmem, ⟨31, _⟩ => ⟨S2048x512, .fp8e4m3⟩
  | .local _ .vmem, ⟨32, _⟩ => ⟨S2048x512, .fp8e4m3⟩
  | .local _ .vmem, ⟨33, _⟩ => ⟨S1x512, .f32⟩
  | .local _ .vmem, ⟨34, _⟩ => ⟨S1x512, .f32⟩
  | .local _ .vmem, ⟨35, _⟩ => ⟨S1536x128, .f32⟩
  | _, _ => ⟨S4x512x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg10_1 : Ref sig .tc := ⟨.vmem, 32, rfl⟩
abbrev cc1_stg11_0 : Ref sig .tc := ⟨.vmem, 33, rfl⟩
abbrev cc1_stg11_1 : Ref sig .tc := ⟨.vmem, 34, rfl⟩
abbrev cc1_scratch0 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc1_sem9_0 : DmaSem sig := 26
abbrev cc1_sem10_0 : DmaSem sig := 27
abbrev cc1_sem10_1 : DmaSem sig := 28
abbrev cc1_sem11_0 : DmaSem sig := 29
abbrev cc1_sem11_1 : DmaSem sig := 30

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let v3 : Index := Scalar.indexCast arg0
  let c0 : Index := 0#32
  ![v3.toNat, 0]
@[reducible] def k0_t1_loop : Scf.Loop 32 :=
  let c0_i32_14 : BitVec 32 := 0#32
  let c8_i32 : BitVec 32 := 8#32
  let v28 : BitVec 32 := Scalar.addi c0_i32_14 c8_i32
  let c1_i32 : BitVec 32 := 1#32
  ⟨c0_i32_14, v28, c1_i32⟩
def k0_off2 (k0_t1 : Fin k0_t1_loop.trips) : Fin 2 → Nat :=
  let c0_i32_14 : BitVec 32 := 0#32
  let c1_i32 : BitVec 32 := 1#32
  let arg16 : BitVec 32 := Scf.iv c0_i32_14 c1_i32 k0_t1
  let c64_i32 : BitVec 32 := 64#32
  let v29 : BitVec 32 := Scalar.muli arg16 c64_i32
  let v30 : Index := Scalar.indexCast v29
  let c0_16 : Index := 0#32
  ![v30.toNat, 0]
def k0_off3 (k0_t1 : Fin k0_t1_loop.trips) : Fin 2 → Nat :=
  let c0_i32_14 : BitVec 32 := 0#32
  let c1_i32 : BitVec 32 := 1#32
  let arg16 : BitVec 32 := Scf.iv c0_i32_14 c1_i32 k0_t1
  let c64_i32 : BitVec 32 := 64#32
  let v29 : BitVec 32 := Scalar.muli arg16 c64_i32
  let v34 : Index := Scalar.indexCast v29
  let c0_18 : Index := 0#32
  ![v34.toNat, 0]
def k0_off4 (k0_t1 : Fin k0_t1_loop.trips) : Fin 2 → Nat :=
  let c0_i32_14 : BitVec 32 := 0#32
  let c1_i32 : BitVec 32 := 1#32
  let arg16 : BitVec 32 := Scf.iv c0_i32_14 c1_i32 k0_t1
  let c64_i32 : BitVec 32 := 64#32
  let v29 : BitVec 32 := Scalar.muli arg16 c64_i32
  let v55 : Index := Scalar.indexCast v29
  let c0_27 : Index := 0#32
  ![v55.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![4], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1536 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1536 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2048x1536 .fp8e4m3 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1536x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S2048x1536 .fp8e4m3 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1536 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2048x512 .fp8e4m3 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== KernelIdeal.lean ====
variable {F : FTy → Type} [FloatOps F] [Named F]
def κ : String → Option EReal := fun
  | "inv_d" => some ((1 / 1536 : ℝ) : EReal)
  | _ => none
-- ==== ReferenceIdeal.lean ====
abbrev S4x512x1536 : Shape := ⟨3, ![4, 512, 1536]⟩
abbrev S4x512 : Shape := ⟨2, ![4, 512]⟩
abbrev S1536 : Shape := ⟨1, ![1536]⟩
abbrev S1536x2048 : Shape := ⟨2, ![1536, 2048]⟩
abbrev S2048 : Shape := ⟨1, ![2048]⟩
abbrev S4x512x2048 : Shape := ⟨3, ![4, 512, 2048]⟩
abbrev S2048x1536 : Shape := ⟨2, ![2048, 1536]⟩
abbrev S2048x1 : Shape := ⟨2, ![2048, 1]⟩
abbrev S1x1536 : Shape := ⟨2, ![1, 1536]⟩
abbrev S1x2048 : Shape := ⟨2, ![1, 2048]⟩
abbrev S2048x2048 : Shape := ⟨2, ![2048, 2048]⟩
abbrev S1536x1 : Shape := ⟨2, ![1536, 1]⟩

abbrev nBuf : Space → Nat
  | .hbm => 20
  | .vmem => 14
  | .smem => 0
  | _ => 0

abbrev bufTy : (tb : Table) → Fin (tcTables nBuf tb) → BufTy
  | .hbm, ⟨0, _⟩ => ⟨S4x512x1536, .fp8e4m3⟩
  | .hbm, ⟨1, _⟩ => ⟨S4x512, .f32⟩
  | .hbm, ⟨2, _⟩ => ⟨S4x512, .f32⟩
  | .hbm, ⟨3, _⟩ => ⟨S1536, .f32⟩
  | .hbm, ⟨4, _⟩ => ⟨S1536x2048, .fp8e4m3⟩
  | .hbm, ⟨5, _⟩ => ⟨S2048, .f32⟩
  | .hbm, ⟨6, _⟩ => ⟨S4x512x2048, .bf16⟩
  | .hbm, ⟨7, _⟩ => ⟨S2048x1536, .fp8e4m3⟩
  | .hbm, ⟨8, _⟩ => ⟨S2048x1, .f32⟩
  | .hbm, ⟨9, _⟩ => ⟨S2048x1, .f32⟩
  | .hbm, ⟨10, _⟩ => ⟨S1x1536, .f32⟩
  | .hbm, ⟨11, _⟩ => ⟨S1x2048, .f32⟩
  | .hbm, ⟨12, _⟩ => ⟨S2048x2048, .bf16⟩
  | .hbm, ⟨13, _⟩ => ⟨S2048x1536, .bf16⟩
  | .hbm, ⟨14, _⟩ => ⟨S1536x2048, .f32⟩
  | .hbm, ⟨15, _⟩ => ⟨S1x1536, .f32⟩
  | .hbm, ⟨16, _⟩ => ⟨S2048x1536, .fp8e4m3⟩
  | .hbm, ⟨17, _⟩ => ⟨S1x1536, .f32⟩
  | .hbm, ⟨18, _⟩ => ⟨S2048x2048, .fp8e4m3⟩
  | .hbm, ⟨19, _⟩ => ⟨S1x2048, .f32⟩
  | .local _ .vmem, ⟨0, _⟩ => ⟨S2048x1536, .fp8e4m3⟩
  | .local _ .vmem, ⟨1, _⟩ => ⟨S2048x1, .f32⟩
  | .local _ .vmem, ⟨2, _⟩ => ⟨S2048x1, .f32⟩
  | .local _ .vmem, ⟨3, _⟩ => ⟨S1x1536, .f32⟩
  | .local _ .vmem, ⟨4, _⟩ => ⟨S1536x2048, .fp8e4m3⟩
  | .local _ .vmem, ⟨5, _⟩ => ⟨S1x2048, .f32⟩
  | .local _ .vmem, ⟨6, _⟩ => ⟨S2048x2048, .bf16⟩
  | .local _ .vmem, ⟨7, _⟩ => ⟨S2048x1536, .bf16⟩
  | .local _ .vmem, ⟨8, _⟩ => ⟨S1536x2048, .f32⟩
  | .local _ .vmem, ⟨9, _⟩ => ⟨S1x1536, .f32⟩
  | .local _ .vmem, ⟨10, _⟩ => ⟨S2048x1536, .fp8e4m3⟩
  | .local _ .vmem, ⟨11, _⟩ => ⟨S1x1536, .f32⟩
  | .local _ .vmem, ⟨12, _⟩ => ⟨S2048x2048, .fp8e4m3⟩
  | .local _ .vmem, ⟨13, _⟩ => ⟨S1x2048, .f32⟩
  | _, _ => ⟨S4x512x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F] [Named F]

def κ : String → Option EReal := fun
  | "inv_ln2" => some (((Real.log 2)⁻¹ : ℝ) : EReal)
  | _ => none

abbrev grid0 : Pipeline.Grid := .none

abbrev stage0_0 : Fin 1 → Memref sig .tc .vmem S2048x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x1536 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x2048 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Rows.lean ====
module

public import proofs.«01_k».proof.Proof.Gen.KernelIdeal.Loops
public import Idealize.ShloMosaic.Lib.Pointwise
public import Idealize.ShloMosaic.Lib.Pipeline.ValueKit.Acc
public import Idealize.ShloMosaic.Lib.Pipeline.ValueKit.Tiles
public import Idealize.ShloMosaic.Lib.WritesUnit
public import Idealize.ShloMosaic.Lib.VecWindow

@[expose] public section

noncomputable section

namespace Cert.KernelIdeal.Rows

open Idealize.ShloMosaic Idealize.ShloMosaic.TcCoe Idealize.SL.Sem
open Cert.KernelIdeal Cert.KernelIdeal.Gen

variable {F : FTy → Type} [FloatOps F] [Named F]

/-! ## The chunks of a block of 512 rows -/

/-- Chunk `k` of a column repeated over the lanes. -/
def colAt (v : Vec F S512x128 .f32) (k : Fin k0_t1_loop.trips) : Vec F S64x1 .f32 :=
  View.ld v (Rect.unit (s := S512x128) (k0_off2 k) S64x1.size (k0_off2_inb k))

/-- Chunk `k` of a block as wide as the model. -/
def rowsAt {e : EltTy} (v : Vec F S512x1536 e) (k : Fin k0_t1_loop.trips) : Vec F S64x1536 e :=
  View.ld v (Rect.unit (s := S512x1536) (k0_off3 k) S64x1536.size (k0_off3_inb k))

/-- Chunk `k` of a block of the incoming gradient. -/
def gradAt (v : Vec F S512x2048 .bf16) (k : Fin k0_t1_loop.trips) : Vec F S64x2048 .bf16 :=
  View.ld v (Rect.unit (s := S512x2048) (k0_off4 k) S64x2048.size (k0_off4_inb k))

/-- The scale's gradient after `k` chunks. -/
def gamAcc (x : Vec F S512x1536 .fp8e4m3) (xs rs : Vec F S512x128 .f32) (h : Vec F S512x1536 .f32) (a : Vec F S1x1536 .f32) : ℕ → Vec F S1x1536 .f32
  | 0 => a
  | k + 1 => if hk : k < k0_t1_loop.trips then
      k0_pay9 (k0_pay14 (gamAcc x xs rs h a k)) (k0_pay15 (colAt xs ⟨k, hk⟩) (colAt rs ⟨k, hk⟩) (rowsAt h ⟨k, hk⟩) (rowsAt x ⟨k, hk⟩))
    else gamAcc x xs rs h a k

/-- The activations' largest magnitude after `k` chunks. -/
def xAcc (g : Vec F S1x1536 .f32) (x : Vec F S512x1536 .fp8e4m3) (xs rs : Vec F S512x128 .f32) (a : Vec F S1x1536 .f32) : ℕ → Vec F S1x1536 .f32
  | 0 => a
  | k + 1 => if hk : k < k0_t1_loop.trips then
      k0_pay12 (k0_pay8 g) (colAt xs ⟨k, hk⟩) (colAt rs ⟨k, hk⟩) (rowsAt x ⟨k, hk⟩) (xAcc g x xs rs a k)
    else xAcc g x xs rs a k

/-- The incoming gradient's largest magnitude after `k` chunks. -/
def qAcc (q : Vec F S512x2048 .bf16) (a : Vec F S1x2048 .f32) : ℕ → Vec F S1x2048 .f32
  | 0 => a
  | k + 1 => if hk : k < k0_t1_loop.trips then k0_pay13 (qAcc q a k) (gradAt q ⟨k, hk⟩) else qAcc q a k

/-- The chunk loop makes eight passes. -/
theorem trips_eq : k0_t1_loop.trips = 8 := by decide +kernel

/-- The chunk that row `y` of a block lies in. -/
def chunkOf (y : S512x1536.Idx) : Fin k0_t1_loop.trips :=
  ⟨(y 0).val / 64, by have h : (y 0).val < 512 := (y 0).isLt; rw [trips_eq]; omega⟩

/-- Where in its chunk row `y` lies. -/
def inChunk (y : S512x1536.Idx) : S64x1536.Idx := ix2 ⟨(y 0).val % 64, Nat.mod_lt _ (by decide)⟩ ⟨(y 1).val, (y 1).isLt⟩

/-- The activations' gradient of a block, chunk by chunk. -/
def dxRows (g : Vec F S1x1536 .f32) (x : Vec F S512x1536 .fp8e4m3) (xs rs : Vec F S512x128 .f32) (h : Vec F S512x1536 .f32) : Vec F S512x1536 .bf16 :=
  fun y => k0_pay10 g (colAt rs (chunkOf y)) (rowsAt h (chunkOf y)) (k0_pay11 (colAt xs (chunkOf y)) (colAt rs (chunkOf y)) (rowsAt x (chunkOf y))) (inChunk y)

variable
  (𝒱 : Variants) (c : Dev nD) (bd : Option 𝒱.V) (i : grid0.Coords)
  (arg1 : Memref sig .tc .vmem S4x512 .f32) (harg1 : arg1.IsWhole)
  (arg2 : Memref sig .tc .vmem S4x512 .f32) (harg2 : arg2.IsWhole)
  (arg3 : Memref sig .tc .vmem S1x1536 .f32) (harg3 : arg3.IsWhole)
  (arg4 : Memref sig .tc .vmem S1x2048 .f32) (harg4 : arg4.IsWhole)
  (arg5 : Memref sig .tc .vmem S512x1536 .fp8e4m3) (harg5 : arg5.IsWhole)
  (arg6 : Memref sig .tc .vmem S1536x2048 .fp8e4m3) (harg6 : arg6.IsWhole)
  (arg7 : Memref sig .tc .vmem S512x2048 .bf16) (harg7 : arg7.IsWhole)
  (arg8 : Memref sig .tc .vmem S512x1536 .bf16) (harg8 : arg8.IsWhole)
  (arg9 : Memref sig .tc .vmem S1x1536 .f32) (harg9 : arg9.IsWhole)
  (arg10 : Memref sig .tc .vmem S1x1536 .f32) (harg10 : arg10.IsWhole)
  (arg11 : Memref sig .tc .vmem S1x2048 .f32) (harg11 : arg11.IsWhole)
  (arg12 : Memref sig .tc .vmem S1536x2048 .bf16) (harg12 : arg12.IsWhole)
  (arg13 : Memref sig .tc .vmem S512x1536 .f32) (harg13 : arg13.IsWhole)
  (arg14 : Memref sig .tc .vmem S512x128 .f32) (harg14 : arg14.IsWhole)
  (arg15 : Memref sig .tc .vmem S512x128 .f32) (harg15 : arg15.IsWhole)
  (v26 : Vec F S1x1536 .f32)
  (X5 : BufTy.Contents (Elt F) arg5.view.ty)
  (X7 : BufTy.Contents (Elt F) arg7.view.ty)
  (X13 : BufTy.Contents (Elt F) arg13.view.ty)
  (X14 : BufTy.Contents (Elt F) arg14.view.ty)
  (X15 : BufTy.Contents (Elt F) arg15.view.ty)
  (G8 : BufTy.Contents (Elt F) arg8.view.ty)
  (G9 : BufTy.Contents (Elt F) arg9.view.ty)
  (G10 : BufTy.Contents (Elt F) arg10.view.ty)
  (G11 : BufTy.Contents (Elt F) arg11.view.ty)

set_option maxHeartbeats 1000000 in
/-- What one trip stores: its 64 rows of the gradient, and the three accumulators. -/
theorem trip_eq (k : Fin k0_t1_loop.trips) :
    tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 k G8 G9 G10 G11
      = ([⟨Rect.unit (s := S512x1536) (k0_off3 k) S64x1536.size (k0_off3_inb k), k0_pay10 v26 (colAt (arg15.view.read (Elt F) X15) k) (rowsAt (arg13.view.read (Elt F) X13) k) (k0_pay11 (colAt (arg14.view.read (Elt F) X14) k) (colAt (arg15.view.read (Elt F) X15) k) (rowsAt (arg5.view.read (Elt F) X5) k))⟩],
         [⟨Rect.unit (s := S1x1536) ![0, 0] S1x1536.size inb_S1x1536_S1x1536_0_0, k0_pay9 (k0_pay14 (arg9.view.read (Elt F) G9)) (k0_pay15 (colAt (arg14.view.read (Elt F) X14) k) (colAt (arg15.view.read (Elt F) X15) k) (rowsAt (arg13.view.read (Elt F) X13) k) (rowsAt (arg5.view.read (Elt F) X5) k))⟩],
         [⟨Rect.unit (s := S1x1536) ![0, 0] S1x1536.size inb_S1x1536_S1x1536_0_0, k0_pay12 (k0_pay8 v26) (colAt (arg14.view.read (Elt F) X14) k) (colAt (arg15.view.read (Elt F) X15) k) (rowsAt (arg5.view.read (Elt F) X5) k) (arg10.view.read (Elt F) G10)⟩],
         [⟨Rect.unit (s := S1x2048) ![0, 0] S1x2048.size inb_S1x2048_S1x2048_0_0, k0_pay13 (arg11.view.read (Elt F) G11) (gradAt (arg7.view.read (Elt F) X7) k)⟩]) := by
  rw [← View.ld_unit_lit' (off := ![0, 0]) inb_S1x1536_S1x1536_0_0 (arg9.view.read (Elt F) G9) (by decide),
    ← View.ld_unit_lit' (off := ![0, 0]) inb_S1x1536_S1x1536_0_0 (arg10.view.read (Elt F) G10) (by decide),
    ← View.ld_unit_lit' (off := ![0, 0]) inb_S1x2048_S1x2048_0_0 (arg11.view.read (Elt F) G11) (by decide)]
  unfold tripL_k0_t1 trip_k0_t1
  rfl

/-- After `k` trips the accumulators hold the recursions above, and the first `64 k` rows of the gradient stand. -/
theorem loop_eq (k : ℕ) (hk : k ≤ 8) :
    arg9.view.read (Elt F) (arg9.view.writes (Elt F) G9 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 k).2.1) = gamAcc (arg5.view.read (Elt F) X5) (arg14.view.read (Elt F) X14) (arg15.view.read (Elt F) X15) (arg13.view.read (Elt F) X13) (arg9.view.read (Elt F) G9) k ∧
    arg10.view.read (Elt F) (arg10.view.writes (Elt F) G10 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 k).2.2.1) = xAcc v26 (arg5.view.read (Elt F) X5) (arg14.view.read (Elt F) X14) (arg15.view.read (Elt F) X15) (arg10.view.read (Elt F) G10) k ∧
    arg11.view.read (Elt F) (arg11.view.writes (Elt F) G11 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 k).2.2.2) = qAcc (arg7.view.read (Elt F) X7) (arg11.view.read (Elt F) G11) k ∧
    ∀ y : S512x1536.Idx, (y 0).val < 64 * k →
      arg8.view.read (Elt F) (arg8.view.writes (Elt F) G8 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 k).1) y = dxRows v26 (arg5.view.read (Elt F) X5) (arg14.view.read (Elt F) X14) (arg15.view.read (Elt F) X15) (arg13.view.read (Elt F) X13) y := by
  induction k with
  | zero => exact ⟨rfl, rfl, rfl, fun y h => absurd h (by omega)⟩
  | succ k ih =>
    obtain ⟨h9, h10, h11, h8⟩ := ih (by omega)
    have hk' : k < k0_t1_loop.trips := by rw [trips_eq]; omega
    rw [pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 ⟨k, hk'⟩, trip_eq]
    refine ⟨?_, ?_, ?_, fun y h => ?_⟩
    · refine (View.read_writes_full arg9.view _ _ _ _).trans ?_
      rw [gamAcc, dif_pos hk', h9]
    · refine (View.read_writes_full arg10.view _ _ _ _).trans ?_
      rw [xAcc, dif_pos hk', h10]
    · refine (View.read_writes_full arg11.view _ _ _ _).trans ?_
      rw [qAcc, dif_pos hk', h11]
    · by_cases hr : (y 0).val < 64 * k
      · refine (View.read_writes_cons_rows_of_not_mem (d := ![512, 1536]) arg8.view _ _ _ _ y (k0_off3_eq ⟨k, hk'⟩) rfl (Or.inl hr)).trans ?_
        exact h8 y hr
      · have e : chunkOf y = ⟨k, hk'⟩ := Fin.ext (by show (y 0).val / 64 = k; omega)
        refine (View.read_writes_cons_rows_of_mem (d := ![512, 1536]) arg8.view _ _ _ _ y (inChunk y) (k0_off3_eq ⟨k, hk'⟩) ?_ rfl).trans ?_
        · show (y 0).val = 64 * k + (y 0).val % 64; omega
        unfold dxRows
        rw [e]

end Cert.KernelIdeal.Rows

end
-- ==== Proof.Point.lean ====
module

public import proofs.«01_k».proof.Proof.Rows
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- The body's test for the first point of the grid. -/
abbrev atFirst (i : grid0.Coords) : Prop := (Scalar.cmpi .ne (Scalar.extui (Scalar.cmpi .eq (BitVec.ofNat 32 (i 0).val) 0#32)) 0#32) = 1#1

/-- It holds at the first point only. -/
theorem atFirst_iff : ∀ t : Fin cfg0.N, atFirst (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    simp only [atFirst, e0]
    word_cmp
   : ∀ t : Fin grid0.N, atFirst (grid0.coords t) ↔ t.val = 0)

/-- A point's activation scales, one per row, repeated over the lanes. -/
def xsCol (v : Vec F S4x512 .f32) (i : grid0.Coords) : Vec F S512x128 .f32 :=
  k0_pay5 (View.ld v (Rect.unit (s := S4x512) (k0_off1 i) S1x512.size (k0_off1_inb i)))

/-- A point's reciprocal root mean squares, one per row, repeated over the lanes. -/
def rsCol (v : Vec F S4x512 .f32) (i : grid0.Coords) : Vec F S512x128 .f32 :=
  k0_pay6 (View.ld v (Rect.unit (s := S4x512) (k0_off1 i) S1x512.size (k0_off1_inb i)))

/-- The whole loop: the accumulators after the eight chunks, and every row of the gradient. -/
theorem loop_out
  (𝒱 : Variants) (c : Dev nD) (bd : Option 𝒱.V) (i : grid0.Coords)
  (arg1 : Memref sig .tc .vmem S4x512 .f32) (harg1 : arg1.IsWhole)
  (arg2 : Memref sig .tc .vmem S4x512 .f32) (harg2 : arg2.IsWhole)
  (arg3 : Memref sig .tc .vmem S1x1536 .f32) (harg3 : arg3.IsWhole)
  (arg4 : Memref sig .tc .vmem S1x2048 .f32) (harg4 : arg4.IsWhole)
  (arg5 : Memref sig .tc .vmem S512x1536 .fp8e4m3) (harg5 : arg5.IsWhole)
  (arg6 : Memref sig .tc .vmem S1536x2048 .fp8e4m3) (harg6 : arg6.IsWhole)
  (arg7 : Memref sig .tc .vmem S512x2048 .bf16) (harg7 : arg7.IsWhole)
  (arg8 : Memref sig .tc .vmem S512x1536 .bf16) (harg8 : arg8.IsWhole)
  (arg9 : Memref sig .tc .vmem S1x1536 .f32) (harg9 : arg9.IsWhole)
  (arg10 : Memref sig .tc .vmem S1x1536 .f32) (harg10 : arg10.IsWhole)
  (arg11 : Memref sig .tc .vmem S1x2048 .f32) (harg11 : arg11.IsWhole)
  (arg12 : Memref sig .tc .vmem S1536x2048 .bf16) (harg12 : arg12.IsWhole)
  (arg13 : Memref sig .tc .vmem S512x1536 .f32) (harg13 : arg13.IsWhole)
  (arg14 : Memref sig .tc .vmem S512x128 .f32) (harg14 : arg14.IsWhole)
  (arg15 : Memref sig .tc .vmem S512x128 .f32) (harg15 : arg15.IsWhole)
  (v26 : Vec F S1x1536 .f32)
  (X5 : BufTy.Contents (Elt F) arg5.view.ty)
  (X7 : BufTy.Contents (Elt F) arg7.view.ty)
  (X13 : BufTy.Contents (Elt F) arg13.view.ty)
  (X14 : BufTy.Contents (Elt F) arg14.view.ty)
  (X15 : BufTy.Contents (Elt F) arg15.view.ty)
  (G8 : BufTy.Contents (Elt F) arg8.view.ty)
  (G9 : BufTy.Contents (Elt F) arg9.view.ty)
  (G10 : BufTy.Contents (Elt F) arg10.view.ty)
  (G11 : BufTy.Contents (Elt F) arg11.view.ty)
  {g : Vec F S1x1536 .f32} {x : Vec F S512x1536 .fp8e4m3} {q : Vec F S512x2048 .bf16} {h : Vec F S512x1536 .f32} {xs rs : Vec F S512x128 .f32}
  {a9 a10 : Vec F S1x1536 .f32} {a11 : Vec F S1x2048 .f32} {k : ℕ} (hk : k = 8)
  (hg : v26 = g) (h5 : arg5.view.read (Elt F) X5 = x) (h7 : arg7.view.read (Elt F) X7 = q) (h13 : arg13.view.read (Elt F) X13 = h) (h14 : arg14.view.read (Elt F) X14 = xs) (h15 : arg15.view.read (Elt F) X15 = rs)
  (h9 : arg9.view.read (Elt F) G9 = a9) (h10 : arg10.view.read (Elt F) G10 = a10) (h11 : arg11.view.read (Elt F) G11 = a11) :
    arg8.view.read (Elt F) (arg8.view.writes (Elt F) G8 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 k).1) = dxRows g x xs rs h ∧
    arg9.view.read (Elt F) (arg9.view.writes (Elt F) G9 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 k).2.1) = gamAcc x xs rs h a9 8 ∧
    arg10.view.read (Elt F) (arg10.view.writes (Elt F) G10 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 k).2.2.1) = xAcc g x xs rs a10 8 ∧
    arg11.view.read (Elt F) (arg11.view.writes (Elt F) G11 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 k).2.2.2) = qAcc q a11 8 := by
  subst hk hg h5 h7 h13 h14 h15 h9 h10 h11
  obtain ⟨e9, e10, e11, e8⟩ := loop_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 8 le_rfl
  exact ⟨funext fun y => e8 y (y 0).isLt, e9, e10, e11⟩

/-- The loop as the body reaches it: its per-row operands and the product with the weights just stored. -/
theorem loop_point (c : Dev nD) (i : grid0.Coords)
  (arg1 : Memref sig .tc .vmem S4x512 .f32) (harg1 : arg1.IsWhole)
  (arg2 : Memref sig .tc .vmem S4x512 .f32) (harg2 : arg2.IsWhole)
  (arg3 : Memref sig .tc .vmem S1x1536 .f32) (harg3 : arg3.IsWhole)
  (arg4 : Memref sig .tc .vmem S1x2048 .f32) (harg4 : arg4.IsWhole)
  (arg5 : Memref sig .tc .vmem S512x1536 .fp8e4m3) (harg5 : arg5.IsWhole)
  (arg6 : Memref sig .tc .vmem S1536x2048 .fp8e4m3) (harg6 : arg6.IsWhole)
  (arg7 : Memref sig .tc .vmem S512x2048 .bf16) (harg7 : arg7.IsWhole)
  (arg8 : Memref sig .tc .vmem S512x1536 .bf16) (harg8 : arg8.IsWhole)
  (arg9 : Memref sig .tc .vmem S1x1536 .f32) (harg9 : arg9.IsWhole)
  (arg10 : Memref sig .tc .vmem S1x1536 .f32) (harg10 : arg10.IsWhole)
  (arg11 : Memref sig .tc .vmem S1x2048 .f32) (harg11 : arg11.IsWhole)
  (arg12 : Memref sig .tc .vmem S1536x2048 .bf16) (harg12 : arg12.IsWhole)
  (arg13 : Memref sig .tc .vmem S512x1536 .f32) (harg13 : arg13.IsWhole)
  (arg14 : Memref sig .tc .vmem S512x128 .f32) (harg14 : arg14.IsWhole)
  (arg15 : Memref sig .tc .vmem S512x128 .f32) (harg15 : arg15.IsWhole)
  (f13 : BufTy.Contents (Elt F) arg13.view.ty)
  (f14 : BufTy.Contents (Elt F) arg14.view.ty)
  (f15 : BufTy.Contents (Elt F) arg15.view.ty)
  (G8 : BufTy.Contents (Elt F) arg8.view.ty)
  (G9 : BufTy.Contents (Elt F) arg9.view.ty)
  (G10 : BufTy.Contents (Elt F) arg10.view.ty)
  (G11 : BufTy.Contents (Elt F) arg11.view.ty)
  (x0 x1 : Vec F S4x512 .f32) (x2 : Vec F S1x1536 .f32) (x4 : Vec F S512x1536 .fp8e4m3) (x6 : Vec F S512x2048 .bf16)
  {wb w : Vec F S1536x2048 .bf16} {a9 a10 : Vec F S1x1536 .f32} {a11 : Vec F S1x2048 .f32}
  (hw : wb = w) (h9 : arg9.view.read (Elt F) G9 = a9) (h10 : arg10.view.read (Elt F) G10 = a10) (h11 : arg11.view.read (Elt F) G11 = a11) :
    arg8.view.read (Elt F) (arg8.view.writes (Elt F) G8 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (arg3.view.readAt (Elt F) (Rect.unit (s := S1x1536) ![0, 0] S1x1536.size inb_S1x1536_S1x1536_0_0).toLoadRect (harg3.unread x2)) (harg5.unread x4) (harg7.unread x6) (arg13.view.writes (Elt F) f13 [⟨(Rect.unit (s := S512x1536) ![0, 0] S512x1536.size inb_S512x1536_S512x1536_0_0), k0_pay7 (arg7.view.readAt (Elt F) (Rect.unit (s := S512x2048) ![0, 0] S512x2048.size inb_S512x2048_S512x2048_0_0).toLoadRect (harg7.unread x6)) wb⟩]) (arg14.view.writes (Elt F) f14 [⟨(Rect.unit (s := S512x128) ![0, 0] S512x128.size inb_S512x128_S512x128_0_0), k0_pay5 (arg1.view.readAt (Elt F) (Rect.unit (s := S4x512) (k0_off1 i) S1x512.size (k0_off1_inb i)).toLoadRect (harg1.unread x0))⟩]) (arg15.view.writes (Elt F) f15 [⟨(Rect.unit (s := S512x128) ![0, 0] S512x128.size inb_S512x128_S512x128_0_0), k0_pay6 (arg2.view.readAt (Elt F) (Rect.unit (s := S4x512) (k0_off1 i) S1x512.size (k0_off1_inb i)).toLoadRect (harg2.unread x1))⟩]) G8 G9 G10 G11 k0_t1_loop.trips).1) = dxRows x2 x4 (xsCol x0 i) (rsCol x1 i) (k0_pay7 x6 w) ∧
    arg9.view.read (Elt F) (arg9.view.writes (Elt F) G9 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (arg3.view.readAt (Elt F) (Rect.unit (s := S1x1536) ![0, 0] S1x1536.size inb_S1x1536_S1x1536_0_0).toLoadRect (harg3.unread x2)) (harg5.unread x4) (harg7.unread x6) (arg13.view.writes (Elt F) f13 [⟨(Rect.unit (s := S512x1536) ![0, 0] S512x1536.size inb_S512x1536_S512x1536_0_0), k0_pay7 (arg7.view.readAt (Elt F) (Rect.unit (s := S512x2048) ![0, 0] S512x2048.size inb_S512x2048_S512x2048_0_0).toLoadRect (harg7.unread x6)) wb⟩]) (arg14.view.writes (Elt F) f14 [⟨(Rect.unit (s := S512x128) ![0, 0] S512x128.size inb_S512x128_S512x128_0_0), k0_pay5 (arg1.view.readAt (Elt F) (Rect.unit (s := S4x512) (k0_off1 i) S1x512.size (k0_off1_inb i)).toLoadRect (harg1.unread x0))⟩]) (arg15.view.writes (Elt F) f15 [⟨(Rect.unit (s := S512x128) ![0, 0] S512x128.size inb_S512x128_S512x128_0_0), k0_pay6 (arg2.view.readAt (Elt F) (Rect.unit (s := S4x512) (k0_off1 i) S1x512.size (k0_off1_inb i)).toLoadRect (harg2.unread x1))⟩]) G8 G9 G10 G11 k0_t1_loop.trips).2.1) = gamAcc x4 (xsCol x0 i) (rsCol x1 i) (k0_pay7 x6 w) a9 8 ∧
    arg10.view.read (Elt F) (arg10.view.writes (Elt F) G10 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (arg3.view.readAt (Elt F) (Rect.unit (s := S1x1536) ![0, 0] S1x1536.size inb_S1x1536_S1x1536_0_0).toLoadRect (harg3.unread x2)) (harg5.unread x4) (harg7.unread x6) (arg13.view.writes (Elt F) f13 [⟨(Rect.unit (s := S512x1536) ![0, 0] S512x1536.size inb_S512x1536_S512x1536_0_0), k0_pay7 (arg7.view.readAt (Elt F) (Rect.unit (s := S512x2048) ![0, 0] S512x2048.size inb_S512x2048_S512x2048_0_0).toLoadRect (harg7.unread x6)) wb⟩]) (arg14.view.writes (Elt F) f14 [⟨(Rect.unit (s := S512x128) ![0, 0] S512x128.size inb_S512x128_S512x128_0_0), k0_pay5 (arg1.view.readAt (Elt F) (Rect.unit (s := S4x512) (k0_off1 i) S1x512.size (k0_off1_inb i)).toLoadRect (harg1.unread x0))⟩]) (arg15.view.writes (Elt F) f15 [⟨(Rect.unit (s := S512x128) ![0, 0] S512x128.size inb_S512x128_S512x128_0_0), k0_pay6 (arg2.view.readAt (Elt F) (Rect.unit (s := S4x512) (k0_off1 i) S1x512.size (k0_off1_inb i)).toLoadRect (harg2.unread x1))⟩]) G8 G9 G10 G11 k0_t1_loop.trips).2.2.1) = xAcc x2 x4 (xsCol x0 i) (rsCol x1 i) a10 8 ∧
    arg11.view.read (Elt F) (arg11.view.writes (Elt F) G11 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (arg3.view.readAt (Elt F) (Rect.unit (s := S1x1536) ![0, 0] S1x1536.size inb_S1x1536_S1x1536_0_0).toLoadRect (harg3.unread x2)) (harg5.unread x4) (harg7.unread x6) (arg13.view.writes (Elt F) f13 [⟨(Rect.unit (s := S512x1536) ![0, 0] S512x1536.size inb_S512x1536_S512x1536_0_0), k0_pay7 (arg7.view.readAt (Elt F) (Rect.unit (s := S512x2048) ![0, 0] S512x2048.size inb_S512x2048_S512x2048_0_0).toLoadRect (harg7.unread x6)) wb⟩]) (arg14.view.writes (Elt F) f14 [⟨(Rect.unit (s := S512x128) ![0, 0] S512x128.size inb_S512x128_S512x128_0_0), k0_pay5 (arg1.view.readAt (Elt F) (Rect.unit (s := S4x512) (k0_off1 i) S1x512.size (k0_off1_inb i)).toLoadRect (harg1.unread x0))⟩]) (arg15.view.writes (Elt F) f15 [⟨(Rect.unit (s := S512x128) ![0, 0] S512x128.size inb_S512x128_S512x128_0_0), k0_pay6 (arg2.view.readAt (Elt F) (Rect.unit (s := S4x512) (k0_off1 i) S1x512.size (k0_off1_inb i)).toLoadRect (harg2.unread x1))⟩]) G8 G9 G10 G11 k0_t1_loop.trips).2.2.2) = qAcc x6 a11 8 := by
  refine loop_out Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ G8 G9 G10 G11 trips_eq ?_ (harg5.read_unread _) (harg7.read_unread _) ?_ ?_ ?_ h9 h10 h11
  · exact (View.readAt_full _ _ _).trans (harg3.read_unread _)
  · exact (View.read_writes_full arg13.view _ _ _ _).trans (congrArg₂ k0_pay7 ((View.readAt_full _ _ _).trans (harg7.read_unread _)) hw)
  · exact (View.read_writes_full arg14.view _ _ _ _).trans (congrArg (fun v => k0_pay5 (View.ld v (Rect.unit (s := S4x512) (k0_off1 i) S1x512.size (k0_off1_inb i)))) (harg1.read_unread x0))
  · exact (View.read_writes_full arg15.view _ _ _ _).trans (congrArg (fun v => k0_pay6 (View.ld v (Rect.unit (s := S4x512) (k0_off1 i) S1x512.size (k0_off1_inb i)))) (harg2.read_unread x1))

/-- The unscaled weights as the first point stores them. -/
theorem w_point (arg4 : Memref sig .tc .vmem S1x2048 .f32) (harg4 : arg4.IsWhole) (arg6 : Memref sig .tc .vmem S1536x2048 .fp8e4m3) (harg6 : arg6.IsWhole)
    (x3 : Vec F S1x2048 .f32) (x5 : Vec F S1536x2048 .fp8e4m3) :
    k0_pay1 (arg6.view.readAt (Elt F) (Rect.unit (s := S1536x2048) ![0, 0] S1536x2048.size inb_S1536x2048_S1536x2048_0_0).toLoadRect (harg6.unread x5)) (arg4.view.readAt (Elt F) (Rect.unit (s := S1x2048) ![0, 0] S1x2048.size inb_S1x2048_S1x2048_0_0).toLoadRect (harg4.unread x3)) = k0_pay1 x5 x3 :=
  congrArg₂ k0_pay1 ((View.readAt_full _ _ _).trans (harg6.read_unread _)) ((View.readAt_full _ _ _).trans (harg4.read_unread _))

set_option maxHeartbeats 2000000 in
/-- The body at the first point: the weights are unscaled into the carried buffer, and the accumulators start at zero. -/
theorem point_A (c : Dev nD) (i : grid0.Coords)
  (arg1 : Memref sig .tc .vmem S4x512 .f32) (harg1 : arg1.IsWhole)
  (arg2 : Memref sig .tc .vmem S4x512 .f32) (harg2 : arg2.IsWhole)
  (arg3 : Memref sig .tc .vmem S1x1536 .f32) (harg3 : arg3.IsWhole)
  (arg4 : Memref sig .tc .vmem S1x2048 .f32) (harg4 : arg4.IsWhole)
  (arg5 : Memref sig .tc .vmem S512x1536 .fp8e4m3) (harg5 : arg5.IsWhole)
  (arg6 : Memref sig .tc .vmem S1536x2048 .fp8e4m3) (harg6 : arg6.IsWhole)
  (arg7 : Memref sig .tc .vmem S512x2048 .bf16) (harg7 : arg7.IsWhole)
  (arg8 : Memref sig .tc .vmem S512x1536 .bf16) (harg8 : arg8.IsWhole)
  (arg9 : Memref sig .tc .vmem S1x1536 .f32) (harg9 : arg9.IsWhole)
  (arg10 : Memref sig .tc .vmem S1x1536 .f32) (harg10 : arg10.IsWhole)
  (arg11 : Memref sig .tc .vmem S1x2048 .f32) (harg11 : arg11.IsWhole)
  (arg12 : Memref sig .tc .vmem S1536x2048 .bf16) (harg12 : arg12.IsWhole)
  (arg13 : Memref sig .tc .vmem S512x1536 .f32) (harg13 : arg13.IsWhole)
  (arg14 : Memref sig .tc .vmem S512x128 .f32) (harg14 : arg14.IsWhole)
  (arg15 : Memref sig .tc .vmem S512x128 .f32) (harg15 : arg15.IsWhole)
  (hc0 : atFirst i)
  (x0 x1 : Vec F S4x512 .f32) (x2 : Vec F S1x1536 .f32) (x3 : Vec F S1x2048 .f32) (x4 : Vec F S512x1536 .fp8e4m3) (x5 : Vec F S1536x2048 .fp8e4m3) (x6 : Vec F S512x2048 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (dxRows x2 x4 (xsCol x0 i) (rsCol x1 i) (k0_pay7 x6 (k0_pay1 x5 x3))) ∗ owns (c : Thread nD τ) arg9 fullShare (gamAcc x4 (xsCol x0 i) (rsCol x1 i) (k0_pay7 x6 (k0_pay1 x5 x3)) k0_pay2 8) ∗ owns (c : Thread nD τ) arg10 fullShare (xAcc x2 x4 (xsCol x0 i) (rsCol x1 i) k0_pay3 8) ∗ owns (c : Thread nD τ) arg11 fullShare (qAcc x6 k0_pay4 8) ∗ owns (c : Thread nD τ) arg12 fullShare (k0_pay1 x5 x3) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_qkv_bwd_dx i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_qkv_bwd_dx_eq_skeleton]; unfold cc0_qkv_bwd_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    exact (loop_point c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x4 x6 ((View.readAt_writes_full arg12.view _ _ _ _ _).trans (w_point arg4 harg4 arg6 harg6 x3 x5)) (View.read_writes_full arg9.view _ _ _ _) (View.read_writes_full arg10.view _ _ _ _) (View.read_writes_full arg11.view _ _ _ _)).1
  isplitl [H8]
  · iexists _; isplitr; swap; · iexact H8
    ipureintro
    refine (congrArg _ (View.writes_append ..)).trans ?_
    exact (loop_point c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x4 x6 ((View.readAt_writes_full arg12.view _ _ _ _ _).trans (w_point arg4 harg4 arg6 harg6 x3 x5)) (View.read_writes_full arg9.view _ _ _ _) (View.read_writes_full arg10.view _ _ _ _) (View.read_writes_full arg11.view _ _ _ _)).2.1
  isplitl [H9]
  · iexists _; isplitr; swap; · iexact H9
    ipureintro
    refine (congrArg _ (View.writes_append ..)).trans ?_
    exact (loop_point c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x4 x6 ((View.readAt_writes_full arg12.view _ _ _ _ _).trans (w_point arg4 harg4 arg6 harg6 x3 x5)) (View.read_writes_full arg9.view _ _ _ _) (View.read_writes_full arg10.view _ _ _ _) (View.read_writes_full arg11.view _ _ _ _)).2.2.1
  isplitl [H10]
  · iexists _; isplitr; swap; · iexact H10
    ipureintro
    refine (congrArg _ (View.writes_append ..)).trans ?_
    exact (loop_point c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x4 x6 ((View.readAt_writes_full arg12.view _ _ _ _ _).trans (w_point arg4 harg4 arg6 harg6 x3 x5)) (View.read_writes_full arg9.view _ _ _ _) (View.read_writes_full arg10.view _ _ _ _) (View.read_writes_full arg11.view _ _ _ _)).2.2.2
  isplitl [HS0]
  · iexists _; isplitr; swap; · iexact HS0
    ipureintro
    exact (View.read_writes_full arg12.view _ _ _ _).trans (w_point arg4 harg4 arg6 harg6 x3 x5)
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

set_option maxHeartbeats 2000000 in
/-- The body at a later point: the accumulators and the unscaled weights are the ones the point before left. -/
theorem point_B (c : Dev nD) (i : grid0.Coords)
  (arg1 : Memref sig .tc .vmem S4x512 .f32) (harg1 : arg1.IsWhole)
  (arg2 : Memref sig .tc .vmem S4x512 .f32) (harg2 : arg2.IsWhole)
  (arg3 : Memref sig .tc .vmem S1x1536 .f32) (harg3 : arg3.IsWhole)
  (arg4 : Memref sig .tc .vmem S1x2048 .f32) (harg4 : arg4.IsWhole)
  (arg5 : Memref sig .tc .vmem S512x1536 .fp8e4m3) (harg5 : arg5.IsWhole)
  (arg6 : Memref sig .tc .vmem S1536x2048 .fp8e4m3) (harg6 : arg6.IsWhole)
  (arg7 : Memref sig .tc .vmem S512x2048 .bf16) (harg7 : arg7.IsWhole)
  (arg8 : Memref sig .tc .vmem S512x1536 .bf16) (harg8 : arg8.IsWhole)
  (arg9 : Memref sig .tc .vmem S1x1536 .f32) (harg9 : arg9.IsWhole)
  (arg10 : Memref sig .tc .vmem S1x1536 .f32) (harg10 : arg10.IsWhole)
  (arg11 : Memref sig .tc .vmem S1x2048 .f32) (harg11 : arg11.IsWhole)
  (arg12 : Memref sig .tc .vmem S1536x2048 .bf16) (harg12 : arg12.IsWhole)
  (arg13 : Memref sig .tc .vmem S512x1536 .f32) (harg13 : arg13.IsWhole)
  (arg14 : Memref sig .tc .vmem S512x128 .f32) (harg14 : arg14.IsWhole)
  (arg15 : Memref sig .tc .vmem S512x128 .f32) (harg15 : arg15.IsWhole)
  (hc0 : ¬atFirst i)
  (x0 x1 : Vec F S4x512 .f32) (x2 : Vec F S1x1536 .f32) (x3 : Vec F S1x2048 .f32) (x4 : Vec F S512x1536 .fp8e4m3) (x5 : Vec F S1536x2048 .fp8e4m3) (x6 : Vec F S512x2048 .bf16) (xo8 xo9 : Vec F S1x1536 .f32) (xo10 : Vec F S1x2048 .f32) (xs0 : Vec F S1536x2048 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9 ∗ owns (c : Thread nD τ) arg11 fullShare xo10 ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (dxRows x2 x4 (xsCol x0 i) (rsCol x1 i) (k0_pay7 x6 xs0)) ∗ owns (c : Thread nD τ) arg9 fullShare (gamAcc x4 (xsCol x0 i) (rsCol x1 i) (k0_pay7 x6 xs0) xo8 8) ∗ owns (c : Thread nD τ) arg10 fullShare (xAcc x2 x4 (xsCol x0 i) (rsCol x1 i) xo9 8) ∗ owns (c : Thread nD τ) arg11 fullShare (qAcc x6 xo10 8) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_qkv_bwd_dx i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_qkv_bwd_dx_eq_skeleton]; unfold cc0_qkv_bwd_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%fs0, %hfs0, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hf10; obtain rfl := harg12.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    exact (loop_point c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x4 x6 ((View.readAt_full _ _ _).trans (harg12.read_unread xs0)) (harg9.read_unread _) (harg10.read_unread _) (harg11.read_unread _)).1
  isplitl [H8]
  · iexists _; isplitr; swap; · iexact H8
    ipureintro
    exact (loop_point c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x4 x6 ((View.readAt_full _ _ _).trans (harg12.read_unread xs0)) (harg9.read_unread _) (harg10.read_unread _) (harg11.read_unread _)).2.1
  isplitl [H9]
  · iexists _; isplitr; swap; · iexact H9
    ipureintro
    exact (loop_point c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x4 x6 ((View.readAt_full _ _ _).trans (harg12.read_unread xs0)) (harg9.read_unread _) (harg10.read_unread _) (harg11.read_unread _)).2.2.1
  isplitl [H10]
  · iexists _; isplitr; swap; · iexact H10
    ipureintro
    exact (loop_point c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x4 x6 ((View.readAt_full _ _ _).trans (harg12.read_unread xs0)) (harg9.read_unread _) (harg10.read_unread _) (harg11.read_unread _)).2.2.2
  isplitl [HS0]
  · iexists _; isplitr; swap; · iexact HS0
    ipureintro
    exact harg12.read_unread _
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Rows

end
-- ==== Proof.Region.lean ====
module

public import proofs.«01_k».proof.Proof.Point

@[expose] public section

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The buffers the body is called with -/

/-- The buffer that stages window 0. -/
abbrev stg0 (t : Fin cfg0.N) : Memref sig .tc .vmem S4x512 .f32 := win0_0.stage (cfg0.slots t 0)
/-- The buffer that stages window 1. -/
abbrev stg1 (t : Fin cfg0.N) : Memref sig .tc .vmem S4x512 .f32 := win0_1.stage (cfg0.slots t 1)
/-- The buffer that stages window 2. -/
abbrev stg2 (t : Fin cfg0.N) : Memref sig .tc .vmem S1x1536 .f32 := win0_2.stage (cfg0.slots t 2)
/-- The buffer that stages window 3. -/
abbrev stg3 (t : Fin cfg0.N) : Memref sig .tc .vmem S1x2048 .f32 := win0_3.stage (cfg0.slots t 3)
/-- The buffer that stages window 4. -/
abbrev stg4 (t : Fin cfg0.N) : Memref sig .tc .vmem S512x1536 .fp8e4m3 := win0_4.stage (cfg0.slots t 4)
/-- The buffer that stages window 5. -/
abbrev stg5 (t : Fin cfg0.N) : Memref sig .tc .vmem S1536x2048 .fp8e4m3 := win0_5.stage (cfg0.slots t 5)
/-- The buffer that stages window 6. -/
abbrev stg6 (t : Fin cfg0.N) : Memref sig .tc .vmem S512x2048 .bf16 := win0_6.stage (cfg0.slots t 6)
/-- The buffer that stages window 7. -/
abbrev stg7 (t : Fin cfg0.N) : Memref sig .tc .vmem S512x1536 .bf16 := win0_7.stage (cfg0.slots t 7)
/-- The buffer that stages window 8. -/
abbrev stg8 (t : Fin cfg0.N) : Memref sig .tc .vmem S1x1536 .f32 := win0_8.stage (cfg0.slots t 8)
/-- The buffer that stages window 9. -/
abbrev stg9 (t : Fin cfg0.N) : Memref sig .tc .vmem S1x1536 .f32 := win0_9.stage (cfg0.slots t 9)
/-- The buffer that stages window 10. -/
abbrev stg10 (t : Fin cfg0.N) : Memref sig .tc .vmem S1x2048 .f32 := win0_10.stage (cfg0.slots t 10)

/-- The scratch buffers: the unscaled weights, the product, and the two per-row factors. -/
abbrev sc0 : Memref sig .tc .vmem S1536x2048 .bf16 := Memref.whole cc0_scratch0
/-- The scratch that holds the product. -/
abbrev sc1 : Memref sig .tc .vmem S512x1536 .f32 := Memref.whole cc0_scratch1
/-- The scratch that holds the row scales. -/
abbrev sc2 : Memref sig .tc .vmem S512x128 .f32 := Memref.whole cc0_scratch2
/-- The scratch that holds the norms. -/
abbrev sc3 : Memref sig .tc .vmem S512x128 .f32 := Memref.whole cc0_scratch3

/-- The scratch buffers this call works with. -/
abbrev ownScratch : List (Ref sig .tc) := [cc0_scratch0, cc0_scratch1, cc0_scratch2, cc0_scratch3]

/-- What the body never touches: the other call's buffers and the generator register. -/
def more (c : Dev nD) : sProp 𝕄 := iprop(Pipeline.scopedRestBut spec0 c ownScratch ∗ (∃ r, prngReg c r))

/-- Separation regroups. -/
theorem more_assoc (P Q R : sProp 𝕄) : iprop((P ∗ Q) ∗ R) = iprop(P ∗ Q ∗ R) := equiv_iff.mp ⟨BI.sep_assoc, BI.sep_assoc'⟩

/-- Everything the body may write besides the windows: the scratch buffers and the rest. -/
theorem rest_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ more c) := by
  unfold Pipeline.ΦA
  rw [Pipeline.scopedRest_split_of_list spec0 c ownScratch (by decide) (by decide)]
  refine (more_assoc _ _ _).trans ?_
  simp only [sc0, sc1, sc2, sc3, owns_whole]
  rfl

/-! ## What the region computes, from the arrays' contents at its entry -/

variable (V : (c : Dev nD) → (b : Ref sig .tc) → Buf (Elt F) (((c : Thread nD τ)).loc b))

/-- Window `w`'s block at point `t`. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The unscaled weights, computed at the first point and kept. -/
def wAt (c : Dev nD) : Vec F S1536x2048 .bf16 := k0_pay1 (blk V c 5 ⟨0, by decide⟩) (blk V c 3 ⟨0, by decide⟩)

/-- The weights kept are those of the first point. -/
theorem wAt_zero (c : Dev nD) (t : Fin cfg0.N) (h : t.val = 0) : wAt V c = k0_pay1 (blk V c 5 t) (blk V c 3 t) := by
  obtain ⟨n, hn⟩ := t
  obtain rfl : n = 0 := h
  rfl

/-- A point's product of the incoming gradient with the unscaled weights. -/
def hAt (c : Dev nD) (t : Fin cfg0.N) : Vec F S512x1536 .f32 := k0_pay7 (blk V c 6 t) (wAt V c)

/-- A point's rows of the activations' gradient. -/
def dxAt (c : Dev nD) (t : Fin cfg0.N) : Vec F S512x1536 .bf16 := dxRows (blk V c 2 t) (blk V c 4 t) (xsCol (blk V c 0 t) (grid0.coords t)) (rsCol (blk V c 1 t) (grid0.coords t)) (hAt V c t)

/-- The scale's gradient after point `n`. -/
def gamAt (c : Dev nD) : (n : ℕ) → n < cfg0.N → Vec F S1x1536 .f32
  | 0, h => gamAcc (blk V c 4 ⟨0, h⟩) (xsCol (blk V c 0 ⟨0, h⟩) (grid0.coords ⟨0, h⟩)) (rsCol (blk V c 1 ⟨0, h⟩) (grid0.coords ⟨0, h⟩)) (hAt V c ⟨0, h⟩) k0_pay2 8
  | n + 1, h => gamAcc (blk V c 4 ⟨n + 1, h⟩) (xsCol (blk V c 0 ⟨n + 1, h⟩) (grid0.coords ⟨n + 1, h⟩)) (rsCol (blk V c 1 ⟨n + 1, h⟩) (grid0.coords ⟨n + 1, h⟩)) (hAt V c ⟨n + 1, h⟩) (gamAt c n (Nat.lt_of_succ_lt h)) 8

/-- The gain's gradient after the first point. -/
theorem gamAt_zero (c : Dev nD) (t : Fin cfg0.N) (h : t.val = 0) : gamAt V c t.val t.isLt = gamAcc (blk V c 4 t) (xsCol (blk V c 0 t) (grid0.coords t)) (rsCol (blk V c 1 t) (grid0.coords t)) (hAt V c t) k0_pay2 8 := by
  obtain ⟨n, hn⟩ := t
  obtain rfl : n = 0 := h
  rfl

/-- The gain's gradient after a later point. -/
theorem gamAt_pos (c : Dev nD) (t : Fin cfg0.N) (h : ¬t.val = 0) :
    gamAt V c t.val t.isLt = gamAcc (blk V c 4 t) (xsCol (blk V c 0 t) (grid0.coords t)) (rsCol (blk V c 1 t) (grid0.coords t)) (hAt V c t) (gamAt V c (t.val - 1) (Nat.lt_of_le_of_lt (Nat.sub_le _ _) t.isLt)) 8 := by
  obtain ⟨n, hn⟩ := t
  cases n with
  | zero => exact absurd rfl h
  | succ n => rfl

/-- The activations' largest magnitudes after point `n`. -/
def xAt (c : Dev nD) : (n : ℕ) → n < cfg0.N → Vec F S1x1536 .f32
  | 0, h => xAcc (blk V c 2 ⟨0, h⟩) (blk V c 4 ⟨0, h⟩) (xsCol (blk V c 0 ⟨0, h⟩) (grid0.coords ⟨0, h⟩)) (rsCol (blk V c 1 ⟨0, h⟩) (grid0.coords ⟨0, h⟩)) k0_pay3 8
  | n + 1, h => xAcc (blk V c 2 ⟨n + 1, h⟩) (blk V c 4 ⟨n + 1, h⟩) (xsCol (blk V c 0 ⟨n + 1, h⟩) (grid0.coords ⟨n + 1, h⟩)) (rsCol (blk V c 1 ⟨n + 1, h⟩) (grid0.coords ⟨n + 1, h⟩)) (xAt c n (Nat.lt_of_succ_lt h)) 8

/-- The activations' maxima after the first point. -/
theorem xAt_zero (c : Dev nD) (t : Fin cfg0.N) (h : t.val = 0) : xAt V c t.val t.isLt = xAcc (blk V c 2 t) (blk V c 4 t) (xsCol (blk V c 0 t) (grid0.coords t)) (rsCol (blk V c 1 t) (grid0.coords t)) k0_pay3 8 := by
  obtain ⟨n, hn⟩ := t
  obtain rfl : n = 0 := h
  rfl

/-- The activations' maxima after a later point. -/
theorem xAt_pos (c : Dev nD) (t : Fin cfg0.N) (h : ¬t.val = 0) :
    xAt V c t.val t.isLt = xAcc (blk V c 2 t) (blk V c 4 t) (xsCol (blk V c 0 t) (grid0.coords t)) (rsCol (blk V c 1 t) (grid0.coords t)) (xAt V c (t.val - 1) (Nat.lt_of_le_of_lt (Nat.sub_le _ _) t.isLt)) 8 := by
  obtain ⟨n, hn⟩ := t
  cases n with
  | zero => exact absurd rfl h
  | succ n => rfl

/-- The incoming gradient's largest magnitudes after point `n`. -/
def qAt (c : Dev nD) : (n : ℕ) → n < cfg0.N → Vec F S1x2048 .f32
  | 0, h => qAcc (blk V c 6 ⟨0, h⟩) k0_pay4 8
  | n + 1, h => qAcc (blk V c 6 ⟨n + 1, h⟩) (qAt c n (Nat.lt_of_succ_lt h)) 8

/-- The gradient's maxima after the first point. -/
theorem qAt_zero (c : Dev nD) (t : Fin cfg0.N) (h : t.val = 0) : qAt V c t.val t.isLt = qAcc (blk V c 6 t) k0_pay4 8 := by
  obtain ⟨n, hn⟩ := t
  obtain rfl : n = 0 := h
  rfl

/-- The gradient's maxima after a later point. -/
theorem qAt_pos (c : Dev nD) (t : Fin cfg0.N) (h : ¬t.val = 0) :
    qAt V c t.val t.isLt = qAcc (blk V c 6 t) (qAt V c (t.val - 1) (Nat.lt_of_le_of_lt (Nat.sub_le _ _) t.isLt)) 8 := by
  obtain ⟨n, hn⟩ := t
  cases n with
  | zero => exact absurd rfl h
  | succ n => rfl

/-! ## The pipeline's proof data -/

/-- What is held between points besides the windows: after the first point the carried buffer has the unscaled weights. -/
def Phi (c : Dev nD) : (n : ℕ) → n ≤ cfg0.N → sProp 𝕄
  | 0, _ => Pipeline.ΦA spec0 c
  | n + 1, hn => iprop(iprop(owns (c : Thread nD τ) sc0 fullShare (wAt V c) ∗ (∃ d, owns (c : Thread nD τ) sc1 fullShare d) ∗ (∃ d, owns (c : Thread nD τ) sc2 fullShare d) ∗ (∃ d, owns (c : Thread nD τ) sc3 fullShare d)) ∗ more c)

/-- What holds before the first point. -/
theorem Phi_zero (c : Dev nD) (n : ℕ) (h : n ≤ cfg0.N) (hz : n = 0) : Phi V c n h = Pipeline.ΦA spec0 c := by
  subst hz; rfl

/-- What holds after a point. -/
theorem Phi_succ (c : Dev nD) (n : ℕ) (hn : n < cfg0.N) :
    Phi V c (n + 1) hn = iprop(iprop(owns (c : Thread nD τ) sc0 fullShare (wAt V c) ∗ (∃ d, owns (c : Thread nD τ) sc1 fullShare d) ∗ (∃ d, owns (c : Thread nD τ) sc2 fullShare d) ∗ (∃ d, owns (c : Thread nD τ) sc3 fullShare d)) ∗ more c) := rfl

/-- What holds before a later point. -/
theorem Phi_pos (c : Dev nD) (n : ℕ) (h : n ≤ cfg0.N) (hz : ¬n = 0) :
    Phi V c n h = iprop(iprop(owns (c : Thread nD τ) sc0 fullShare (wAt V c) ∗ (∃ d, owns (c : Thread nD τ) sc1 fullShare d) ∗ (∃ d, owns (c : Thread nD τ) sc2 fullShare d) ∗ (∃ d, owns (c : Thread nD τ) sc3 fullShare d)) ∗ more c) := by
  cases n with
  | zero => exact absurd rfl hz
  | succ n => rfl

/-- The proof data: the arrays at the region's entry, each input's block left in place, each output at what the point computes. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => dxAt V c t
    | ⟨8, _⟩ => gamAt V c t.val t.isLt
    | ⟨9, _⟩ => xAt V c t.val t.isLt
    | ⟨10, _⟩ => qAt V c t.val t.isLt
  Φ t := Phi V c t.val (Nat.le_of_lt_succ t.isLt)
  q _ := fullShare
  owed _ := 0

/-- A window starts from the array the region finds. -/
theorem A_eq0 (c : Dev nD) (w : Fin cfg0.W) : (dat0 V c).A w = V c (Pipeline.arrRef spec0 w) := by
  dsimp only [dat0]

/-- What holds before a point. -/
theorem Phi_castSucc (c : Dev nD) (t : Fin cfg0.N) : (dat0 V c).Φ t.castSucc = Phi V c t.val (Nat.le_of_lt t.isLt) := by
  dsimp only [dat0]; exact Pipeline.Dat.Φ_castSucc (Phi V c) t

/-- What a point leaves in window 0. -/
theorem after0_0 (c : Dev nD) (t : Fin cfg0.N) : (dat0 V c).after 0 t = blk V c 0 t := by dsimp only [dat0]
/-- What a point leaves in window 1. -/
theorem after0_1 (c : Dev nD) (t : Fin cfg0.N) : (dat0 V c).after 1 t = blk V c 1 t := by dsimp only [dat0]
/-- What a point leaves in window 2. -/
theorem after0_2 (c : Dev nD) (t : Fin cfg0.N) : (dat0 V c).after 2 t = blk V c 2 t := by dsimp only [dat0]
/-- What a point leaves in window 3. -/
theorem after0_3 (c : Dev nD) (t : Fin cfg0.N) : (dat0 V c).after 3 t = blk V c 3 t := by dsimp only [dat0]
/-- What a point leaves in window 4. -/
theorem after0_4 (c : Dev nD) (t : Fin cfg0.N) : (dat0 V c).after 4 t = blk V c 4 t := by dsimp only [dat0]
/-- What a point leaves in window 5. -/
theorem after0_5 (c : Dev nD) (t : Fin cfg0.N) : (dat0 V c).after 5 t = blk V c 5 t := by dsimp only [dat0]
/-- What a point leaves in window 6. -/
theorem after0_6 (c : Dev nD) (t : Fin cfg0.N) : (dat0 V c).after 6 t = blk V c 6 t := by dsimp only [dat0]
/-- What a point leaves in window 7. -/
theorem after0_7 (c : Dev nD) (t : Fin cfg0.N) : (dat0 V c).after 7 t = dxAt V c t := by dsimp only [dat0]
/-- What a point leaves in window 8. -/
theorem after0_8 (c : Dev nD) (t : Fin cfg0.N) : (dat0 V c).after 8 t = gamAt V c t.val t.isLt := by dsimp only [dat0]
/-- What a point leaves in window 9. -/
theorem after0_9 (c : Dev nD) (t : Fin cfg0.N) : (dat0 V c).after 9 t = xAt V c t.val t.isLt := by dsimp only [dat0]
/-- What a point leaves in window 10. -/
theorem after0_10 (c : Dev nD) (t : Fin cfg0.N) : (dat0 V c).after 10 t = qAt V c t.val t.isLt := by dsimp only [dat0]

/-! Each input's buffer holds its block at every point, fetched there or not. -/

/-- What a point finds in window 0. -/
theorem before0_0 (c : Dev nD) (t : Fin cfg0.N) (d) : (dat0 V c).before 0 t d = blk V c 0 t :=
  ((dat0 V c).before_in_eq_fetched 0 rfl (fun _ => rfl) (fun _ _ _ => rfl) (fun t => by rw [after0_0]; unfold Dat.blockOf blk; rw [A_eq0]; try rfl) t d).trans
    (by unfold Dat.fetched Dat.blockOf blk; rw [A_eq0]; try rfl)
/-- What a point finds in window 1. -/
theorem before0_1 (c : Dev nD) (t : Fin cfg0.N) (d) : (dat0 V c).before 1 t d = blk V c 1 t :=
  ((dat0 V c).before_in_eq_fetched 1 rfl (fun _ => rfl) (fun _ _ _ => rfl) (fun t => by rw [after0_1]; unfold Dat.blockOf blk; rw [A_eq0]; try rfl) t d).trans
    (by unfold Dat.fetched Dat.blockOf blk; rw [A_eq0]; try rfl)
/-- What a point finds in window 2. -/
theorem before0_2 (c : Dev nD) (t : Fin cfg0.N) (d) : (dat0 V c).before 2 t d = blk V c 2 t :=
  ((dat0 V c).before_in_eq_fetched 2 rfl (fun _ => rfl) (fun _ _ _ => rfl) (fun t => by rw [after0_2]; unfold Dat.blockOf blk; rw [A_eq0]; try rfl) t d).trans
    (by unfold Dat.fetched Dat.blockOf blk; rw [A_eq0]; try rfl)
/-- What a point finds in window 3. -/
theorem before0_3 (c : Dev nD) (t : Fin cfg0.N) (d) : (dat0 V c).before 3 t d = blk V c 3 t :=
  ((dat0 V c).before_in_eq_fetched 3 rfl (fun _ => rfl) (fun _ _ _ => rfl) (fun t => by rw [after0_3]; unfold Dat.blockOf blk; rw [A_eq0]; try rfl) t d).trans
    (by unfold Dat.fetched Dat.blockOf blk; rw [A_eq0]; try rfl)
/-- What a point finds in window 4. -/
theorem before0_4 (c : Dev nD) (t : Fin cfg0.N) (d) : (dat0 V c).before 4 t d = blk V c 4 t :=
  ((dat0 V c).before_in_eq_fetched 4 rfl (fun _ => rfl) (fun _ _ _ => rfl) (fun t => by rw [after0_4]; unfold Dat.blockOf blk; rw [A_eq0]; try rfl) t d).trans
    (by unfold Dat.fetched Dat.blockOf blk; rw [A_eq0]; try rfl)
/-- What a point finds in window 5. -/
theorem before0_5 (c : Dev nD) (t : Fin cfg0.N) (d) : (dat0 V c).before 5 t d = blk V c 5 t :=
  ((dat0 V c).before_in_eq_fetched 5 rfl (fun _ => rfl) (fun _ _ _ => rfl) (fun t => by rw [after0_5]; unfold Dat.blockOf blk; rw [A_eq0]; try rfl) t d).trans
    (by unfold Dat.fetched Dat.blockOf blk; rw [A_eq0]; try rfl)
/-- What a point finds in window 6. -/
theorem before0_6 (c : Dev nD) (t : Fin cfg0.N) (d) : (dat0 V c).before 6 t d = blk V c 6 t :=
  ((dat0 V c).before_in_eq_fetched 6 rfl (fun _ => rfl) (fun _ _ _ => rfl) (fun t => by rw [after0_6]; unfold Dat.blockOf blk; rw [A_eq0]; try rfl) t d).trans
    (by unfold Dat.fetched Dat.blockOf blk; rw [A_eq0]; try rfl)

/-! At a later point an accumulator's buffer holds what the point before left. -/

/-- What a point finds in window 8. -/
theorem before0_8 (c : Dev nD) (t : Fin cfg0.N) (h0 : ¬t.val = 0) (d) :
    (dat0 V c).before 8 t d = gamAt V c (t.val - 1) (Nat.lt_of_le_of_lt (Nat.sub_le _ _) t.isLt) := by
  have hN : t.val < 4 := lt_of_lt_of_eq t.isLt (show cfg0.N = 4 from N_0)
  rw [Dat.before_out_kept _ 8 rfl t (by omega) (Bool.eq_false_iff.mpr fun h => by have := (flush0_8 _).mp h; dsimp only at this; omega)
    (fun _ => rfl) (fun _ _ => rfl)]
  dsimp only [dat0]
/-- What a point finds in window 9. -/
theorem before0_9 (c : Dev nD) (t : Fin cfg0.N) (h0 : ¬t.val = 0) (d) :
    (dat0 V c).before 9 t d = xAt V c (t.val - 1) (Nat.lt_of_le_of_lt (Nat.sub_le _ _) t.isLt) := by
  have hN : t.val < 4 := lt_of_lt_of_eq t.isLt (show cfg0.N = 4 from N_0)
  rw [Dat.before_out_kept _ 9 rfl t (by omega) (Bool.eq_false_iff.mpr fun h => by have := (flush0_9 _).mp h; dsimp only at this; omega)
    (fun _ => rfl) (fun _ _ => rfl)]
  dsimp only [dat0]
/-- What a point finds in window 10. -/
theorem before0_10 (c : Dev nD) (t : Fin cfg0.N) (h0 : ¬t.val = 0) (d) :
    (dat0 V c).before 10 t d = qAt V c (t.val - 1) (Nat.lt_of_le_of_lt (Nat.sub_le _ _) t.isLt) := by
  have hN : t.val < 4 := lt_of_lt_of_eq t.isLt (show cfg0.N = 4 from N_0)
  rw [Dat.before_out_kept _ 10 rfl t (by omega) (Bool.eq_false_iff.mpr fun h => by have := (flush0_10 _).mp h; dsimp only at this; omega)
    (fun _ => rfl) (fun _ _ => rfl)]
  dsimp only [dat0]

/-! ## The body at a generic point -/

/-- What the body is called with, -/
def bodyPre (c : Dev nD) (t : Fin cfg0.N) : sProp 𝕄 :=
  iprop((dat0 V c).Φ t.castSucc ∗ (dat0 V c).owesAt () t.castSucc
    ∗ (∃ d, owns (c : Thread nD τ) (stg0 t) fullShare ((dat0 V c).before 0 t d))
    ∗ (∃ d, owns (c : Thread nD τ) (stg1 t) fullShare ((dat0 V c).before 1 t d))
    ∗ (∃ d, owns (c : Thread nD τ) (stg2 t) fullShare ((dat0 V c).before 2 t d))
    ∗ (∃ d, owns (c : Thread nD τ) (stg3 t) fullShare ((dat0 V c).before 3 t d))
    ∗ (∃ d, owns (c : Thread nD τ) (stg4 t) fullShare ((dat0 V c).before 4 t d))
    ∗ (∃ d, owns (c : Thread nD τ) (stg5 t) fullShare ((dat0 V c).before 5 t d))
    ∗ (∃ d, owns (c : Thread nD τ) (stg6 t) fullShare ((dat0 V c).before 6 t d))
    ∗ (∃ d, owns (c : Thread nD τ) (stg7 t) fullShare ((dat0 V c).before 7 t d))
    ∗ (∃ d, owns (c : Thread nD τ) (stg8 t) fullShare ((dat0 V c).before 8 t d))
    ∗ (∃ d, owns (c : Thread nD τ) (stg9 t) fullShare ((dat0 V c).before 9 t d))
    ∗ (∃ d, owns (c : Thread nD τ) (stg10 t) fullShare ((dat0 V c).before 10 t d)))

/-- and what it returns. -/
def bodyPost (c : Dev nD) (t : Fin cfg0.N) : sProp 𝕄 :=
  iprop((dat0 V c).Φ t.succ ∗ (dat0 V c).owesAt () t.succ
    ∗ owns (c : Thread nD τ) (stg0 t) fullShare ((dat0 V c).after 0 t)
    ∗ owns (c : Thread nD τ) (stg1 t) fullShare ((dat0 V c).after 1 t)
    ∗ owns (c : Thread nD τ) (stg2 t) fullShare ((dat0 V c).after 2 t)
    ∗ owns (c : Thread nD τ) (stg3 t) fullShare ((dat0 V c).after 3 t)
    ∗ owns (c : Thread nD τ) (stg4 t) fullShare ((dat0 V c).after 4 t)
    ∗ owns (c : Thread nD τ) (stg5 t) fullShare ((dat0 V c).after 5 t)
    ∗ owns (c : Thread nD τ) (stg6 t) fullShare ((dat0 V c).after 6 t)
    ∗ owns (c : Thread nD τ) (stg7 t) fullShare ((dat0 V c).after 7 t)
    ∗ owns (c : Thread nD τ) (stg8 t) fullShare ((dat0 V c).after 8 t)
    ∗ owns (c : Thread nD τ) (stg9 t) fullShare ((dat0 V c).after 9 t)
    ∗ owns (c : Thread nD τ) (stg10 t) fullShare ((dat0 V c).after 10 t))

set_option maxHeartbeats 4000000 in
/-- The body at any point: the first point's triple or a later point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7, after0_8, after0_9, after0_10]
  rw [show (dat0 V c).Φ t.succ = Phi V c (t.val + 1) t.isLt from rfl, Phi_succ, dxAt]
  by_cases h0 : t.val = 0
  · rw [Phi_castSucc V c t, Phi_zero V c _ _ h0, rest_eq]
    rw [gamAt_zero V c t h0, xAt_zero V c t h0, qAt_zero V c t h0, hAt, wAt_zero V c t h0]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (point_A c (grid0.coords t) _ _ _ _ _ _ _ _ _ _ _ _ _ _ _ _ _ _ _ _ _ _ _ _ _ _ _ _ _ _ ((atFirst_iff t).mpr h0) (blk V c 0 t) (blk V c 1 t) (blk V c 2 t) (blk V c 3 t) (blk V c 4 t) (blk V c 5 t) (blk V c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · simp only [before0_8 V c t h0, before0_9 V c t h0, before0_10 V c t h0]
    rw [Phi_castSucc V c t, Phi_pos V c _ _ h0]
    rw [gamAt_pos V c t h0, xAt_pos V c t h0, qAt_pos V c t h0, hAt]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (point_B c (grid0.coords t) _ _ _ _ _ _ _ _ _ _ _ _ _ _ _ _ _ _ _ _ _ _ _ _ _ _ _ _ _ _ (fun h => h0 ((atFirst_iff t).mp h)) (blk V c 0 t) (blk V c 1 t) (blk V c 2 t) (blk V c 3 t) (blk V c 4 t) (blk V c 5 t) (blk V c 6 t) _ _ _ (wAt V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The library's body obligation, at every point. -/
theorem body_obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound_body V c t) rfl .rfl fun _ => .rfl

/-- What the launch hands the region is what is held before the first point. -/
theorem hin0 (c : Dev nD) : Pipeline.ΦA spec0 c ⊢ (dat0 V c).Φ 0 := by
  rw [show (dat0 V c).Φ 0 = Phi V c 0 (Nat.zero_le _) from rfl, Phi_zero V c 0 _ rfl]
  try exact Idealize.SL.BI.Entails.refl _

/-- After the last point the carried buffer's contents are forgotten. -/
theorem hout0 (c : Dev nD) : (dat0 V c).Φ (Fin.last cfg0.N) ⊢ Pipeline.ΦA spec0 c := by
  have hN : cfg0.N = 4 := N_0
  rw [show (dat0 V c).Φ (Fin.last cfg0.N) = Phi V c cfg0.N le_rfl from rfl, Phi_pos V c _ _ (by omega), rest_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

end Cert.KernelIdeal.Rows

end
-- ==== Proof.Blocks.lean ====
module

public import Idealize.ShloMosaic.Lib.Pointwise

@[expose] public section

noncomputable section

namespace Cert.Blocks

open Idealize.ShloMosaic

/-- The magnitude of an extended real, as the larger of it and its negative. -/
def mag (x : EReal) : EReal := max x (-x)

/-- The word of minus infinity is the least extended real. -/
theorem negInf : Ideal.ofBits .f32 0xFF800000#32 = ⊥ := by
  simp [Ideal.ofBits, Ideal.ieee]

/-- A fold of `max` from minus infinity is a supremum. -/
theorem fold_max {n : ℕ} (f : Fin n → EReal) :
    Finset.fold max (Ideal.ofBits .f32 0xFF800000#32) f Finset.univ = Finset.univ.sup f := by
  rw [negInf]; rfl

/-- A sum over the first `a + b` rows is the sum over the first `a` and the sum over the next `b`. -/
theorem sum_append (f : ℕ → EReal) (a b : ℕ) :
    ∑ r ∈ Finset.range (a + b), f r = ∑ r ∈ Finset.range a, f r + ∑ j : Fin b, f (a + j.val) := by
  rw [Finset.sum_range_add, Finset.sum_range (fun x => f (a + x))]

/-- A supremum over the first `b` rows, as one over `Fin b`. -/
theorem sup_fin (f : ℕ → EReal) (b : ℕ) :
    (Finset.range b).sup f = Finset.univ.sup fun j : Fin b => f j.val := by
  apply le_antisymm
  · exact Finset.sup_le fun r hr => Finset.le_sup (f := fun j : Fin b => f j.val) (Finset.mem_univ ⟨r, Finset.mem_range.mp hr⟩)
  · exact Finset.sup_le fun j _ => Finset.le_sup (f := f) (Finset.mem_range.mpr j.isLt)

/-- A supremum over the first `a + b` rows is the larger of the one over the first `a` and the one over the next `b`. -/
theorem sup_append (f : ℕ → EReal) (a b : ℕ) :
    (Finset.range (a + b)).sup f = max ((Finset.range a).sup f) (Finset.univ.sup fun j : Fin b => f (a + j.val)) := by
  rw [← sup_fin (fun x => f (a + x))]
  apply le_antisymm
  · refine Finset.sup_le fun r hr => ?_
    have hr' := Finset.mem_range.mp hr
    by_cases h : r < a
    · exact le_max_of_le_left (Finset.le_sup (Finset.mem_range.mpr h))
    · obtain ⟨s, rfl⟩ := Nat.exists_eq_add_of_le (Nat.le_of_not_lt h)
      exact le_max_of_le_right (Finset.le_sup (f := fun x => f (a + x)) (Finset.mem_range.mpr (by omega)))
  · refine max_le ?_ ?_
    · exact Finset.sup_le fun r hr => Finset.le_sup (Finset.mem_range.mpr (by have := Finset.mem_range.mp hr; omega))
    · exact Finset.sup_le fun r hr => Finset.le_sup (f := f) (Finset.mem_range.mpr (by have := Finset.mem_range.mp hr; omega))

/-- A magnitude is never negative. -/
theorem mag_nonneg (x : EReal) : 0 ≤ mag x := by
  unfold mag
  rcases le_total 0 x with h | h
  · exact le_max_of_le_left h
  · exact le_max_of_le_right (EReal.neg_nonneg.mpr h)

/-- Row `r` of an array of `n` rows (rows past the last wrap round, and are never read). -/
abbrev row (n : ℕ) [NeZero n] (r : ℕ) : Fin n := Fin.ofNat n r

/-- A row number that is in range is itself. -/
theorem row_of_lt {n : ℕ} [NeZero n] {r : ℕ} (h : r < n) : row n r = ⟨r, h⟩ :=
  Fin.ext (Nat.mod_eq_of_lt h)

/-- The row of an index is the index. -/
theorem row_val {n : ℕ} [NeZero n] (r : Fin n) : row n r.val = r := row_of_lt r.isLt

/-! ## Positions under a reshape -/

open Idealize.ShloMosaic

/-- Row `r` of the flattened array is position `r % 512` of sequence `r / 512`. -/
theorem flat3 {n : ℕ} (r : Fin 2048) (d : Fin n) :
    ((⟨3, ![4, 512, n]⟩ : Shape).rowMajor (ix3 (row 4 (r.val / 512)) (row 512 (r.val % 512)) d)).val
      = ((⟨2, ![2048, n]⟩ : Shape).rowMajor (ix2 r d)).val := by
  rw [Shape.rowMajor_val_three, Shape.rowMajor_val_two]
  have h := r.isLt
  have e : (r.val / 512 % 4) * 512 + r.val % 512 % 512 = r.val := by omega
  show ((r.val / 512 % 4) * 512 + r.val % 512 % 512) * n + d.val = r.val * n + d.val
  rw [e]

/-- The same of a column of one value a row. -/
theorem flat2 (r : Fin 2048) :
    ((⟨2, ![4, 512]⟩ : Shape).rowMajor (ix2 (row 4 (r.val / 512)) (row 512 (r.val % 512)))).val
      = ((⟨2, ![2048, 1]⟩ : Shape).rowMajor (ix2 r 0)).val := by
  rw [Shape.rowMajor_val_two, Shape.rowMajor_val_two]
  have h := r.isLt
  show (r.val / 512 % 4) * 512 + r.val % 512 % 512 = r.val * 1 + 0
  omega

/-- A vector as one row. -/
theorem flat1 {n : ℕ} (d : Fin n) :
    ((⟨1, ![n]⟩ : Shape).rowMajor (ix1 d)).val = ((⟨2, ![1, n]⟩ : Shape).rowMajor (ix2 0 d)).val := by
  rw [Shape.rowMajor_val_one, Shape.rowMajor_val_two]
  show d.val = 0 * n + d.val
  omega

end Cert.Blocks

end
-- ==== Proof.Pay.lean ====
module

public import proofs.«01_k».proof.Proof.Gen.KernelIdeal.Skeleton
public import proofs.«01_k».proof.Proof.Blocks

@[expose] public section

noncomputable section

namespace Cert.KernelIdeal.Pay

open Idealize.ShloMosaic Cert.KernelIdeal Cert.KernelIdeal.Gen Cert.Blocks

/-- The weights, scaled by column. -/
theorem pay1_at (w : Vec Ideal S1536x2048 .fp8e4m3) (ws : Vec Ideal S1x2048 .f32) (a : Fin 1536) (b : Fin 2048) :
    k0_pay1 w ws (ix2 a b) = w (ix2 a b) * ws (ix2 0 b) := by
  pointwise [k0_pay1]

/-- An accumulator starts at zero. -/
theorem pay2_at (b : Fin 1536) : (k0_pay2 (F := Ideal)) (ix2 0 b) = 0 := by
  pointwise [k0_pay2]

/-- An accumulator starts at zero. -/
theorem pay3_at (b : Fin 1536) : (k0_pay3 (F := Ideal)) (ix2 0 b) = 0 := by
  pointwise [k0_pay3]

/-- An accumulator starts at zero. -/
theorem pay4_at (b : Fin 2048) : (k0_pay4 (F := Ideal)) (ix2 0 b) = 0 := by
  pointwise [k0_pay4]

/-- A line turned into a column, repeated over the lanes. -/
theorem pay5_at (v : Vec Ideal S1x512 .f32) (r : Fin 512) (l : Fin 128) : k0_pay5 v (ix2 r l) = v (ix2 0 r) := by
  pointwise [k0_pay5]

/-- A line turned into a column, repeated over the lanes. -/
theorem pay6_at (v : Vec Ideal S1x512 .f32) (r : Fin 512) (l : Fin 128) : k0_pay6 v (ix2 r l) = v (ix2 0 r) := by
  pointwise [k0_pay6]

/-- The product of the gradient with the weights. -/
theorem pay7_at (dq : Vec Ideal S512x2048 .bf16) (w : Vec Ideal S1536x2048 .bf16) (r : Fin 512) (d : Fin 1536) :
    k0_pay7 dq w (ix2 r d) = ∑ k : Fin 2048, dq (ix2 r k) * w (ix2 d k) := by
  pointwise [k0_pay7]

/-- The normalised activation. -/
theorem pay11_at (a b : Vec Ideal S64x1 .f32) (x : Vec Ideal S64x1536 .fp8e4m3) (r : Fin 64) (d : Fin 1536) :
    k0_pay11 a b x (ix2 r d) = x (ix2 r d) * a (ix2 r 0) * b (ix2 r 0) := by
  pointwise [k0_pay11]

/-- A chunk's column sums added to an accumulator. -/
theorem pay9_at (v : Vec Ideal S1x1536 .f32) (w : Vec Ideal S64x1536 .f32) (d : Fin 1536) :
    k0_pay9 (F := Ideal) v w (ix2 0 d) = v (ix2 0 d) + ∑ r : Fin 64, w (ix2 r d) := by
  pointwise [k0_pay9]

/-- A row as read. -/
theorem pay14_eq (v : Vec Ideal S1x1536 .f32) (d : Fin 1536) : k0_pay14 v (ix2 0 d) = v (ix2 0 d) := by
  pointwise [k0_pay14]

/-- A chunk's share of the gain's gradient. -/
theorem pay15_at (a b : Vec Ideal S64x1 .f32) (h : Vec Ideal S64x1536 .f32) (x : Vec Ideal S64x1536 .fp8e4m3) (r : Fin 64) (d : Fin 1536) :
    k0_pay15 a b h x (ix2 r d) = h (ix2 r d) * (x (ix2 r d) * a (ix2 r 0) * b (ix2 r 0)) := by
  pointwise [k0_pay15, k0_pay11]

/-- An accumulator raised to a chunk's largest activations. -/
theorem pay12_at (g : Vec Ideal S1x1536 .f32) (a b : Vec Ideal S64x1 .f32) (x : Vec Ideal S64x1536 .fp8e4m3) (v : Vec Ideal S1x1536 .f32) (d : Fin 1536) :
    k0_pay12 (k0_pay8 g) a b x v (ix2 0 d) = max (v (ix2 0 d)) (Finset.univ.sup fun r : Fin 64 =>
      mag (x (ix2 r d) * a (ix2 r 0) * b (ix2 r 0) * g (ix2 0 d))) := by
  pointwise [k0_pay12, k0_pay8, k0_pay11]
  rw [fold_max]; rfl

/-- An accumulator raised to a chunk's largest gradients. -/
theorem pay13_at (v : Vec Ideal S1x2048 .f32) (dq : Vec Ideal S64x2048 .bf16) (d : Fin 2048) :
    k0_pay13 v dq (ix2 0 d) = max (v (ix2 0 d)) (Finset.univ.sup fun r : Fin 64 =>
      mag (dq (ix2 r d))) := by
  pointwise [k0_pay13]
  rw [fold_max]; rfl

/-- A chunk's rows of the activations' gradient. -/
theorem pay10_at (g : Vec Ideal S1x1536 .f32) (b : Vec Ideal S64x1 .f32) (h n : Vec Ideal S64x1536 .f32) (r : Fin 64) (d : Fin 1536) :
    k0_pay10 g b h n (ix2 r d) = b (ix2 r 0) * (h (ix2 r d) * g (ix2 0 d) -
      n (ix2 r d) * ((∑ l : Fin 1536, h (ix2 r l) * g (ix2 0 l) * n (ix2 r l)) * ((1 / 1536 : ℝ) : EReal))) := by
  pointwise [k0_pay10, k0_pay8]
  rw [show Named.named (F := Ideal) κ "inv_d" (φ := .f32) 0x3A2AAAAB#32 = ((1 / 1536 : ℝ) : EReal) from
    IdealRules.named_const.ideal_named_scalar _ _ _ _ rfl]

end Cert.KernelIdeal.Pay

end
-- ==== Proof.RowsVal.lean ====
module

public import proofs.«01_k».proof.Proof.Rows
public import proofs.«01_k».proof.Proof.Pay

@[expose] public section

noncomputable section

namespace Cert.KernelIdeal.Rows

open Idealize.ShloMosaic Idealize.ShloMosaic.TcCoe Idealize.SL.Sem
open Cert.KernelIdeal Cert.KernelIdeal.Gen Cert.KernelIdeal.Pay Cert.Blocks

/-- Row `j` of chunk `k` of a block of 512 rows is row `64 k + j`. -/
theorem ld_chunk {e : EltTy} {W w k : ℕ} (X : (⟨2, ![512, W]⟩ : Shape).Idx → Elt Ideal e) (off : Fin 2 → ℕ)
    (hoff : off = ![64 * k, 0]) (hk : k < 8) (hw : w ≤ W)
    (inb : ∀ a, off a + (![64, w] : Fin 2 → ℕ) a ≤ (⟨2, ![512, W]⟩ : Shape).size a) (j : Fin 64) (d : Fin w) :
    View.ld X (Rect.unit (s := ⟨2, ![512, W]⟩) off ![64, w] inb) (ix2 j d)
      = X (ix2 (row 512 (64 * k + j.val)) (⟨d.val, Nat.lt_of_lt_of_le d.isLt hw⟩ : Fin W)) := by
  subst hoff
  refine View.ld_unit_apply_of X _ _ inb (ix2 j d) _ (Fin.forall_fin_two.mpr ⟨?_, ?_⟩)
  · show (64 * k + j.val) % 512 = 64 * k + j.val
    have := j.isLt; omega
  · exact (Nat.zero_add _).symm

/-- A pass reads its 64 lines of a column. -/
theorem colAt_at (v : Vec Ideal S512x128 .f32) (k : Fin k0_t1_loop.trips) (j : Fin 64) :
    colAt v k (ix2 j 0) = v (ix2 (row 512 (64 * k.val + j.val)) 0) :=
  ld_chunk (k := k.val) v _ (k0_off2_eq k) (Nat.lt_of_lt_of_eq k.isLt trips_eq) (by decide) _ j 0

/-- A pass reads its 64 rows. -/
theorem rowsAt_at {e : EltTy} (v : Vec Ideal S512x1536 e) (k : Fin k0_t1_loop.trips) (j : Fin 64) (d : Fin 1536) :
    rowsAt v k (ix2 j d) = v (ix2 (row 512 (64 * k.val + j.val)) d) :=
  ld_chunk (k := k.val) v _ (k0_off3_eq k) (Nat.lt_of_lt_of_eq k.isLt trips_eq) le_rfl _ j d

/-- A pass reads its 64 rows of the incoming gradient. -/
theorem gradAt_at (v : Vec Ideal S512x2048 .bf16) (k : Fin k0_t1_loop.trips) (j : Fin 64) (d : Fin 2048) :
    gradAt v k (ix2 j d) = v (ix2 (row 512 (64 * k.val + j.val)) d) :=
  ld_chunk (k := k.val) v _ (k0_off4_eq k) (Nat.lt_of_lt_of_eq k.isLt trips_eq) le_rfl _ j d

/-- The normalised activation at row `r`, column `d` of a block: code times scale times reciprocal deviation. -/
def nloc (x : Vec Ideal S512x1536 .fp8e4m3) (xs rs : Vec Ideal S512x128 .f32) (r : Fin 512) (d : Fin 1536) : EReal :=
  x (ix2 r d) * xs (ix2 r 0) * rs (ix2 r 0)

variable (g : Vec Ideal S1x1536 .f32) (x : Vec Ideal S512x1536 .fp8e4m3) (xs rs : Vec Ideal S512x128 .f32)
  (h : Vec Ideal S512x1536 .f32) (q : Vec Ideal S512x2048 .bf16)

/-- The scale's gradient takes in the rows of the chunks done. -/
theorem gamAcc_at (a : Vec Ideal S1x1536 .f32) (d : Fin 1536) (k : ℕ) (hk : k ≤ 8) :
    gamAcc x xs rs h a k (ix2 0 d)
      = a (ix2 0 d) + ∑ r ∈ Finset.range (64 * k), h (ix2 (row 512 r) d) * nloc x xs rs (row 512 r) d := by
  induction k with
  | zero => simp [gamAcc]
  | succ k ih =>
    have hk' : k < k0_t1_loop.trips := by rw [trips_eq]; omega
    rw [gamAcc, dif_pos hk', pay9_at, pay14_eq, ih (by omega), Nat.mul_succ, sum_append, ← add_assoc]
    refine congrArg _ (Finset.sum_congr rfl fun j _ => ?_)
    rw [pay15_at, rowsAt_at, rowsAt_at, colAt_at, colAt_at]
    rfl

/-- The activations' largest magnitude takes in the rows of the chunks done. -/
theorem xAcc_at (a : Vec Ideal S1x1536 .f32) (d : Fin 1536) (k : ℕ) (hk : k ≤ 8) :
    xAcc g x xs rs a k (ix2 0 d)
      = max (a (ix2 0 d)) ((Finset.range (64 * k)).sup fun r => mag (nloc x xs rs (row 512 r) d * g (ix2 0 d))) := by
  induction k with
  | zero => simp [xAcc]
  | succ k ih =>
    have hk' : k < k0_t1_loop.trips := by rw [trips_eq]; omega
    rw [xAcc, dif_pos hk', pay12_at, ih (by omega), Nat.mul_succ, sup_append, ← max_assoc]
    refine congrArg _ (Finset.sup_congr rfl fun j _ => ?_)
    rw [rowsAt_at, colAt_at, colAt_at]
    rfl

/-- The incoming gradient's largest magnitude takes in the rows of the chunks done. -/
theorem qAcc_at (a : Vec Ideal S1x2048 .f32) (d : Fin 2048) (k : ℕ) (hk : k ≤ 8) :
    qAcc q a k (ix2 0 d) = max (a (ix2 0 d)) ((Finset.range (64 * k)).sup fun r => mag (q (ix2 (row 512 r) d))) := by
  induction k with
  | zero => simp [qAcc]
  | succ k ih =>
    have hk' : k < k0_t1_loop.trips := by rw [trips_eq]; omega
    rw [qAcc, dif_pos hk', pay13_at, ih (by omega), Nat.mul_succ, sup_append, ← max_assoc]
    refine congrArg _ (Finset.sup_congr rfl fun j _ => ?_)
    rw [gradAt_at]

/-- The activations' gradient of a block, row by row. -/
theorem dxRows_at (r : Fin 512) (d : Fin 1536) :
    dxRows g x xs rs h (ix2 r d) = rs (ix2 r 0) * (h (ix2 r d) * g (ix2 0 d) - nloc x xs rs r d *
      ((∑ l : Fin 1536, h (ix2 r l) * g (ix2 0 l) * nloc x xs rs r l) * ((1 / 1536 : ℝ) : EReal))) := by
  have e : row 512 (64 * (chunkOf (ix2 r d)).val + r.val % 64) = r := by
    have hr := r.isLt
    have hv : 64 * (r.val / 64) + r.val % 64 = r.val := by omega
    refine Fin.ext ?_
    show (64 * (r.val / 64) + r.val % 64) % 512 = r.val
    omega
  unfold dxRows
  rw [show inChunk (ix2 r d) = ix2 ⟨r.val % 64, Nat.mod_lt _ (by decide)⟩ d from rfl, pay10_at]
  simp only [colAt_at, rowsAt_at, pay11_at, e]
  rfl

/-- A sum over the 512 rows of a block. -/
theorem sum_rows (f : Fin 512 → EReal) : ∑ r ∈ Finset.range (64 * 8), f (row 512 r) = ∑ r : Fin 512, f r := by
  rw [show 64 * 8 = 512 from rfl, Finset.sum_range]
  exact Finset.sum_congr rfl fun j _ => by rw [row_val]

/-- A supremum over the 512 rows of a block. -/
theorem sup_rows (f : Fin 512 → EReal) : (Finset.range (64 * 8)).sup (fun r => f (row 512 r)) = Finset.univ.sup f := by
  rw [show 64 * 8 = 512 from rfl, sup_fin]
  exact Finset.sup_congr rfl fun j _ => by rw [row_val]

end Cert.KernelIdeal.Rows

end
-- ==== Proof.Quant.lean ====
module

public import proofs.«01_k».proof.Proof.Blocks
public import Idealize.ShloMosaic.Lib.Pointwise

@[expose] public section

noncomputable section

namespace Cert.Quant

open Idealize.ShloMosaic

/-! ## The exponent of a scale, and the two ways it is found -/

/-- The exponent as the reference writes it: one more than the whole part of the binary logarithm, at most 126, and zero below the smallest normal number. -/
def expo (q : EReal) : EReal :=
  Scalar.select (BitVec.ofBool (decide (q < Ideal.ofBits .f32 0x00800000#32))) (Ideal.ofBits .f32 0x00000000#32)
    (min (Ideal.liftRound Int.floor (Ideal.log q * (((Real.log 2)⁻¹ : ℝ) : EReal)) + Ideal.ofBits .f32 0x3F800000#32) (Ideal.ofBits .f32 0x42FC0000#32))

/-- The exponent field as the kernel finds it: how many of the powers of two with fields 0 to 252 do not exceed `q`, less one. -/
def field (q : EReal) : BitVec 32 :=
  IntOp.subi (Finset.fold IntOp.addi (0#32)
    (fun k : Fin 253 => BitVec.setWidth 32 (BitVec.ofBool (decide (Ideal.ofBits .f32 (IntOp.shli ArithUnit.vector (BitVec.ofNat 32 k.val) 23#32) ≤ q)))) Finset.univ) 1#32

/-- The scale made of that field, -/
def scaleOf (q : EReal) : EReal :=
  Ideal.ofBits .f32 (IntOp.shli ArithUnit.vector (Scalar.select (IntOp.cmpi CmpIPredicate.eq (field q) 0#32) (127#32) (IntOp.addi (field q) 1#32)) 23#32)

/-- and its inverse. -/
def invOf (q : EReal) : EReal :=
  Ideal.ofBits .f32 (IntOp.shli ArithUnit.vector (Scalar.select (IntOp.cmpi CmpIPredicate.eq (field q) 0#32) (127#32) (IntOp.subi (253#32) (field q))) 23#32)

/-- The number whose exponent field is `n` and whose fraction is zero. -/
theorem word {n : ℕ} (h : n < 255) :
    Ideal.ofBits .f32 (IntOp.shli ArithUnit.vector (BitVec.ofNat 32 n) 23#32) = if n = 0 then 0 else (((2 : ℝ) ^ ((n : ℤ) - 127) : ℝ) : EReal) := by
  have hl : (BitVec.ofNat 32 n).toNat = n := by rw [BitVec.toNat_ofNat]; omega
  have hs : IntOp.shli ArithUnit.vector (BitVec.ofNat 32 n) 23#32 = BitVec.ofNat 32 n <<< 23 := by
    unfold IntOp.shli
    rw [if_pos (by decide)]
    rfl
  rw [hs]
  generalize hw : BitVec.ofNat 32 n <<< 23 = w
  have ht : w.toNat = n * 8388608 := by
    rw [← hw, BitVec.toNat_shiftLeft, hl, Nat.shiftLeft_eq]
    norm_num
    omega
  have e1 : (w.extractLsb' (8 + 23) 1 == 1#1) = false := by
    have : w.extractLsb' (8 + 23) 1 = 0#1 := by
      apply BitVec.eq_of_toNat_eq
      rw [BitVec.extractLsb'_toNat, ht, Nat.shiftRight_eq_div_pow]
      norm_num
      omega
    rw [this]; rfl
  have e2 : (w.extractLsb' 23 8).toNat = n := by
    rw [BitVec.extractLsb'_toNat, ht, Nat.shiftRight_eq_div_pow]
    norm_num
    omega
  have e3 : (w.extractLsb' 0 23).toNat = 0 := by
    rw [BitVec.extractLsb'_toNat, ht, Nat.shiftRight_eq_div_pow]
    norm_num
  clear hs hl ht hw
  show Ideal.ieee 8 23 w = _
  unfold Ideal.ieee
  simp only [e1, e2, e3]
  rw [if_neg (by omega)]
  by_cases hn : n = 0
  · simp [hn]
  · rw [if_neg hn, if_neg hn]
    congr 1
    have : ((n : ℤ) - (2 ^ (8 - 1) - 1) - (23 : ℕ)) = ((n : ℤ) - 127) - 23 := by push_cast; ring
    rw [this, zpow_sub₀ (by norm_num : (2 : ℝ) ≠ 0) ((n : ℤ) - 127) 23]
    norm_num
    ring

/-- Counting with words is counting. -/
theorem count_eq {ι : Type} [DecidableEq ι] (P : ι → Prop) [DecidablePred P] (s : Finset ι) :
    Finset.fold IntOp.addi (0#32) (fun k => BitVec.setWidth 32 (BitVec.ofBool (decide (P k)))) s = BitVec.ofNat 32 (s.filter P).card := by
  induction s using Finset.induction_on with
  | empty => rfl
  | insert a s ha ih =>
    rw [Finset.fold_insert ha, ih, Finset.filter_insert]
    by_cases h : P a
    · rw [if_pos h, Finset.card_insert_of_notMem (fun hm => ha (Finset.mem_of_mem_filter _ hm))]
      apply BitVec.eq_of_toNat_eq
      simp [IntOp.addi, h, Nat.add_comm]
    · rw [if_neg h]
      simp [IntOp.addi, h]

/-- The numbers from zero to `n` among the first 253. -/
theorem card_le {n : ℕ} (hn : n ≤ 252) (P : Fin 253 → Prop) [DecidablePred P] (h : ∀ k, P k ↔ k.val ≤ n) :
    (Finset.univ.filter P).card = n + 1 := by
  have : Finset.univ.filter P = Finset.Iic (⟨n, by omega⟩ : Fin 253) := by
    ext k; simp [h k, Fin.le_def]
  rw [this, Fin.card_Iic]

/-- The field, when the powers up to the `n`-th and no others are below `q`. -/
theorem field_eq {q : EReal} {n : ℕ} (hn : n ≤ 252)
    (h : ∀ k : Fin 253, Ideal.ofBits .f32 (IntOp.shli ArithUnit.vector (BitVec.ofNat 32 k.val) 23#32) ≤ q ↔ k.val ≤ n) : field q = BitVec.ofNat 32 n := by
  unfold field
  rw [count_eq, card_le hn _ h]
  apply BitVec.eq_of_toNat_eq
  simp [IntOp.subi]
  omega

/-- The scale and its inverse then. -/
theorem scale_field {q : EReal} {n : ℕ} (hn : n ≤ 252) (h : field q = BitVec.ofNat 32 n) :
    scaleOf q = (((2 : ℝ) ^ (if n = 0 then 0 else (n : ℤ) - 126) : ℝ) : EReal) ∧ invOf q = (((2 : ℝ) ^ (-(if n = 0 then 0 else (n : ℤ) - 126)) : ℝ) : EReal) := by
  unfold scaleOf invOf
  rw [h]
  by_cases h0 : n = 0
  · subst h0
    have hc : IntOp.cmpi CmpIPredicate.eq (BitVec.ofNat 32 0) 0#32 = 1#1 := by decide
    rw [hc]
    have := word (n := 127) (by norm_num)
    constructor
    · refine this.trans ?_; norm_num
    · refine this.trans ?_; norm_num
  · have hc : IntOp.cmpi CmpIPredicate.eq (BitVec.ofNat 32 n) 0#32 = 0#1 := by
      have hne : BitVec.ofNat 32 n ≠ 0#32 := fun e => h0 (by
        have := congrArg BitVec.toNat e
        simp at this
        omega)
      simp only [IntOp.cmpi]
      rw [beq_eq_false_iff_ne.mpr hne]
      rfl
    have ha : IntOp.addi (BitVec.ofNat 32 n) 1#32 = BitVec.ofNat 32 (n + 1) := by
      apply BitVec.eq_of_toNat_eq; simp [IntOp.addi]
    have hb : IntOp.subi (253#32) (BitVec.ofNat 32 n) = BitVec.ofNat 32 (253 - n) := by
      apply BitVec.eq_of_toNat_eq; simp [IntOp.subi]; omega
    rw [hc, ha, hb, if_neg h0]
    constructor
    · refine (word (n := n + 1) (by omega)).trans ?_
      rw [if_neg (by omega)]
      congr 2; push_cast; ring
    · refine (word (n := 253 - n) (by omega)).trans ?_
      rw [if_neg (by omega)]
      congr 2; omega

/-- The smallest normal number. -/
theorem ofBits_least : Ideal.ofBits .f32 0x00800000#32 = (((2 : ℝ) ^ (-126 : ℤ) : ℝ) : EReal) := by
  have h := word (n := 1) (by norm_num)
  rw [show IntOp.shli ArithUnit.vector (BitVec.ofNat 32 1) 23#32 = 0x00800000#32 from by decide, if_neg (by norm_num)] at h
  rw [h]; norm_num

/-- The largest exponent. -/
theorem ofBits_126 : Ideal.ofBits .f32 0x42FC0000#32 = ((126 : ℝ) : EReal) := by
  simp [Ideal.ofBits, Ideal.ieee, -EReal.coe_mul]
  norm_num

/-- One, as a number. -/
theorem ofBits_one : Ideal.ofBits .f32 0x3F800000#32 = ((1 : ℝ) : EReal) := by
  simp [Ideal.ofBits, Ideal.ieee, -EReal.coe_mul]
  norm_num

/-- Which powers of two do not exceed a number, and the reference's exponent of it. -/
theorem expo_cases {q : EReal} (hq : 0 ≤ q) : ∃ n : ℕ, n ≤ 252 ∧
    (∀ k : Fin 253, Ideal.ofBits .f32 (IntOp.shli ArithUnit.vector (BitVec.ofNat 32 k.val) 23#32) ≤ q ↔ k.val ≤ n)
    ∧ expo q = (((if n = 0 then 0 else (n : ℤ) - 126 : ℤ) : ℝ) : EReal) := by
  unfold expo
  rw [ofBits_least, ofBits_126, ofBits_one, Ideal.ofBits_zero_f32]
  have hl2 : (0 : ℝ) < (Real.log 2)⁻¹ := inv_pos.mpr (Real.log_pos (by norm_num))
  induction q with
  | bot => exact absurd hq (by simp)
  | top =>
    refine ⟨252, le_rfl, fun k => ⟨fun _ => by have := k.isLt; omega, fun _ => le_top⟩, ?_⟩
    rw [decide_eq_false (not_lt.mpr le_top)]
    show min (Ideal.liftRound Int.floor (⊤ * _) + _) _ = _
    rw [EReal.top_mul_coe_of_pos hl2, Ideal.liftRound_top, EReal.top_add_coe, min_eq_right le_top]
    norm_num
  | coe r =>
    have hr : 0 ≤ r := by exact_mod_cast hq
    by_cases hs : r < (2 : ℝ) ^ (-126 : ℤ)
    · refine ⟨0, by norm_num, fun k => ?_, ?_⟩
      · rw [word (by have := k.isLt; omega)]
        by_cases hk : k.val = 0
        · simp [hk, hr]
        · rw [if_neg hk, EReal.coe_le_coe_iff]
          refine ⟨fun h => absurd (lt_of_le_of_lt h hs) (not_lt.mpr ?_), fun h => absurd (Nat.le_zero.mp h) hk⟩
          exact zpow_le_zpow_right₀ (by norm_num) (by omega)
      · rw [decide_eq_true (EReal.coe_lt_coe_iff.mpr hs)]
        simp [Scalar.select]
    · have hs' := not_lt.mp hs
      have h0 : 0 < r := lt_of_lt_of_le (by positivity) hs'
      have hL : ∀ x : ℤ, (2 : ℝ) ^ x ≤ r ↔ x ≤ ⌊Real.log r * (Real.log 2)⁻¹⌋ := fun x => by
        have hl : (0 : ℝ) < Real.log 2 := Real.log_pos (by norm_num)
        rw [Int.le_floor, ← div_eq_mul_inv, le_div_iff₀ hl, ← Real.log_zpow, Real.log_le_log_iff (by positivity) h0]
      have hL0 := (hL _).mp hs'
      generalize hf : ⌊Real.log r * (Real.log 2)⁻¹⌋ = L at hL hL0
      refine ⟨min 252 (L + 127).toNat, min_le_left _ _, fun k => ?_, ?_⟩
      · have := k.isLt
        rw [word (by omega)]
        by_cases hk : k.val = 0
        · simp [hk, hr]
        · rw [if_neg hk, EReal.coe_le_coe_iff, hL]
          omega
      · rw [decide_eq_false (not_lt.mpr (EReal.coe_le_coe_iff.mpr hs'))]
        show min (Ideal.liftRound Int.floor (Ideal.log r * _) + _) _ = _
        have hlog : Ideal.log (r : EReal) = ((Real.log r : ℝ) : EReal) := by
          show (if r ≤ 0 then ⊥ else (Real.log r : EReal)) = _
          rw [if_neg (not_le.mpr h0)]
        rw [hlog, ← EReal.coe_mul, Ideal.liftRound_coe, hf, ← EReal.coe_add, ← EReal.coe_strictMono.monotone.map_min, if_neg (by omega)]
        congr 1
        have e : (L : ℝ) + 1 = ((L + 1 : ℤ) : ℝ) := by push_cast; rfl
        have e' : (126 : ℝ) = ((126 : ℤ) : ℝ) := by norm_num
        rw [e, e', ← Int.cast_min]
        congr 1
        omega

/-- Two to a whole power. -/
theorem exp2_int (z : ℤ) : Ideal.exp2 (((z : ℤ) : ℝ) : EReal) = (((2 : ℝ) ^ z : ℝ) : EReal) := by
  show ((Real.rpow 2 (z : ℝ) : ℝ) : EReal) = _
  congr 1
  exact Real.rpow_intCast 2 z

/-- The kernel's scale is two to the reference's exponent. -/
theorem scaleOf_eq {q : EReal} (hq : 0 ≤ q) : scaleOf q = Ideal.exp2 (expo q) := by
  obtain ⟨n, hn, hk, he⟩ := expo_cases hq
  rw [(scale_field hn (field_eq hn hk)).1, he, exp2_int]

/-- The kernel's inverse is two to its negative. -/
theorem invOf_eq {q : EReal} (hq : 0 ≤ q) : invOf q = Ideal.exp2 (0 - expo q) := by
  obtain ⟨n, hn, hk, he⟩ := expo_cases hq
  have hneg : ∀ z : ℤ, (0 : EReal) - ((z : ℝ) : EReal) = (((-z : ℤ) : ℝ) : EReal) := fun z => by
    rw [zero_sub, ← EReal.coe_neg]; push_cast; rfl
  rw [(scale_field hn (field_eq hn hk)).2, he, hneg, exp2_int]

end Cert.Quant

end
-- ==== Proof.Spec.lean ====
module

public import proofs.«01_k».proof.Proof.Blocks
public import proofs.«01_k».proof.Proof.Quant

@[expose] public section

noncomputable section

namespace Cert.Spec

open Cert.Blocks Cert.Quant Idealize.ShloMosaic

/-- The layer's operands over the extended reals: 2048 token rows, 1536 model columns, 2048 projection columns. -/
structure Inp where
  /-- The activations' codes. -/
  x : Fin 2048 → Fin 1536 → EReal
  /-- The activations' scale of each row. -/
  xs : Fin 2048 → EReal
  /-- The reciprocal root mean square of each row. -/
  rs : Fin 2048 → EReal
  /-- The normalisation's gain. -/
  g : Fin 1536 → EReal
  /-- The weights' codes. -/
  w : Fin 1536 → Fin 2048 → EReal
  /-- The weights' scale of each column. -/
  ws : Fin 2048 → EReal
  /-- The incoming gradient. -/
  dq : Fin 2048 → Fin 2048 → EReal

variable (I : Inp)

/-- The normalised activation. -/
def nrm (r : Fin 2048) (d : Fin 1536) : EReal := I.x r d * I.xs r * I.rs r

/-- The gradient that reaches the scaled activation: the incoming gradient against the unscaled weights. -/
def dxhat (r : Fin 2048) (d : Fin 1536) : EReal := ∑ k : Fin 2048, I.dq r k * (I.w d k * I.ws k)

/-- The activations' gradient, through the root mean square. -/
def dx (r : Fin 2048) (d : Fin 1536) : EReal :=
  I.rs r * (dxhat I r d * I.g d - nrm I r d *
    ((∑ l : Fin 1536, dxhat I r l * I.g l * nrm I r l) * ((1 / 1536 : ℝ) : EReal)))

/-- The gain's gradient. -/
def dgamma (d : Fin 1536) : EReal := ∑ r : Fin 2048, dxhat I r d * nrm I r d

/-- The largest magnitude in a column of the scaled activations. -/
def xmax (d : Fin 1536) : EReal := Finset.univ.sup fun r : Fin 2048 => mag (nrm I r d * I.g d)

/-- The largest magnitude in a column of the incoming gradient. -/
def qmax (k : Fin 2048) : EReal := Finset.univ.sup fun r : Fin 2048 => mag (I.dq r k)

/-! ## The quantiser: each column by a power of two -/

/-- A column's largest magnitude `a` over 448, the largest code; the quotient is the product with the stored reciprocal. -/
def ratio (a : EReal) : EReal := a * Ideal.ofBits .f32 0x3B124925#32

/-- The column's scale. -/
def scale (a : EReal) : EReal := Ideal.exp2 (expo (ratio a))

/-- Its inverse. -/
def inv (a : EReal) : EReal := Ideal.exp2 (0 - expo (ratio a))

/-- A number held within the codes' range. -/
def clip (v : EReal) : EReal := min (Ideal.ofBits .f32 0x43E00000#32) (max (Ideal.ofBits .f32 0xC3E00000#32) v)

/-- The codes of the scaled activation. -/
def xcode (r : Fin 2048) (d : Fin 1536) : EReal := clip (nrm I r d * I.g d * inv (xmax I d))

/-- The codes of the incoming gradient. -/
def qcode (r : Fin 2048) (k : Fin 2048) : EReal := clip (I.dq r k * inv (qmax I k))

/-- The weight's gradient: the product of the codes, scaled back. -/
def dw (d : Fin 1536) (k : Fin 2048) : EReal :=
  (∑ r : Fin 2048, xcode I r d * qcode I r k) * (scale (xmax I d) * scale (qmax I k))

/-- The largest magnitude of a column is not negative. -/
theorem sup_nonneg (f : Fin 2048 → EReal) : 0 ≤ Finset.univ.sup fun r : Fin 2048 => mag (f r) :=
  (mag_nonneg (f 0)).trans (Finset.le_sup (f := fun r => mag (f r)) (Finset.mem_univ 0))

/-- The largest magnitude of an activation column is not negative. -/
theorem xmax_nonneg (d : Fin 1536) : 0 ≤ xmax I d := sup_nonneg fun r => nrm I r d * I.g d

/-- The largest magnitude of a gradient column is not negative. -/
theorem qmax_nonneg (k : Fin 2048) : 0 ≤ qmax I k := sup_nonneg fun r => I.dq r k

/-- Nor is its quotient. -/
theorem ratio_nonneg {a : EReal} (h : 0 ≤ a) : 0 ≤ ratio a := by
  refine mul_nonneg h ?_
  have : Ideal.ofBits .f32 0x3B124925#32 = ((9586981 * (2 : ℝ) ^ (-32 : ℤ) : ℝ) : EReal) := by
    simp [Ideal.ofBits, Ideal.ieee, -EReal.coe_mul]
  rw [this]
  exact EReal.coe_nonneg.mpr (by positivity)

end Cert.Spec

end
-- ==== Proof.RegionVal.lean ====
module

public import proofs.«01_k».proof.Proof.Region
public import proofs.«01_k».proof.Proof.RowsVal
public import proofs.«01_k».proof.Proof.Spec

@[expose] public section

noncomputable section

namespace Cert.KernelIdeal.Rows

open Idealize.ShloMosaic Idealize.ShloMosaic.TcCoe Idealize.SL.Sem
open Idealize.ShloMosaic.Pipeline (Dat Cfg Window)
open Cert.KernelIdeal Cert.KernelIdeal.Gen Cert.KernelIdeal.Pay Cert.Blocks Cert.Spec

variable (V : (c : Dev nD) → (b : Ref sig .tc) → Buf (Elt Ideal) ((c : Thread nD τ).loc b))

/-- Whole arrays as the layer's operands: row `r`'s scales lie at position `r % 512` of line `r / 512`. -/
def inpOf (x0 : Vec Ideal S2048x1536 .fp8e4m3) (x1 x2 : Vec Ideal S4x512 .f32) (x3 : Vec Ideal S1x1536 .f32)
    (x4 : Vec Ideal S1536x2048 .fp8e4m3) (x5 : Vec Ideal S1x2048 .f32) (x6 : Vec Ideal S2048x2048 .bf16) : Inp where
  x r d := x0 (ix2 r d)
  xs r := x1 (ix2 (row 4 (r.val / 512)) (row 512 (r.val % 512)))
  rs r := x2 (ix2 (row 4 (r.val / 512)) (row 512 (r.val % 512)))
  g d := x3 (ix2 0 d)
  w d k := x4 (ix2 d k)
  ws k := x5 (ix2 0 k)
  dq r k := x6 (ix2 r k)

/-- The arrays the first region finds, as the layer's operands. -/
def inp (c : Dev nD) : Inp :=
  inpOf (V c (Pipeline.arrRef spec0 4)) (V c (Pipeline.arrRef spec0 0)) (V c (Pipeline.arrRef spec0 1)) (V c (Pipeline.arrRef spec0 2))
    (V c (Pipeline.arrRef spec0 5)) (V c (Pipeline.arrRef spec0 3)) (V c (Pipeline.arrRef spec0 6))

/-! ## The blocks -/

/-- Which block each point takes: of the row windows its own, of the whole windows the only one. -/
theorem index_eq : ∀ t : Fin cfg0.N, win0_4.index t = ![t.val, 0] ∧ win0_6.index t = ![t.val, 0] ∧ win0_7.index t = ![t.val, 0]
    ∧ win0_0.index t = ![0, 0] ∧ win0_1.index t = ![0, 0] ∧ win0_2.index t = ![0, 0] ∧ win0_3.index t = ![0, 0] ∧ win0_5.index t = ![0, 0]
    ∧ win0_8.index t = ![0, 0] ∧ win0_9.index t = ![0, 0] ∧ win0_10.index t = ![0, 0] ∧ (grid0.coords t 0).val = t.val :=
  (by decide +kernel : ∀ t : Fin grid0.N, _)

variable (c : Dev nD) (t : Fin cfg0.N)

/-- Row `r` of point `t`'s block, among all the rows. -/
def grow (t : Fin cfg0.N) (r : Fin 512) : Fin 2048 :=
  ⟨512 * t.val + r.val, by have h : t.val < 4 := lt_of_lt_of_eq t.isLt N_0; have := r.isLt; omega⟩

/-- A point's rows of the activations. -/
theorem blk4_at (r : Fin 512) (d : Fin 1536) : blk V c 4 t (ix2 r d) = (inp V c).x (grow t r) d := by
  refine congrArg (V c (Pipeline.arrRef spec0 4)) (funext fun a => Fin.ext ?_)
  have e := (index_eq t).1
  match a with
  | ⟨0, _⟩ => show win0_4.index t 0 * 512 + 1 * r.val = 512 * t.val + r.val; rw [e]; show t.val * 512 + 1 * r.val = _; omega
  | ⟨1, _⟩ => show win0_4.index t 1 * 1536 + 1 * d.val = d.val; rw [e]; show 0 * 1536 + 1 * d.val = _; omega

/-- A point's rows of the incoming gradient. -/
theorem blk6_at (r : Fin 512) (k : Fin 2048) : blk V c 6 t (ix2 r k) = (inp V c).dq (grow t r) k := by
  refine congrArg (V c (Pipeline.arrRef spec0 6)) (funext fun a => Fin.ext ?_)
  have e := (index_eq t).2.1
  match a with
  | ⟨0, _⟩ => show win0_6.index t 0 * 512 + 1 * r.val = 512 * t.val + r.val; rw [e]; show t.val * 512 + 1 * r.val = _; omega
  | ⟨1, _⟩ => show win0_6.index t 1 * 2048 + 1 * k.val = k.val; rw [e]; show 0 * 2048 + 1 * k.val = _; omega

/-- Every point sees the whole of the row scales. -/
theorem blk0_eq : blk V c 0 t = (V c (Pipeline.arrRef spec0 0) : Vec Ideal S4x512 .f32) := by
  funext y
  refine congrArg (V c (Pipeline.arrRef spec0 0)) (funext fun a => Fin.ext ?_)
  have e := (index_eq t).2.2.2.1
  match a with
  | ⟨0, _⟩ => show win0_0.index t 0 * 4 + 1 * (y 0).val = (y 0).val; rw [e]; show 0 * 4 + 1 * (y 0).val = _; omega
  | ⟨1, _⟩ => show win0_0.index t 1 * 512 + 1 * (y 1).val = (y 1).val; rw [e]; show 0 * 512 + 1 * (y 1).val = _; omega

/-- Every point sees the whole of the norms. -/
theorem blk1_eq : blk V c 1 t = (V c (Pipeline.arrRef spec0 1) : Vec Ideal S4x512 .f32) := by
  funext y
  refine congrArg (V c (Pipeline.arrRef spec0 1)) (funext fun a => Fin.ext ?_)
  have e := (index_eq t).2.2.2.2.1
  match a with
  | ⟨0, _⟩ => show win0_1.index t 0 * 4 + 1 * (y 0).val = (y 0).val; rw [e]; show 0 * 4 + 1 * (y 0).val = _; omega
  | ⟨1, _⟩ => show win0_1.index t 1 * 512 + 1 * (y 1).val = (y 1).val; rw [e]; show 0 * 512 + 1 * (y 1).val = _; omega

/-- The gain, as a point sees it. -/
theorem blk2_at (d : Fin 1536) : blk V c 2 t (ix2 0 d) = (inp V c).g d := by
  refine congrArg (V c (Pipeline.arrRef spec0 2)) (funext fun a => Fin.ext ?_)
  have e := (index_eq t).2.2.2.2.2.1
  match a with
  | ⟨0, _⟩ => show win0_2.index t 0 * 1 + 1 * 0 = 0; rw [e]; rfl
  | ⟨1, _⟩ => show win0_2.index t 1 * 1536 + 1 * d.val = d.val; rw [e]; show 0 * 1536 + 1 * d.val = _; omega

/-- The weights' scales, as a point sees them. -/
theorem blk3_at (k : Fin 2048) : blk V c 3 t (ix2 0 k) = (inp V c).ws k := by
  refine congrArg (V c (Pipeline.arrRef spec0 3)) (funext fun a => Fin.ext ?_)
  have e := (index_eq t).2.2.2.2.2.2.1
  match a with
  | ⟨0, _⟩ => show win0_3.index t 0 * 1 + 1 * 0 = 0; rw [e]; rfl
  | ⟨1, _⟩ => show win0_3.index t 1 * 2048 + 1 * k.val = k.val; rw [e]; show 0 * 2048 + 1 * k.val = _; omega

/-- The weights, as a point sees them. -/
theorem blk5_at (d : Fin 1536) (k : Fin 2048) : blk V c 5 t (ix2 d k) = (inp V c).w d k := by
  refine congrArg (V c (Pipeline.arrRef spec0 5)) (funext fun a => Fin.ext ?_)
  have e := (index_eq t).2.2.2.2.2.2.2.1
  match a with
  | ⟨0, _⟩ => show win0_5.index t 0 * 1536 + 1 * d.val = d.val; rw [e]; show 0 * 1536 + 1 * d.val = _; omega
  | ⟨1, _⟩ => show win0_5.index t 1 * 2048 + 1 * k.val = k.val; rw [e]; show 0 * 2048 + 1 * k.val = _; omega

/-! ## What a point computes, in the layer's own terms -/

/-- A point's line of a per-row array. -/
theorem ld_line (v : Vec Ideal S4x512 .f32) (r : Fin 512) :
    View.ld v (Rect.unit (s := S4x512) (k0_off1 (grid0.coords t)) S1x512.size (k0_off1_inb (grid0.coords t))) (ix2 0 r)
      = v (ix2 (row 4 ((grow t r).val / 512)) (row 512 ((grow t r).val % 512))) := by
  have e := (index_eq t).2.2.2.2.2.2.2.2.2.2.2
  have ho : k0_off1 (grid0.coords t) = ![t.val, 0] := by rw [k0_off1_eq, e]
  have ht : t.val < 4 := lt_of_lt_of_eq t.isLt N_0
  have hr := r.isLt
  refine View.ld_unit_apply_of v _ _ _ (ix2 0 r) _ (Fin.forall_fin_two.mpr ⟨?_, ?_⟩)
  · have h0 : k0_off1 (grid0.coords t) 0 = t.val := congrFun ho 0
    show ((512 * t.val + r.val) / 512) % 4 = k0_off1 (grid0.coords t) 0 + 0
    omega
  · have h1 : k0_off1 (grid0.coords t) 1 = 0 := congrFun ho 1
    show ((512 * t.val + r.val) % 512) % 512 = k0_off1 (grid0.coords t) 1 + r.val
    omega

/-- The row scales of a point's rows. -/
theorem xsCol_at (r : Fin 512) : xsCol (blk V c 0 t) (grid0.coords t) (ix2 r 0) = (inp V c).xs (grow t r) := by
  rw [xsCol, pay5_at, ld_line, blk0_eq]; rfl

/-- The norms of a point's rows. -/
theorem rsCol_at (r : Fin 512) : rsCol (blk V c 1 t) (grid0.coords t) (ix2 r 0) = (inp V c).rs (grow t r) := by
  rw [rsCol, pay6_at, ld_line, blk1_eq]; rfl

/-- The gradient that reaches the scaled activation, on a point's rows. -/
theorem hAt_at (r : Fin 512) (d : Fin 1536) : hAt V c t (ix2 r d) = dxhat (inp V c) (grow t r) d := by
  rw [hAt, pay7_at]
  refine Finset.sum_congr rfl fun k _ => ?_
  rw [wAt, pay1_at, blk6_at, blk5_at, blk3_at]

/-- The normalised activations, on a point's rows. -/
theorem nloc_at (r : Fin 512) (d : Fin 1536) :
    nloc (blk V c 4 t) (xsCol (blk V c 0 t) (grid0.coords t)) (rsCol (blk V c 1 t) (grid0.coords t)) r d = nrm (inp V c) (grow t r) d := by
  rw [nloc, blk4_at, xsCol_at, rsCol_at]; rfl

/-- The activations' gradient, on a point's rows. -/
theorem dxAt_at (r : Fin 512) (d : Fin 1536) : dxAt V c t (ix2 r d) = dx (inp V c) (grow t r) d := by
  rw [dxAt, dxRows_at]
  simp only [nloc_at, hAt_at, rsCol_at, blk2_at]
  rfl

/-- The gain's gradient after a point: the rows so far. -/
theorem gamAt_at (d : Fin 1536) : ∀ (n : ℕ) (hn : n < cfg0.N), gamAt V c n hn (ix2 0 d)
    = ∑ r ∈ Finset.range (512 * (n + 1)), dxhat (inp V c) (row 2048 r) d * nrm (inp V c) (row 2048 r) d := by
  have key : ∀ (n : ℕ) (hn : n < cfg0.N) (a : Vec Ideal S1x1536 .f32),
      a (ix2 0 d) = ∑ r ∈ Finset.range (512 * n), dxhat (inp V c) (row 2048 r) d * nrm (inp V c) (row 2048 r) d →
      gamAcc (blk V c 4 ⟨n, hn⟩) (xsCol (blk V c 0 ⟨n, hn⟩) (grid0.coords ⟨n, hn⟩)) (rsCol (blk V c 1 ⟨n, hn⟩) (grid0.coords ⟨n, hn⟩)) (hAt V c ⟨n, hn⟩) a 8 (ix2 0 d)
        = ∑ r ∈ Finset.range (512 * (n + 1)), dxhat (inp V c) (row 2048 r) d * nrm (inp V c) (row 2048 r) d := by
    intro n hn a ha
    rw [gamAcc_at _ _ _ _ _ _ 8 le_rfl, sum_rows (fun r => hAt V c ⟨n, hn⟩ (ix2 r d) * nloc _ _ _ r d), ha, Nat.mul_succ, sum_append]
    refine congrArg _ (Finset.sum_congr rfl fun j _ => ?_)
    rw [hAt_at, nloc_at]
    have : grow ⟨n, hn⟩ j = row 2048 (512 * n + j.val) := (row_val (grow ⟨n, hn⟩ j)).symm
    rw [this]
  intro n
  induction n with
  | zero => exact fun hn => key 0 hn _ (by rw [pay2_at]; simp)
  | succ n ih => exact fun hn => key (n + 1) hn _ (ih (Nat.lt_of_succ_lt hn))

/-- The activations' largest magnitude after a point: over the rows so far. -/
theorem xAt_at (d : Fin 1536) : ∀ (n : ℕ) (hn : n < cfg0.N), xAt V c n hn (ix2 0 d)
    = max 0 ((Finset.range (512 * (n + 1))).sup fun r => mag (nrm (inp V c) (row 2048 r) d * (inp V c).g d)) := by
  have key : ∀ (n : ℕ) (hn : n < cfg0.N) (a : Vec Ideal S1x1536 .f32),
      a (ix2 0 d) = max 0 ((Finset.range (512 * n)).sup fun r => mag (nrm (inp V c) (row 2048 r) d * (inp V c).g d)) →
      xAcc (blk V c 2 ⟨n, hn⟩) (blk V c 4 ⟨n, hn⟩) (xsCol (blk V c 0 ⟨n, hn⟩) (grid0.coords ⟨n, hn⟩)) (rsCol (blk V c 1 ⟨n, hn⟩) (grid0.coords ⟨n, hn⟩)) a 8 (ix2 0 d)
        = max 0 ((Finset.range (512 * (n + 1))).sup fun r => mag (nrm (inp V c) (row 2048 r) d * (inp V c).g d)) := by
    intro n hn a ha
    rw [xAcc_at _ _ _ _ _ _ 8 le_rfl, sup_rows (fun r => mag (nloc _ _ _ r d * blk V c 2 ⟨n, hn⟩ (ix2 0 d))), ha, Nat.mul_succ, sup_append, max_assoc]
    refine congrArg _ (congrArg _ (Finset.sup_congr rfl fun j _ => ?_))
    rw [nloc_at, blk2_at]
    have : grow ⟨n, hn⟩ j = row 2048 (512 * n + j.val) := (row_val (grow ⟨n, hn⟩ j)).symm
    rw [this]
  intro n
  induction n with
  | zero => exact fun hn => key 0 hn _ (by rw [pay3_at]; simp)
  | succ n ih => exact fun hn => key (n + 1) hn _ (ih (Nat.lt_of_succ_lt hn))

/-- The incoming gradient's largest magnitude after a point: over the rows so far. -/
theorem qAt_at (k : Fin 2048) : ∀ (n : ℕ) (hn : n < cfg0.N), qAt V c n hn (ix2 0 k)
    = max 0 ((Finset.range (512 * (n + 1))).sup fun r => mag ((inp V c).dq (row 2048 r) k)) := by
  have key : ∀ (n : ℕ) (hn : n < cfg0.N) (a : Vec Ideal S1x2048 .f32),
      a (ix2 0 k) = max 0 ((Finset.range (512 * n)).sup fun r => mag ((inp V c).dq (row 2048 r) k)) →
      qAcc (blk V c 6 ⟨n, hn⟩) a 8 (ix2 0 k)
        = max 0 ((Finset.range (512 * (n + 1))).sup fun r => mag ((inp V c).dq (row 2048 r) k)) := by
    intro n hn a ha
    rw [qAcc_at _ _ _ 8 le_rfl, sup_rows (fun r => mag (blk V c 6 ⟨n, hn⟩ (ix2 r k))), ha, Nat.mul_succ, sup_append, max_assoc]
    refine congrArg _ (congrArg _ (Finset.sup_congr rfl fun j _ => ?_))
    rw [blk6_at]
    have : grow ⟨n, hn⟩ j = row 2048 (512 * n + j.val) := (row_val (grow ⟨n, hn⟩ j)).symm
    rw [this]
  intro n
  induction n with
  | zero => exact fun hn => key 0 hn _ (by rw [pay4_at]; simp)
  | succ n ih => exact fun hn => key (n + 1) hn _ (ih (Nat.lt_of_succ_lt hn))

/-! ## The arrays after the region -/

/-- A maximum of magnitudes over all the rows, started at zero, is the maximum of the magnitudes. -/
theorem max_zero_sup (f : Fin 2048 → EReal) :
    max 0 ((Finset.range (512 * 4)).sup fun r => mag (f (row 2048 r))) = Finset.univ.sup fun r => mag (f r) := by
  rw [show 512 * 4 = 2048 from rfl, sup_fin]
  have e : (Finset.univ.sup fun j : Fin 2048 => mag (f (row 2048 j.val))) = Finset.univ.sup fun r => mag (f r) :=
    Finset.sup_congr rfl fun j _ => by rw [row_val]
  rw [e]
  exact max_eq_right ((mag_nonneg (f 0)).trans (Finset.le_sup (f := fun r => mag (f r)) (Finset.mem_univ 0)))

/-- The activations' gradient after the region. -/
theorem final7 : (dat0 V c).arrAt 7 cfg0.N = (fun i => dx (inp V c) (i 0) (i 1) : Vec Ideal S2048x1536 .bf16) := by
  refine (dat0 V c).arrAt_eq_of_cover 7 _ (fun t _ => ?_) (fun i => ?_)
  · show (cfg0.win 7).cut (grid0.coords t) ((dat0 V c).after 7 t) = _
    rw [after0_7]
    funext y
    have e := (index_eq t).2.2.1
    have ey : y = ix2 (y 0) (y 1) := (eq_ix2 y)
    have h0 : ((cfg0.win 7).blk t).view.emb y 0 = grow t (y 0) := Fin.ext (by
      show win0_7.index t 0 * 512 + 1 * (y 0).val = 512 * t.val + (y 0).val
      rw [e]; show t.val * 512 + 1 * (y 0).val = _; omega)
    have h1 : ((cfg0.win 7).blk t).view.emb y 1 = y 1 := Fin.ext (by
      show win0_7.index t 1 * 1536 + 1 * (y 1).val = (y 1).val
      rw [e]; show 0 * 1536 + 1 * (y 1).val = _; omega)
    show dxAt V c t y = dx (inp V c) (((cfg0.win 7).blk t).view.emb y 0) (((cfg0.win 7).blk t).view.emb y 1)
    rw [h0, h1]
    exact (congrArg (dxAt V c t) ey).trans (dxAt_at V c t (y 0) (y 1))
  · have hi0 : (i 0).val < 2048 := (i 0).isLt
    have hi1 : (i 1).val < 1536 := (i 1).isLt
    let t : Fin cfg0.N := ⟨(i 0).val / 512, lt_of_lt_of_eq (by omega) N_0.symm⟩
    have e := (index_eq t).2.2.1
    refine ⟨t, flush0_7 t, ?_⟩
    show i ∈ ((View.whole main_v4_0).slice (win0_7.rect t)).set
    rw [View.set_slice_whole, Rect.mem_set_unit]
    intro a
    match a with
    | ⟨0, _⟩ =>
      show win0_7.index t 0 * 512 ≤ (i 0).val ∧ (i 0).val < win0_7.index t 0 * 512 + 512
      rw [e]; show (i 0).val / 512 * 512 ≤ _ ∧ _ < (i 0).val / 512 * 512 + 512; omega
    | ⟨1, _⟩ =>
      show win0_7.index t 1 * 1536 ≤ (i 1).val ∧ (i 1).val < win0_7.index t 1 * 1536 + 1536
      rw [e]; show 0 * 1536 ≤ _ ∧ _ < 0 * 1536 + 1536; omega

/-- The last point, the one that writes the accumulated arrays back. -/
def lastPt : Fin cfg0.N := ⟨3, lt_of_lt_of_eq (by decide) N_0.symm⟩

/-- The gain's gradient after the region. -/
theorem final8 : (dat0 V c).arrAt 8 cfg0.N = (fun i => dgamma (inp V c) (i 1) : Vec Ideal S1x1536 .f32) := by
  refine (dat0 V c).arrAt_eq_of_cover 8 _ (fun t hf => ?_) (fun i => ⟨lastPt, (flush0_8 lastPt).mpr rfl, ?_⟩)
  · show (cfg0.win 8).cut (grid0.coords t) ((dat0 V c).after 8 t) = _
    rw [after0_8]
    have ht : t = lastPt := Fin.ext (by
      have := (flush0_8 t).mp hf
      have : t.val < 4 := lt_of_lt_of_eq t.isLt N_0
      show t.val = 3; omega)
    subst ht
    funext y
    have e := (index_eq lastPt).2.2.2.2.2.2.2.2.1
    have ey : y = ix2 (y 0) (y 1) := eq_ix2 y
    have e0 : y 0 = (0 : Fin 1) := Subsingleton.elim (α := Fin 1) _ _
    have h1 : ((cfg0.win 8).blk lastPt).view.emb y 1 = y 1 := Fin.ext (by
      show win0_8.index lastPt 1 * 1536 + 1 * (y 1).val = (y 1).val
      rw [e]; show 0 * 1536 + 1 * (y 1).val = _; omega)
    show gamAt V c 3 _ y = dgamma (inp V c) (((cfg0.win 8).blk lastPt).view.emb y 1)
    rw [h1, ey, e0]
    refine (gamAt_at V c (y 1) 3 _).trans ?_
    rw [show 512 * (3 + 1) = 2048 from rfl, Finset.sum_range]
    exact Finset.sum_congr rfl fun j _ => by rw [row_val]; rfl
  · have hi0 : (i 0).val < 1 := (i 0).isLt
    have hi1 : (i 1).val < 1536 := (i 1).isLt
    have e := (index_eq lastPt).2.2.2.2.2.2.2.2.1
    show i ∈ ((View.whole main_v4_1).slice (win0_8.rect lastPt)).set
    rw [View.set_slice_whole, Rect.mem_set_unit]
    intro a
    match a with
    | ⟨0, _⟩ =>
      show win0_8.index lastPt 0 * 1 ≤ (i 0).val ∧ (i 0).val < win0_8.index lastPt 0 * 1 + 1
      rw [e]; show 0 * 1 ≤ _ ∧ _ < 0 * 1 + 1; omega
    | ⟨1, _⟩ =>
      show win0_8.index lastPt 1 * 1536 ≤ (i 1).val ∧ (i 1).val < win0_8.index lastPt 1 * 1536 + 1536
      rw [e]; show 0 * 1536 ≤ _ ∧ _ < 0 * 1536 + 1536; omega

/-- The largest magnitude of each column of the scaled activations after the region. -/
theorem final9 : (dat0 V c).arrAt 9 cfg0.N = (fun i => xmax (inp V c) (i 1) : Vec Ideal S1x1536 .f32) := by
  refine (dat0 V c).arrAt_eq_of_cover 9 _ (fun t hf => ?_) (fun i => ⟨lastPt, (flush0_9 lastPt).mpr rfl, ?_⟩)
  · show (cfg0.win 9).cut (grid0.coords t) ((dat0 V c).after 9 t) = _
    rw [after0_9]
    have ht : t = lastPt := Fin.ext (by
      have := (flush0_9 t).mp hf
      have : t.val < 4 := lt_of_lt_of_eq t.isLt N_0
      show t.val = 3; omega)
    subst ht
    funext y
    have e := (index_eq lastPt).2.2.2.2.2.2.2.2.2.1
    have ey : y = ix2 (y 0) (y 1) := eq_ix2 y
    have e0 : y 0 = (0 : Fin 1) := Subsingleton.elim (α := Fin 1) _ _
    have h1 : ((cfg0.win 9).blk lastPt).view.emb y 1 = y 1 := Fin.ext (by
      show win0_9.index lastPt 1 * 1536 + 1 * (y 1).val = (y 1).val
      rw [e]; show 0 * 1536 + 1 * (y 1).val = _; omega)
    show xAt V c 3 _ y = xmax (inp V c) (((cfg0.win 9).blk lastPt).view.emb y 1)
    rw [h1, ey, e0]
    refine (xAt_at V c (y 1) 3 _).trans ?_
    exact max_zero_sup fun r => nrm (inp V c) r (y 1) * (inp V c).g (y 1)
  · have hi0 : (i 0).val < 1 := (i 0).isLt
    have hi1 : (i 1).val < 1536 := (i 1).isLt
    have e := (index_eq lastPt).2.2.2.2.2.2.2.2.2.1
    show i ∈ ((View.whole main_v4_2).slice (win0_9.rect lastPt)).set
    rw [View.set_slice_whole, Rect.mem_set_unit]
    intro a
    match a with
    | ⟨0, _⟩ =>
      show win0_9.index lastPt 0 * 1 ≤ (i 0).val ∧ (i 0).val < win0_9.index lastPt 0 * 1 + 1
      rw [e]; show 0 * 1 ≤ _ ∧ _ < 0 * 1 + 1; omega
    | ⟨1, _⟩ =>
      show win0_9.index lastPt 1 * 1536 ≤ (i 1).val ∧ (i 1).val < win0_9.index lastPt 1 * 1536 + 1536
      rw [e]; show 0 * 1536 ≤ _ ∧ _ < 0 * 1536 + 1536; omega

/-- The largest magnitude of each column of the incoming gradient after the region. -/
theorem final10 : (dat0 V c).arrAt 10 cfg0.N = (fun i => qmax (inp V c) (i 1) : Vec Ideal S1x2048 .f32) := by
  refine (dat0 V c).arrAt_eq_of_cover 10 _ (fun t hf => ?_) (fun i => ⟨lastPt, (flush0_10 lastPt).mpr rfl, ?_⟩)
  · show (cfg0.win 10).cut (grid0.coords t) ((dat0 V c).after 10 t) = _
    rw [after0_10]
    have ht : t = lastPt := Fin.ext (by
      have := (flush0_10 t).mp hf
      have : t.val < 4 := lt_of_lt_of_eq t.isLt N_0
      show t.val = 3; omega)
    subst ht
    funext y
    have e := (index_eq lastPt).2.2.2.2.2.2.2.2.2.2.1
    have ey : y = ix2 (y 0) (y 1) := eq_ix2 y
    have e0 : y 0 = (0 : Fin 1) := Subsingleton.elim (α := Fin 1) _ _
    have h1 : ((cfg0.win 10).blk lastPt).view.emb y 1 = y 1 := Fin.ext (by
      show win0_10.index lastPt 1 * 2048 + 1 * (y 1).val = (y 1).val
      rw [e]; show 0 * 2048 + 1 * (y 1).val = _; omega)
    show qAt V c 3 _ y = qmax (inp V c) (((cfg0.win 10).blk lastPt).view.emb y 1)
    rw [h1, ey, e0]
    refine (qAt_at V c (y 1) 3 _).trans ?_
    exact max_zero_sup fun r => (inp V c).dq r (y 1)
  · have hi0 : (i 0).val < 1 := (i 0).isLt
    have hi1 : (i 1).val < 2048 := (i 1).isLt
    have e := (index_eq lastPt).2.2.2.2.2.2.2.2.2.2.1
    show i ∈ ((View.whole main_v4_3).slice (win0_10.rect lastPt)).set
    rw [View.set_slice_whole, Rect.mem_set_unit]
    intro a
    match a with
    | ⟨0, _⟩ =>
      show win0_10.index lastPt 0 * 1 ≤ (i 0).val ∧ (i 0).val < win0_10.index lastPt 0 * 1 + 1
      rw [e]; show 0 * 1 ≤ _ ∧ _ < 0 * 1 + 1; omega
    | ⟨1, _⟩ =>
      show win0_10.index lastPt 1 * 2048 ≤ (i 1).val ∧ (i 1).val < win0_10.index lastPt 1 * 2048 + 2048
      rw [e]; show 0 * 2048 ≤ _ ∧ _ < 0 * 2048 + 2048; omega

end Cert.KernelIdeal.Rows

end
-- ==== Proof.DwPoint.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pointwise
public import Idealize.ShloMosaic.Lib.Pipeline.FrameBody
public import Idealize.ShloMosaic.Lib.Pipeline.ValueKit.Acc
public import Idealize.ShloMosaic.Lib.Pipeline.ValueKit.Tiles
public import Idealize.ShloMosaic.Lib.WritesUnit
public import Idealize.ShloMosaic.Lib.VecWindow
public import Idealize.ShloMosaic.Lib.Tactic
public import Idealize.ShloMosaic.Lib.WordCmp

@[expose] public section

set_option maxRecDepth 16384

noncomputable section

namespace Cert.KernelIdeal.Cols

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- The body's test for the first point of the grid. -/
abbrev atFirst (i : grid1.Coords) : Prop := (Scalar.cmpi .ne (Scalar.extui (Scalar.cmpi .eq (BitVec.ofNat 32 (i 0).val) 0#32)) 0#32) = 1#1

/-- It holds at the first point only. -/
theorem atFirst_iff : ∀ t : Fin cfg1.N, atFirst (grid1.coords t) ↔ t.val = 0 :=
  (fun t => by
    have ht : t.val < 4 := Nat.lt_of_lt_of_eq t.isLt N_1
    have e0 : (grid1.coords t 0).val = t.val / 1 % 4 := Pipeline.Grid.coords_val t 0 (by decide) rfl
    simp only [atFirst, e0]
    word_cmp
   : ∀ t : Fin grid1.N, atFirst (grid1.coords t) ↔ t.val = 0)

/-! ## The codes of the activation, 64 rows at a time -/

/-- Chunk `q` takes 64 rows of the array. -/
theorem rows_inb (q : Fin 32) : ∀ a, (![64 * q.val, 0] : Fin 2 → ℕ) a + S64x1536.size a ≤ S2048x1536.size a := fun a => by
  have := q.isLt
  match a with
  | ⟨0, _⟩ => show 64 * q.val + 64 ≤ 2048; omega
  | ⟨1, _⟩ => show 0 + 1536 ≤ 1536; omega

/-- Eight chunks share a row of the two tables of factors. -/
theorem seq_inb (q : Fin 32) : ∀ a, (![q.val / 8, 0] : Fin 2 → ℕ) a + S1x512.size a ≤ S4x512.size a := fun a => by
  have := q.isLt
  match a with
  | ⟨0, _⟩ => show q.val / 8 + 1 ≤ 4; omega
  | ⟨1, _⟩ => show 0 + 512 ≤ 512; omega

/-- Each of the eight takes 64 of that row's entries. -/
theorem part_inb (q : Fin 32) : S512x1.Slices ![64 * (q.val % 8), 0] S64x1 := ⟨rfl, fun a => by
  match a with
  | ⟨0, _⟩ => show 64 * (q.val % 8) + 64 ≤ 512; omega
  | ⟨1, _⟩ => show 0 + 1 ≤ 1; omega⟩

/-- The rows of chunk `q`. -/
abbrev rowsOf (q : Fin 32) : Rect S2048x1536 := Rect.unit (s := S2048x1536) ![64 * q.val, 0] S64x1536.size (rows_inb q)

/-- Chunk `q`'s 64 factors out of a table with one row per sequence, as a column. -/
def factors (v : Vec F S4x512 .f32) (q : Fin 32) : FVec F S64x1 .f32 :=
  extractStridedSlice S64x1 ![64 * (q.val % 8), 0] (k1_pay9 (View.ld v (Rect.unit (s := S4x512) ![q.val / 8, 0] S1x512.size (seq_inb q)))) (part_inb q)

/-- The codes of chunk `q`: the activation scaled by its two factors, the column's weight and the inverse scale, clipped and rounded. -/
def codesOf (inv g : FVec F S1x1536 .f32) (xs rs : Vec F S4x512 .f32) (x : Vec F S2048x1536 .fp8e4m3) (q : Fin 32) : FVec F S64x1536 .fp8e4m3 :=
  truncf .fp8e4m3 (minimumf (broadcast S64x1536 (Scalar.ofBits .f32 0x43E00000#32))
    (maximumf (broadcast S64x1536 (Scalar.ofBits .f32 0xC3E00000#32))
      (mulf (mulf (mulf (mulf (extf .f32 (shapeCast S64x1536 (View.ld x (rowsOf q)) shapeCasts_S64x1536_S64x1536) bitsLt_fp8e4m3_f32)
        (broadcastTo S64x1536 (factors xs q) broadcasts_S64x1_S64x1536)) (broadcastTo S64x1536 (factors rs q) broadcasts_S64x1_S64x1536))
        (broadcastTo S64x1536 (k1_pay8 g) broadcasts_S1x1536_S64x1536)) (broadcastTo S64x1536 inv broadcasts_S1x1536_S64x1536)))) bitsLt_fp8e4m3_f32

/-- The stores of the first `n` chunks, the newest first. -/
def stores (inv g : FVec F S1x1536 .f32) (xs rs : Vec F S4x512 .f32) (x : Vec F S2048x1536 .fp8e4m3) : (n : ℕ) → n ≤ 32 → List (View.Piece (Elt F) S2048x1536 .fp8e4m3)
  | 0, _ => []
  | n + 1, h => ⟨rowsOf ⟨n, h⟩, codesOf inv g xs rs x ⟨n, h⟩⟩ :: stores inv g xs rs x n (Nat.le_of_succ_le h)

/-- All the codes, as the 32 chunks leave them. -/
def xcOf (inv g : FVec F S1x1536 .f32) (xs rs : Vec F S4x512 .f32) (x : Vec F S2048x1536 .fp8e4m3) : Vec F S2048x1536 .fp8e4m3 :=
  View.canon (stores inv g xs rs x 32 le_rfl)

/-- Every chunk is among the stores. -/
theorem mem_stores (inv g : FVec F S1x1536 .f32) (xs rs : Vec F S4x512 .f32) (x : Vec F S2048x1536 .fp8e4m3) (q : Fin 32) :
    ∀ (n : ℕ) (h : n ≤ 32), q.val < n → (⟨rowsOf q, codesOf inv g xs rs x q⟩ : View.Piece (Elt F) S2048x1536 .fp8e4m3) ∈ stores inv g xs rs x n h
  | 0, _, hq => absurd hq (Nat.not_lt_zero _)
  | n + 1, h, hq => by
    by_cases hn : q.val = n
    · obtain rfl : q = ⟨n, h⟩ := Fin.ext hn
      exact List.mem_cons_self
    · exact List.mem_cons_of_mem _ (mem_stores inv g xs rs x q n (Nat.le_of_succ_le h) (by omega))

/-- The stores are nothing but chunks. -/
theorem of_mem_stores (inv g : FVec F S1x1536 .f32) (xs rs : Vec F S4x512 .f32) (x : Vec F S2048x1536 .fp8e4m3) :
    ∀ (n : ℕ) (h : n ≤ 32) (p : View.Piece (Elt F) S2048x1536 .fp8e4m3), p ∈ stores inv g xs rs x n h → ∃ q : Fin 32, p = ⟨rowsOf q, codesOf inv g xs rs x q⟩
  | 0, _, _, hp => absurd hp List.not_mem_nil
  | n + 1, h, p, hp => by
    rcases List.mem_cons.mp hp with rfl | hp
    · exact ⟨⟨n, h⟩, rfl⟩
    · exact of_mem_stores inv g xs rs x n (Nat.le_of_succ_le h) p hp

/-- The chunk of a row. -/
abbrev chunkOf (y : S2048x1536.Idx) : Fin 32 := ⟨(y 0).val / 64, by have : (y 0).val < 2048 := (y 0).isLt; omega⟩

/-- An element lies in its row's chunk. -/
theorem mem_rowsOf (y : S2048x1536.Idx) : y ∈ (rowsOf (chunkOf y)).set := Rect.mem_set_unit.mpr fun a => by
  match a with
  | ⟨0, _⟩ => show 64 * ((y 0).val / 64) ≤ (y 0).val ∧ (y 0).val < 64 * ((y 0).val / 64) + 64; omega
  | ⟨1, _⟩ => exact ⟨Nat.zero_le _, (Nat.zero_add 1536).symm ▸ (y 1).isLt⟩

/-- The 32 stores fill the array. -/
theorem stores_cover (inv g : FVec F S1x1536 .f32) (xs rs : Vec F S4x512 .f32) (x : Vec F S2048x1536 .fp8e4m3) (y : S2048x1536.Idx) :
    ∃ p ∈ stores inv g xs rs x 32 le_rfl, y ∈ p.1.set :=
  ⟨_, mem_stores inv g xs rs x (chunkOf y) 32 le_rfl (chunkOf y).isLt, mem_rowsOf y⟩

/-- Whatever the array held, it reads as the codes after the 32 stores. -/
theorem read_stores (v : View sig .tc .vmem S2048x1536 .fp8e4m3) (f : v.ty.Contents (Elt F)) (inv g : FVec F S1x1536 .f32) (xs rs : Vec F S4x512 .f32) (x : Vec F S2048x1536 .fp8e4m3) :
    v.read (Elt F) (v.writes (Elt F) f (stores inv g xs rs x 32 le_rfl)) = xcOf inv g xs rs x :=
  View.read_writes_eq_canon v f _ (stores_cover inv g xs rs x)

/-- A point's block of the weight's gradient, from the codes and the scales. -/
def dwOf (xc : Vec F S2048x1536 .fp8e4m3) (inv sc : FVec F S1x512 .f32) (q : Vec F S2048x512 .bf16) (col : Vec F S1536x128 .f32) : FVec F S1536x512 .f32 :=
  k1_pay2 sc xc (k1_pay1 inv (k1_pay63 q)) (View.ld col (Rect.unit (s := S1536x128) ![0, 0] S1536x1.size inb_S1536x128_S1536x1_0_0))

/-- Equal operands give equal products. -/
theorem dw_congr {sc sc' : FVec F S1x512 .f32} {xc xc' : Vec F S2048x1536 .fp8e4m3} {qc qc' : FVec F S2048x512 .fp8e4m3} {col col' : Vec F S1536x1 .f32}
    (h1 : sc = sc') (h2 : xc = xc') (h3 : qc = qc') (h4 : col = col') : k1_pay2 sc xc qc col = k1_pay2 sc' xc' qc' col' := by
  subst h1 h2 h3 h4; rfl

set_option maxHeartbeats 4000000 in
/-- The body at the first point: the codes and the scales of the activation are computed and kept. -/
theorem point_A (c : Dev nD) (i : grid1.Coords)
  (arg1 : Memref sig .tc .vmem S4x512 .f32) (harg1 : arg1.IsWhole)
  (arg2 : Memref sig .tc .vmem S4x512 .f32) (harg2 : arg2.IsWhole)
  (arg3 : Memref sig .tc .vmem S1x1536 .f32) (harg3 : arg3.IsWhole)
  (arg4 : Memref sig .tc .vmem S1x1536 .f32) (harg4 : arg4.IsWhole)
  (arg5 : Memref sig .tc .vmem S1x512 .f32) (harg5 : arg5.IsWhole)
  (arg6 : Memref sig .tc .vmem S2048x1536 .fp8e4m3) (harg6 : arg6.IsWhole)
  (arg7 : Memref sig .tc .vmem S2048x512 .bf16) (harg7 : arg7.IsWhole)
  (arg8 : Memref sig .tc .vmem S1536x512 .f32) (harg8 : arg8.IsWhole)
  (arg9 : Memref sig .tc .vmem S2048x1536 .fp8e4m3) (harg9 : arg9.IsWhole)
  (arg10 : Memref sig .tc .vmem S1x1536 .f32) (harg10 : arg10.IsWhole)
  (arg11 : Memref sig .tc .vmem S2048x512 .fp8e4m3) (harg11 : arg11.IsWhole)
  (arg12 : Memref sig .tc .vmem S1x512 .f32) (harg12 : arg12.IsWhole)
  (arg13 : Memref sig .tc .vmem S1536x128 .f32) (harg13 : arg13.IsWhole)
  (hc0 : atFirst i)
  (x0 : Vec F S4x512 .f32) (x1 : Vec F S4x512 .f32) (x2 : Vec F S1x1536 .f32) (x3 : Vec F S1x1536 .f32) (x4 : Vec F S1x512 .f32) (x5 : Vec F S2048x1536 .fp8e4m3) (x6 : Vec F S2048x512 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (dwOf (xcOf (k1_pay6 x3) x2 x0 x1 x5) (k1_pay62 x4) (k1_pay61 x4) x6 (k1_pay7 x3)) ∗ owns (c : Thread nD τ) arg9 fullShare (xcOf (k1_pay6 x3) x2 x0 x1 x5) ∗ owns (c : Thread nD τ) arg10 fullShare (k1_pay5 x3) ∗ owns (c : Thread nD τ) arg11 fullShare (k1_pay1 (k1_pay62 x4) (k1_pay63 x6)) ∗ owns (c : Thread nD τ) arg12 fullShare (k1_pay61 x4) ∗ owns (c : Thread nD τ) arg13 fullShare (k1_pay7 x3)) -∗ K ⟨⟩))
      ⊢ wp frame (wpE (defs₀ (F := F)) Variants.none c none) E (cc1_qkv_bwd_dw i arg1 harg1 arg2 harg2 arg3 harg3 arg4 harg4 arg5 harg5 arg6 harg6 arg7 harg7 arg8 harg8 arg9 harg9 arg10 harg10 arg11 harg11 arg12 harg12 arg13 harg13) K := by
  simp only [cc1_qkv_bwd_dw_eq_skeleton]; unfold cc1_qkv_bwd_dw_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton]
  unfold k1_part16_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4 hf5 hf6
  skip
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro
    exact (View.read_writes_full _ _ _ _ _).trans (dw_congr (congrArg k1_pay61 (View.readAt_full _ _ _)) ((View.readAt_full _ _ _).trans ((read_stores arg9.view arg9.view.junk (k1_pay6 (arg4.view.readAt (Elt F) (Rect.unit (s := S1x1536) ![0, 0] S1x1536.size inb_S1x1536_S1x1536_0_0).toLoadRect f3)) (arg3.view.readAt (Elt F) (Rect.unit (s := S1x1536) ![0, 0] S1x1536.size inb_S1x1536_S1x1536_0_0).toLoadRect f2) (arg1.view.read (Elt F) f0) (arg2.view.read (Elt F) f1) (arg6.view.read (Elt F) f5)).trans (congrArg₂ (fun a b => xcOf (k1_pay6 a) b (arg1.view.read (Elt F) f0) (arg2.view.read (Elt F) f1) (arg6.view.read (Elt F) f5)) (View.readAt_full _ _ _) (View.readAt_full _ _ _)))) ((View.readAt_writes_full arg11.view arg11.view.junk _ _ _ _).trans (congrArg₂ (fun a b => k1_pay1 (k1_pay62 a) (k1_pay63 b)) (View.readAt_full _ _ _) (View.readAt_full _ _ _))) (congrArg (fun v => View.ld v (Rect.unit (s := S1536x128) ![0, 0] S1536x1.size inb_S1536x128_S1536x1_0_0)) ((View.read_writes_full arg13.view arg13.view.junk _ _ _).trans (congrArg k1_pay7 (View.readAt_full _ _ _)))))
  isplitl [H8]
  · iexists _; isplitr; swap; · iexact H8
    ipureintro
    exact (read_stores arg9.view f8 (k1_pay6 (arg4.view.readAt (Elt F) (Rect.unit (s := S1x1536) ![0, 0] S1x1536.size inb_S1x1536_S1x1536_0_0).toLoadRect f3)) (arg3.view.readAt (Elt F) (Rect.unit (s := S1x1536) ![0, 0] S1x1536.size inb_S1x1536_S1x1536_0_0).toLoadRect f2) (arg1.view.read (Elt F) f0) (arg2.view.read (Elt F) f1) (arg6.view.read (Elt F) f5)).trans (congrArg₂ (fun a b => xcOf (k1_pay6 a) b (arg1.view.read (Elt F) f0) (arg2.view.read (Elt F) f1) (arg6.view.read (Elt F) f5)) (View.readAt_full _ _ _) (View.readAt_full _ _ _))
  isplitl [H9]
  · iexists _; isplitr; swap; · iexact H9
    ipureintro
    exact (View.read_writes_full _ _ _ _ _).trans (congrArg k1_pay5 (View.readAt_full _ _ _))
  isplitl [H10]
  · iexists _; isplitr; swap; · iexact H10
    ipureintro
    exact (View.read_writes_full _ _ _ _ _).trans (congrArg₂ (fun a b => k1_pay1 (k1_pay62 a) (k1_pay63 b)) (View.readAt_full _ _ _) (View.readAt_full _ _ _))
  isplitl [H11]
  · iexists _; isplitr; swap; · iexact H11
    ipureintro
    exact (View.read_writes_full _ _ _ _ _).trans (congrArg k1_pay61 (View.readAt_full _ _ _))
  iexists _; isplitr; swap; · iexact H12
  ipureintro
  exact (View.read_writes_full _ _ _ _ _).trans (congrArg k1_pay7 (View.readAt_full _ _ _))

set_option maxHeartbeats 4000000 in
/-- The body at a later point: the codes and the scales of the activation are the ones kept. -/
theorem point_B (c : Dev nD) (i : grid1.Coords)
  (arg1 : Memref sig .tc .vmem S4x512 .f32) (harg1 : arg1.IsWhole)
  (arg2 : Memref sig .tc .vmem S4x512 .f32) (harg2 : arg2.IsWhole)
  (arg3 : Memref sig .tc .vmem S1x1536 .f32) (harg3 : arg3.IsWhole)
  (arg4 : Memref sig .tc .vmem S1x1536 .f32) (harg4 : arg4.IsWhole)
  (arg5 : Memref sig .tc .vmem S1x512 .f32) (harg5 : arg5.IsWhole)
  (arg6 : Memref sig .tc .vmem S2048x1536 .fp8e4m3) (harg6 : arg6.IsWhole)
  (arg7 : Memref sig .tc .vmem S2048x512 .bf16) (harg7 : arg7.IsWhole)
  (arg8 : Memref sig .tc .vmem S1536x512 .f32) (harg8 : arg8.IsWhole)
  (arg9 : Memref sig .tc .vmem S2048x1536 .fp8e4m3) (harg9 : arg9.IsWhole)
  (arg10 : Memref sig .tc .vmem S1x1536 .f32) (harg10 : arg10.IsWhole)
  (arg11 : Memref sig .tc .vmem S2048x512 .fp8e4m3) (harg11 : arg11.IsWhole)
  (arg12 : Memref sig .tc .vmem S1x512 .f32) (harg12 : arg12.IsWhole)
  (arg13 : Memref sig .tc .vmem S1536x128 .f32) (harg13 : arg13.IsWhole)
  (hc0 : ¬atFirst i)
  (x0 : Vec F S4x512 .f32) (x1 : Vec F S4x512 .f32) (x2 : Vec F S1x1536 .f32) (x3 : Vec F S1x1536 .f32) (x4 : Vec F S1x512 .f32) (x5 : Vec F S2048x1536 .fp8e4m3) (x6 : Vec F S2048x512 .bf16) (xo8 : Vec F S2048x1536 .fp8e4m3) (xo9 : Vec F S1x1536 .f32) (xs0 : Vec F S1536x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9 ∗ (∃ d, owns (c : Thread nD τ) arg11 fullShare d) ∗ (∃ d, owns (c : Thread nD τ) arg12 fullShare d) ∗ owns (c : Thread nD τ) arg13 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (dwOf xo8 (k1_pay62 x4) (k1_pay61 x4) x6 xs0) ∗ owns (c : Thread nD τ) arg9 fullShare xo8 ∗ owns (c : Thread nD τ) arg10 fullShare xo9 ∗ owns (c : Thread nD τ) arg11 fullShare (k1_pay1 (k1_pay62 x4) (k1_pay63 x6)) ∗ owns (c : Thread nD τ) arg12 fullShare (k1_pay61 x4) ∗ owns (c : Thread nD τ) arg13 fullShare xs0) -∗ K ⟨⟩))
      ⊢ wp frame (wpE (defs₀ (F := F)) Variants.none c none) E (cc1_qkv_bwd_dw i arg1 harg1 arg2 harg2 arg3 harg3 arg4 harg4 arg5 harg5 arg6 harg6 arg7 harg7 arg8 harg8 arg9 harg9 arg10 harg10 arg11 harg11 arg12 harg12 arg13 harg13) K := by
  simp only [cc1_qkv_bwd_dw_eq_skeleton]; unfold cc1_qkv_bwd_dw_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton]
  unfold k1_part16_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, ⟨%f12, %hf12, H12⟩, Hk⟩
  subst hf0 hf1 hf2 hf3 hf4 hf5 hf6 hf8 hf9 hf12
  skip
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro
    exact (View.read_writes_full _ _ _ _ _).trans (dw_congr (congrArg k1_pay61 (View.readAt_full _ _ _)) (View.readAt_full _ _ _) ((View.readAt_writes_full _ _ _ _ _ _).trans (congrArg₂ (fun a b => k1_pay1 (k1_pay62 a) (k1_pay63 b)) (View.readAt_full _ _ _) (View.readAt_full _ _ _))) rfl)
  isplitl [H8]
  · iexists _; isplitr; swap; · iexact H8
    ipureintro
    rfl
  isplitl [H9]
  · iexists _; isplitr; swap; · iexact H9
    ipureintro
    rfl
  isplitl [H10]
  · iexists _; isplitr; swap; · iexact H10
    ipureintro
    exact (View.read_writes_full _ _ _ _ _).trans (congrArg₂ (fun a b => k1_pay1 (k1_pay62 a) (k1_pay63 b)) (View.readAt_full _ _ _) (View.readAt_full _ _ _))
  isplitl [H11]
  · iexists _; isplitr; swap; · iexact H11
    ipureintro
    exact (View.read_writes_full _ _ _ _ _).trans (congrArg k1_pay61 (View.readAt_full _ _ _))
  iexists _; isplitr; swap; · iexact H12
  ipureintro
  rfl

end Cert.KernelIdeal.Cols

end
-- ==== Proof.DwRegion.lean ====
module

public import proofs.«01_k».proof.Proof.DwPoint
public import Idealize.ShloMosaic.Lib.Pipeline.TableIdle

@[expose] public section

set_option maxRecDepth 16384

noncomputable section

namespace Cert.KernelIdeal.Cols

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The buffers the body is called with -/

/-- The buffer that stages window 0. -/
abbrev stg0 (t : Fin cfg1.N) : Memref sig .tc .vmem S4x512 .f32 := win1_0.stage (cfg1.slots t 0)
/-- The buffer that stages window 1. -/
abbrev stg1 (t : Fin cfg1.N) : Memref sig .tc .vmem S4x512 .f32 := win1_1.stage (cfg1.slots t 1)
/-- The buffer that stages window 2. -/
abbrev stg2 (t : Fin cfg1.N) : Memref sig .tc .vmem S1x1536 .f32 := win1_2.stage (cfg1.slots t 2)
/-- The buffer that stages window 3. -/
abbrev stg3 (t : Fin cfg1.N) : Memref sig .tc .vmem S1x1536 .f32 := win1_3.stage (cfg1.slots t 3)
/-- The buffer that stages window 4. -/
abbrev stg4 (t : Fin cfg1.N) : Memref sig .tc .vmem S1x512 .f32 := win1_4.stage (cfg1.slots t 4)
/-- The buffer that stages window 5. -/
abbrev stg5 (t : Fin cfg1.N) : Memref sig .tc .vmem S2048x1536 .fp8e4m3 := win1_5.stage (cfg1.slots t 5)
/-- The buffer that stages window 6. -/
abbrev stg6 (t : Fin cfg1.N) : Memref sig .tc .vmem S2048x512 .bf16 := win1_6.stage (cfg1.slots t 6)
/-- The buffer that stages window 7. -/
abbrev stg7 (t : Fin cfg1.N) : Memref sig .tc .vmem S1536x512 .f32 := win1_7.stage (cfg1.slots t 7)
/-- The buffer that stages window 8. -/
abbrev stg8 (t : Fin cfg1.N) : Memref sig .tc .vmem S2048x1536 .fp8e4m3 := win1_8.stage (cfg1.slots t 8)
/-- The buffer that stages window 9. -/
abbrev stg9 (t : Fin cfg1.N) : Memref sig .tc .vmem S1x1536 .f32 := win1_9.stage (cfg1.slots t 9)
/-- The buffer that stages window 10. -/
abbrev stg10 (t : Fin cfg1.N) : Memref sig .tc .vmem S2048x512 .fp8e4m3 := win1_10.stage (cfg1.slots t 10)
/-- The buffer that stages window 11. -/
abbrev stg11 (t : Fin cfg1.N) : Memref sig .tc .vmem S1x512 .f32 := win1_11.stage (cfg1.slots t 11)

/-- The scratch buffer: the activation's scales as a column, repeated over the lanes. -/
abbrev sc0 : Memref sig .tc .vmem S1536x128 .f32 := Memref.whole cc1_scratch0

/-- The scratch buffer this call works with. -/
abbrev ownScratch : List (Ref sig .tc) := [cc1_scratch0]

/-- What the body never touches: the other call's buffers and the generator register. -/
def more (c : Dev nD) : sProp 𝕄 := iprop(Pipeline.scopedRestBut spec1 c ownScratch ∗ (∃ r, prngReg c r))

/-- Separation regroups. -/
theorem more_assoc (P Q R : sProp 𝕄) : iprop((P ∗ Q) ∗ R) = iprop(P ∗ Q ∗ R) := equiv_iff.mp ⟨BI.sep_assoc, BI.sep_assoc'⟩

/-- Everything the body may write besides the windows: the scratch buffer and the rest. -/
theorem rest_eq (c : Dev nD) :
    (Pipeline.ΦA spec1 c : sProp 𝕄) = iprop((∃ d, owns (c : Thread nD τ) sc0 fullShare d) ∗ more c) := by
  unfold Pipeline.ΦA
  rw [Pipeline.scopedRest_split_of_list spec1 c ownScratch (by decide) (by decide)]
  refine (more_assoc _ _ _).trans ?_
  simp only [sc0, owns_whole]
  rfl

/-! ## What the region computes, from the arrays' contents at its entry -/

variable (V : (c : Dev nD) → (b : Ref sig .tc) → Buf (Elt F) (((c : Thread nD τ)).loc b))

/-- Window `w`'s block at point `t`. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The codes of the activation, computed at the first point and kept. -/
def xcAt (c : Dev nD) : Vec F S2048x1536 .fp8e4m3 :=
  xcOf (k1_pay6 (blk V c 3 ⟨0, by decide⟩)) (blk V c 2 ⟨0, by decide⟩) (blk V c 0 ⟨0, by decide⟩) (blk V c 1 ⟨0, by decide⟩) (blk V c 5 ⟨0, by decide⟩)

/-- The activation's scales, computed at the first point and kept, -/
def xscAt (c : Dev nD) : Vec F S1x1536 .f32 := k1_pay5 (blk V c 3 ⟨0, by decide⟩)

/-- and the same scales as a column. -/
def colAt (c : Dev nD) : Vec F S1536x128 .f32 := k1_pay7 (blk V c 3 ⟨0, by decide⟩)

/-- At the first point the three are computed from its own blocks. -/
theorem kept_zero (c : Dev nD) (t : Fin cfg1.N) (h : t.val = 0) :
    xcAt V c = xcOf (k1_pay6 (blk V c 3 t)) (blk V c 2 t) (blk V c 0 t) (blk V c 1 t) (blk V c 5 t) ∧ xscAt V c = k1_pay5 (blk V c 3 t) ∧ colAt V c = k1_pay7 (blk V c 3 t) := by
  obtain ⟨n, hn⟩ := t
  obtain rfl : n = 0 := h
  exact ⟨rfl, rfl, rfl⟩

/-- A point's block of the weight's gradient, -/
def dwAt (c : Dev nD) (t : Fin cfg1.N) : Vec F S1536x512 .f32 := dwOf (xcAt V c) (k1_pay62 (blk V c 4 t)) (k1_pay61 (blk V c 4 t)) (blk V c 6 t) (colAt V c)

/-- its codes of the incoming gradient, -/
def qcAt (c : Dev nD) (t : Fin cfg1.N) : Vec F S2048x512 .fp8e4m3 := k1_pay1 (k1_pay62 (blk V c 4 t)) (k1_pay63 (blk V c 6 t))

/-- and their scales. -/
def qscAt (c : Dev nD) (t : Fin cfg1.N) : Vec F S1x512 .f32 := k1_pay61 (blk V c 4 t)

/-- What is held between points besides the windows: after the first point the carried buffer has the scales. -/
def Phi (c : Dev nD) : (n : ℕ) → n ≤ cfg1.N → sProp 𝕄
  | 0, _ => Pipeline.ΦA spec1 c
  | n + 1, hn => iprop(owns (c : Thread nD τ) sc0 fullShare (colAt V c) ∗ more c)

/-- Before the first point it has anything. -/
theorem Phi_zero (c : Dev nD) (n : ℕ) (h : n ≤ cfg1.N) (hz : n = 0) : Phi V c n h = Pipeline.ΦA spec1 c := by
  subst hz; rfl

/-- After a point it has the scales. -/
theorem Phi_succ (c : Dev nD) (n : ℕ) (hn : n < cfg1.N) :
    Phi V c (n + 1) hn = iprop(owns (c : Thread nD τ) sc0 fullShare (colAt V c) ∗ more c) := rfl

/-- Before a later point it has the scales. -/
theorem Phi_pos (c : Dev nD) (n : ℕ) (h : n ≤ cfg1.N) (hz : ¬n = 0) :
    Phi V c n h = iprop(owns (c : Thread nD τ) sc0 fullShare (colAt V c) ∗ more c) := by
  cases n with
  | zero => exact absurd rfl hz
  | succ n => rfl

/-- The proof data: the arrays at the region's entry, each input's block left in place, each output at what the point computes. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => dwAt V c t
    | ⟨8, _⟩ => xcAt V c
    | ⟨9, _⟩ => xscAt V c
    | ⟨10, _⟩ => qcAt V c t
    | ⟨11, _⟩ => qscAt V c t
  Φ t := Phi V c t.val (Nat.le_of_lt_succ t.isLt)
  q _ := fullShare
  owed _ := 0

/-- A window starts from the array the region finds. -/
theorem A_eq1 (c : Dev nD) (w : Fin cfg1.W) : (dat1 V c).A w = V c (Pipeline.arrRef spec1 w) := by
  dsimp only [dat1]

/-- What holds before a point. -/
theorem Phi_castSucc (c : Dev nD) (t : Fin cfg1.N) : (dat1 V c).Φ t.castSucc = Phi V c t.val (Nat.le_of_lt t.isLt) := by
  dsimp only [dat1]; rfl

/-- What a point leaves in window 0. -/
theorem after1_0 (c : Dev nD) (t : Fin cfg1.N) : (dat1 V c).after 0 t = blk V c 0 t := by dsimp only [dat1]
/-- What a point leaves in window 1. -/
theorem after1_1 (c : Dev nD) (t : Fin cfg1.N) : (dat1 V c).after 1 t = blk V c 1 t := by dsimp only [dat1]
/-- What a point leaves in window 2. -/
theorem after1_2 (c : Dev nD) (t : Fin cfg1.N) : (dat1 V c).after 2 t = blk V c 2 t := by dsimp only [dat1]
/-- What a point leaves in window 3. -/
theorem after1_3 (c : Dev nD) (t : Fin cfg1.N) : (dat1 V c).after 3 t = blk V c 3 t := by dsimp only [dat1]
/-- What a point leaves in window 4. -/
theorem after1_4 (c : Dev nD) (t : Fin cfg1.N) : (dat1 V c).after 4 t = blk V c 4 t := by dsimp only [dat1]
/-- What a point leaves in window 5. -/
theorem after1_5 (c : Dev nD) (t : Fin cfg1.N) : (dat1 V c).after 5 t = blk V c 5 t := by dsimp only [dat1]
/-- What a point leaves in window 6. -/
theorem after1_6 (c : Dev nD) (t : Fin cfg1.N) : (dat1 V c).after 6 t = blk V c 6 t := by dsimp only [dat1]
/-- What a point leaves in window 7. -/
theorem after1_7 (c : Dev nD) (t : Fin cfg1.N) : (dat1 V c).after 7 t = dwAt V c t := by dsimp only [dat1]
/-- What a point leaves in window 8. -/
theorem after1_8 (c : Dev nD) (t : Fin cfg1.N) : (dat1 V c).after 8 t = xcAt V c := by dsimp only [dat1]
/-- What a point leaves in window 9. -/
theorem after1_9 (c : Dev nD) (t : Fin cfg1.N) : (dat1 V c).after 9 t = xscAt V c := by dsimp only [dat1]
/-- What a point leaves in window 10. -/
theorem after1_10 (c : Dev nD) (t : Fin cfg1.N) : (dat1 V c).after 10 t = qcAt V c t := by dsimp only [dat1]
/-- What a point leaves in window 11. -/
theorem after1_11 (c : Dev nD) (t : Fin cfg1.N) : (dat1 V c).after 11 t = qscAt V c t := by dsimp only [dat1]

/-! Each input's buffer holds its block at every point, fetched there or not. -/

/-- What a point finds in window 0. -/
theorem before1_0 (c : Dev nD) (t : Fin cfg1.N) (d) : (dat1 V c).before 0 t d = blk V c 0 t :=
  ((dat1 V c).before_in_eq_fetched 0 rfl (fun _ => rfl) (fun _ _ _ => rfl) (fun t => by rw [after1_0]; unfold Dat.blockOf blk; rw [A_eq1]; try rfl) t d).trans
    (by unfold Dat.fetched Dat.blockOf blk; rw [A_eq1]; try rfl)
/-- What a point finds in window 1. -/
theorem before1_1 (c : Dev nD) (t : Fin cfg1.N) (d) : (dat1 V c).before 1 t d = blk V c 1 t :=
  ((dat1 V c).before_in_eq_fetched 1 rfl (fun _ => rfl) (fun _ _ _ => rfl) (fun t => by rw [after1_1]; unfold Dat.blockOf blk; rw [A_eq1]; try rfl) t d).trans
    (by unfold Dat.fetched Dat.blockOf blk; rw [A_eq1]; try rfl)
/-- What a point finds in window 2. -/
theorem before1_2 (c : Dev nD) (t : Fin cfg1.N) (d) : (dat1 V c).before 2 t d = blk V c 2 t :=
  ((dat1 V c).before_in_eq_fetched 2 rfl (fun _ => rfl) (fun _ _ _ => rfl) (fun t => by rw [after1_2]; unfold Dat.blockOf blk; rw [A_eq1]; try rfl) t d).trans
    (by unfold Dat.fetched Dat.blockOf blk; rw [A_eq1]; try rfl)
/-- What a point finds in window 3. -/
theorem before1_3 (c : Dev nD) (t : Fin cfg1.N) (d) : (dat1 V c).before 3 t d = blk V c 3 t :=
  ((dat1 V c).before_in_eq_fetched 3 rfl (fun _ => rfl) (fun _ _ _ => rfl) (fun t => by rw [after1_3]; unfold Dat.blockOf blk; rw [A_eq1]; try rfl) t d).trans
    (by unfold Dat.fetched Dat.blockOf blk; rw [A_eq1]; try rfl)
/-- What a point finds in window 4. -/
theorem before1_4 (c : Dev nD) (t : Fin cfg1.N) (d) : (dat1 V c).before 4 t d = blk V c 4 t :=
  ((dat1 V c).before_in_eq_fetched 4 rfl (fun _ => rfl) (fun _ _ _ => rfl) (fun t => by rw [after1_4]; unfold Dat.blockOf blk; rw [A_eq1]; try rfl) t d).trans
    (by unfold Dat.fetched Dat.blockOf blk; rw [A_eq1]; try rfl)
/-- What a point finds in window 5. -/
theorem before1_5 (c : Dev nD) (t : Fin cfg1.N) (d) : (dat1 V c).before 5 t d = blk V c 5 t :=
  ((dat1 V c).before_in_eq_fetched 5 rfl (fun _ => rfl) (fun _ _ _ => rfl) (fun t => by rw [after1_5]; unfold Dat.blockOf blk; rw [A_eq1]; try rfl) t d).trans
    (by unfold Dat.fetched Dat.blockOf blk; rw [A_eq1]; try rfl)
/-- What a point finds in window 6. -/
theorem before1_6 (c : Dev nD) (t : Fin cfg1.N) (d) : (dat1 V c).before 6 t d = blk V c 6 t :=
  ((dat1 V c).before_in_eq_fetched 6 rfl (fun _ => rfl) (fun _ _ _ => rfl) (fun t => by rw [after1_6]; unfold Dat.blockOf blk; rw [A_eq1]; try rfl) t d).trans
    (by unfold Dat.fetched Dat.blockOf blk; rw [A_eq1]; try rfl)

/-! At a later point the codes and scales of the activation are the ones left before. -/

/-- The body leaves these two buffers alone exactly after the first point. -/
theorem idle_iff (t : Fin cfg1.N) : (cfg1.idle 8 (cfg1.grid.coords t) = true ↔ ¬t.val = 0) ∧ (cfg1.idle 9 (cfg1.grid.coords t) = true ↔ ¬t.val = 0) := by
  have h : (!(k1_cond1 (grid1.coords t) == 1#1)) = true ↔ ¬t.val = 0 := by
    rw [Bool.not_eq_true', beq_eq_false_iff_ne, ne_eq]
    exact not_congr (atFirst_iff t)
  exact ⟨h, h⟩

/-- Past the first point they hold what was stored there. -/
theorem not_fresh : ∀ n : ℕ, n + 1 < 4 → cfg1.fresh 8 (n + 1) = false ∧ cfg1.fresh 9 (n + 1) = false
  | n, hn => by
    have hN : n < cfg1.N := by rw [show cfg1.N = 4 from N_1]; omega
    have f8 : (cfg1.win 8).flush ⟨n, hN⟩ = false := Bool.eq_false_iff.mpr fun h => by have := (flush1_8 ⟨n, hN⟩).mp h; dsimp only at this; omega
    have f9 : (cfg1.win 9).flush ⟨n, hN⟩ = false := Bool.eq_false_iff.mpr fun h => by have := (flush1_9 ⟨n, hN⟩).mp h; dsimp only at this; omega
    rw [Pipeline.Cfg.fresh_succ cfg1 8 n hN, Pipeline.Cfg.fresh_succ cfg1 9 n hN, f8, f9]
    cases n with
    | zero =>
      have i8 : cfg1.idle 8 (cfg1.grid.coords ⟨0, hN⟩) = false := Bool.eq_false_iff.mpr fun h => ((idle_iff ⟨0, hN⟩).1.mp h) rfl
      rw [i8]
      exact ⟨rfl, rfl⟩
    | succ n =>
      have ih := not_fresh n (by omega)
      rw [ih.1, ih.2, Bool.and_false]
      exact ⟨rfl, rfl⟩

/-- What a point finds in window 8. -/
theorem before1_8 (c : Dev nD) (t : Fin cfg1.N) (h0 : ¬t.val = 0) (d) :
    (dat1 V c).before 8 t d = xcAt V c := by
  have hN : t.val < 4 := lt_of_lt_of_eq t.isLt (show cfg1.N = 4 from N_1)
  have hf : cfg1.fresh 8 t.val = false := by
    have := not_fresh (t.val - 1) (by omega)
    rw [show t.val - 1 + 1 = t.val by omega] at this
    exact this.1
  rw [(dat1 V c).before_out_traj 8 rfl (fun _ _ => rfl) (fun _ _ _ _ => by dsimp only [dat1]) t.val t rfl d, hf, if_neg Bool.false_ne_true]
  dsimp only [dat1]
/-- What a point finds in window 9. -/
theorem before1_9 (c : Dev nD) (t : Fin cfg1.N) (h0 : ¬t.val = 0) (d) :
    (dat1 V c).before 9 t d = xscAt V c := by
  have hN : t.val < 4 := lt_of_lt_of_eq t.isLt (show cfg1.N = 4 from N_1)
  have hf : cfg1.fresh 9 t.val = false := by
    have := not_fresh (t.val - 1) (by omega)
    rw [show t.val - 1 + 1 = t.val by omega] at this
    exact this.2
  rw [(dat1 V c).before_out_traj 9 rfl (fun _ _ => rfl) (fun _ _ _ _ => by dsimp only [dat1]) t.val t rfl d, hf, if_neg Bool.false_ne_true]
  dsimp only [dat1]
/-- The kept buffer is what the pipeline expects after any point. -/
theorem keep8 (c : Dev nD) (t : Fin cfg1.N) : owns (c : Thread nD τ) (stg8 t) fullShare (xcAt V c) ⊢ ((dat1 V c).leavesExact 8 t : sProp 𝕄) := by
  by_cases hi : cfg1.idle 8 (cfg1.grid.coords t) = true
  · by_cases hf : (cfg1.win 8).flush t = true
    · unfold Dat.leavesExact
      rw [hi, hf, after1_8]
    · rw [(dat1 V c).leavesExact_idle 8 t hi (Bool.eq_false_iff.mpr hf)]
      iintro H
      iexists (xcAt V c)
      rw [before1_8 V c t ((idle_iff t).1.mp hi)]
      iexact H
  · unfold Dat.leavesExact
    rw [Bool.eq_false_iff.mpr hi, after1_8]

/-- The kept buffer is what the pipeline expects after any point. -/
theorem keep9 (c : Dev nD) (t : Fin cfg1.N) : owns (c : Thread nD τ) (stg9 t) fullShare (xscAt V c) ⊢ ((dat1 V c).leavesExact 9 t : sProp 𝕄) := by
  by_cases hi : cfg1.idle 9 (cfg1.grid.coords t) = true
  · by_cases hf : (cfg1.win 9).flush t = true
    · unfold Dat.leavesExact
      rw [hi, hf, after1_9]
    · rw [(dat1 V c).leavesExact_idle 9 t hi (Bool.eq_false_iff.mpr hf)]
      iintro H
      iexists (xscAt V c)
      rw [before1_9 V c t ((idle_iff t).2.mp hi)]
      iexact H
  · unfold Dat.leavesExact
    rw [Bool.eq_false_iff.mpr hi, after1_9]

/-! ## The body at a generic point -/

/-- What the body is called with, -/
def bodyPre (c : Dev nD) (t : Fin cfg1.N) : sProp 𝕄 :=
  iprop((dat1 V c).Φ t.castSucc ∗ (dat1 V c).owesAt () t.castSucc
    ∗ (∃ d, owns (c : Thread nD τ) (stg0 t) fullShare ((dat1 V c).before 0 t d))
    ∗ (∃ d, owns (c : Thread nD τ) (stg1 t) fullShare ((dat1 V c).before 1 t d))
    ∗ (∃ d, owns (c : Thread nD τ) (stg2 t) fullShare ((dat1 V c).before 2 t d))
    ∗ (∃ d, owns (c : Thread nD τ) (stg3 t) fullShare ((dat1 V c).before 3 t d))
    ∗ (∃ d, owns (c : Thread nD τ) (stg4 t) fullShare ((dat1 V c).before 4 t d))
    ∗ (∃ d, owns (c : Thread nD τ) (stg5 t) fullShare ((dat1 V c).before 5 t d))
    ∗ (∃ d, owns (c : Thread nD τ) (stg6 t) fullShare ((dat1 V c).before 6 t d))
    ∗ (∃ d, owns (c : Thread nD τ) (stg7 t) fullShare ((dat1 V c).before 7 t d))
    ∗ (∃ d, owns (c : Thread nD τ) (stg8 t) fullShare ((dat1 V c).before 8 t d))
    ∗ (∃ d, owns (c : Thread nD τ) (stg9 t) fullShare ((dat1 V c).before 9 t d))
    ∗ (∃ d, owns (c : Thread nD τ) (stg10 t) fullShare ((dat1 V c).before 10 t d))
    ∗ (∃ d, owns (c : Thread nD τ) (stg11 t) fullShare ((dat1 V c).before 11 t d)))

/-- and what it returns. -/
def bodyPost (c : Dev nD) (t : Fin cfg1.N) : sProp 𝕄 :=
  iprop((dat1 V c).Φ t.succ ∗ (dat1 V c).owesAt () t.succ
    ∗ owns (c : Thread nD τ) (stg0 t) fullShare ((dat1 V c).after 0 t)
    ∗ owns (c : Thread nD τ) (stg1 t) fullShare ((dat1 V c).after 1 t)
    ∗ owns (c : Thread nD τ) (stg2 t) fullShare ((dat1 V c).after 2 t)
    ∗ owns (c : Thread nD τ) (stg3 t) fullShare ((dat1 V c).after 3 t)
    ∗ owns (c : Thread nD τ) (stg4 t) fullShare ((dat1 V c).after 4 t)
    ∗ owns (c : Thread nD τ) (stg5 t) fullShare ((dat1 V c).after 5 t)
    ∗ owns (c : Thread nD τ) (stg6 t) fullShare ((dat1 V c).after 6 t)
    ∗ owns (c : Thread nD τ) (stg7 t) fullShare ((dat1 V c).after 7 t)
    ∗ (dat1 V c).leavesExact 8 t
    ∗ (dat1 V c).leavesExact 9 t
    ∗ owns (c : Thread nD τ) (stg10 t) fullShare ((dat1 V c).after 10 t)
    ∗ owns (c : Thread nD τ) (stg11 t) fullShare ((dat1 V c).after 11 t))

set_option maxHeartbeats 4000000 in
/-- The body at any point: the first point's triple or a later point's. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6]
  rw [show (dat1 V c).owesAt () t.succ = (dat1 V c).owesAt () t.castSucc from rfl,
    after1_0, after1_1, after1_2, after1_3, after1_4, after1_5, after1_6, after1_7, after1_10, after1_11]
  rw [show (dat1 V c).Φ t.succ = Phi V c (t.val + 1) t.isLt from rfl, Phi_succ, dwAt, qcAt, qscAt]
  by_cases h0 : t.val = 0
  · rw [Phi_castSucc V c t, Phi_zero V c _ _ h0, rest_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (point_A c (grid1.coords t) _ _ _ _ _ _ _ _ _ _ _ _ _ _ _ _ _ _ _ _ _ _ _ _ _ _ ((atFirst_iff t).mpr h0) (blk V c 0 t) (blk V c 1 t) (blk V c 2 t) (blk V c 3 t) (blk V c 4 t) (blk V c 5 t) (blk V c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    rw [← (kept_zero V c t h0).1, ← (kept_zero V c t h0).2.1, ← (kept_zero V c t h0).2.2]
    iintro ⟨H0, H1, H2, H3, H4, H5, H6, H7, H8, H9, H10, H11, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (keep8 V c t); iexact H8
    isplitl [H9]; · iapply (keep9 V c t); iexact H9
    isplitl [H10]; · iexact H10
    iexact H11
  · simp only [before1_8 V c t h0, before1_9 V c t h0]
    rw [Phi_castSucc V c t, Phi_pos V c _ _ h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (point_B c (grid1.coords t) _ _ _ _ _ _ _ _ _ _ _ _ _ _ _ _ _ _ _ _ _ _ _ _ _ _ (fun h => h0 ((atFirst_iff t).mp h)) (blk V c 0 t) (blk V c 1 t) (blk V c 2 t) (blk V c 3 t) (blk V c 4 t) (blk V c 5 t) (blk V c 6 t) (xcAt V c) (xscAt V c) (colAt V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexists _; iexact H10
    isplitl [H11]; · iexists _; iexact H11
    isplitl [HS0]; · iexact HS0
    iintro ⟨H0, H1, H2, H3, H4, H5, H6, H7, H8, H9, H10, H11, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (keep8 V c t); iexact H8
    isplitl [H9]; · iapply (keep9 V c t); iexact H9
    isplitl [H10]; · iexact H10
    iexact H11

set_option maxHeartbeats 2000000 in
/-- The library's body obligation, at every point. -/
theorem body_obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  exact triple_restated (sound_body V c t) rfl .rfl fun _ => .rfl

/-- What the launch hands the region is what is held before the first point. -/
theorem hin1 (c : Dev nD) : Pipeline.ΦA spec1 c ⊢ (dat1 V c).Φ 0 := by
  rw [show (dat1 V c).Φ 0 = Phi V c 0 (Nat.zero_le _) from rfl, Phi_zero V c 0 _ rfl]
  try exact Idealize.SL.BI.Entails.refl _

/-- After the last point the carried buffer's contents are forgotten. -/
theorem hout1 (c : Dev nD) : (dat1 V c).Φ (Fin.last cfg1.N) ⊢ Pipeline.ΦA spec1 c := by
  have hN : cfg1.N = 4 := N_1
  rw [show (dat1 V c).Φ (Fin.last cfg1.N) = Phi V c cfg1.N le_rfl from rfl, Phi_pos V c _ _ (by omega), rest_eq]
  iintro ⟨HS0, Hg⟩
  isplitl [HS0]
  · iexists _; iexact HS0
  iexact Hg

end Cert.KernelIdeal.Cols

end
-- ==== Proof.DwVal.lean ====
module

public import proofs.«01_k».proof.Proof.DwPoint
public import proofs.«01_k».proof.Proof.Spec
public import Idealize.ShloMosaic.Lib.Pipeline.ValueKit

@[expose] public section

noncomputable section

namespace Cert.KernelIdeal.Cols

open Idealize.ShloMosaic Cert.KernelIdeal Cert.KernelIdeal.Gen Cert.Blocks Cert.Quant Cert.Spec

variable (iv g : Vec Ideal S1x1536 .f32) (xs rs : Vec Ideal S4x512 .f32) (x : Vec Ideal S2048x1536 .fp8e4m3)

/-! ## The quantiser's values -/

/-- The field of a column's scale, found over the whole row at once. -/
theorem pay3_at (v : Vec Ideal S1x1536 .f32) (d : Fin 1536) : k1_pay3 v (ix2 0 d) = field (ratio (v (ix2 0 d))) := by
  pointwise [k1_pay3, field, ratio]

/-- The scales of the activation's columns. -/
theorem pay5_at (v : Vec Ideal S1x1536 .f32) (d : Fin 1536) : k1_pay5 v (ix2 0 d) = scaleOf (ratio (v (ix2 0 d))) := by
  have h := pay3_at v d
  pointwise [k1_pay5, k1_pay4]
  rw [h]; rfl

/-- Their inverses. -/
theorem pay6_at (v : Vec Ideal S1x1536 .f32) (d : Fin 1536) : k1_pay6 v (ix2 0 d) = invOf (ratio (v (ix2 0 d))) := by
  have h := pay3_at v d
  pointwise [k1_pay6, k1_pay4]
  rw [h]; rfl

/-- The scales as a column. -/
theorem pay7_at (v : Vec Ideal S1x1536 .f32) (d : Fin 1536) (l : Fin 128) : k1_pay7 v (ix2 d l) = k1_pay5 v (ix2 0 d) := by
  pointwise [k1_pay7]

/-- The field of a column's scale, of a block of the incoming gradient. -/
theorem pay59_at (v : Vec Ideal S1x512 .f32) (d : Fin 512) : k1_pay59 v (ix2 0 d) = field (ratio (v (ix2 0 d))) := by
  pointwise [k1_pay59, field, ratio]

/-- The scales of the block's columns. -/
theorem pay61_at (v : Vec Ideal S1x512 .f32) (d : Fin 512) : k1_pay61 v (ix2 0 d) = scaleOf (ratio (v (ix2 0 d))) := by
  have h := pay59_at v d
  pointwise [k1_pay61, k1_pay60]
  rw [h]; rfl

/-- Their inverses. -/
theorem pay62_at (v : Vec Ideal S1x512 .f32) (d : Fin 512) : k1_pay62 v (ix2 0 d) = invOf (ratio (v (ix2 0 d))) := by
  have h := pay59_at v d
  pointwise [k1_pay62, k1_pay60]
  rw [h]; rfl

/-- The codes of the block. -/
theorem pay1_at (i : Vec Ideal S1x512 .f32) (q : Vec Ideal S2048x512 .bf16) (r : Fin 2048) (k : Fin 512) :
    k1_pay1 i (k1_pay63 q) (ix2 r k) = clip (q (ix2 r k) * i (ix2 0 k)) := by
  pointwise [k1_pay1, k1_pay63, clip]

/-- The product of the codes, scaled back. -/
theorem pay2_at (sc : Vec Ideal S1x512 .f32) (xc : Vec Ideal S2048x1536 .fp8e4m3) (qc : Vec Ideal S2048x512 .fp8e4m3) (col : Vec Ideal S1536x1 .f32) (d : Fin 1536) (k : Fin 512) :
    k1_pay2 sc xc qc col (ix2 d k) = (∑ r : Fin 2048, xc (ix2 r d) * qc (ix2 r k)) * (col (ix2 d 0) * sc (ix2 0 k)) := by
  pointwise [k1_pay2]

/-! ## The activation's codes -/

/-- Row `r` of chunk `q`, among all the rows. -/
def crow (q : Fin 32) (r : Fin 64) : Fin 2048 := ⟨64 * q.val + r.val, by have := q.isLt; have := r.isLt; omega⟩

/-- A row's factor lies at position `r % 512` of line `r / 512`. -/
theorem factors_at (v : Vec Ideal S4x512 .f32) (q : Fin 32) (r : Fin 64) :
    factors v q (ix2 r 0) = v (ix2 (row 4 ((crow q r).val / 512)) (row 512 ((crow q r).val % 512))) := by
  have hq := q.isLt
  have hr := r.isLt
  refine congrArg v (funext fun a => Fin.ext ?_)
  match a with
  | ⟨0, _⟩ =>
    rw [row_of_lt (n := 4) (r := (crow q r).val / 512) (by show (64 * q.val + r.val) / 512 < 4; omega)]
    show q.val / 8 + 1 * 0 = (64 * q.val + r.val) / 512
    omega
  | ⟨1, _⟩ =>
    rw [row_of_lt (n := 512) (r := (crow q r).val % 512) (by show (64 * q.val + r.val) % 512 < 512; omega)]
    show 0 + 1 * (64 * (q.val % 8) + r.val) = (64 * q.val + r.val) % 512
    omega

/-- A chunk of the array. -/
theorem rows_at (x : Vec Ideal S2048x1536 .fp8e4m3) (q : Fin 32) (r : Fin 64) (d : Fin 1536) :
    View.ld x (rowsOf q) (ix2 r d) = x (ix2 (crow q r) d) := by
  refine congrArg x (funext fun a => Fin.ext ?_)
  match a with
  | ⟨0, _⟩ => show 64 * q.val + 1 * r.val = 64 * q.val + r.val; omega
  | ⟨1, _⟩ => show 0 + 1 * d.val = d.val; omega

/-- A chunk's codes. -/
theorem codes_at (q : Fin 32) (r : Fin 64) (d : Fin 1536) :
    codesOf iv g xs rs x q (ix2 r d) = clip (View.ld x (rowsOf q) (ix2 r d) * factors xs q (ix2 r 0) * factors rs q (ix2 r 0) * g (ix2 0 d) * iv (ix2 0 d)) := by
  pointwise [codesOf, k1_pay8, clip]

/-- The code of one entry. -/
def codeAt (r : Fin 2048) (d : Fin 1536) : EReal :=
  clip (x (ix2 r d) * xs (ix2 (row 4 (r.val / 512)) (row 512 (r.val % 512)))
    * rs (ix2 (row 4 (r.val / 512)) (row 512 (r.val % 512))) * g (ix2 0 d) * iv (ix2 0 d))

/-- A chunk's codes, entry by entry. -/
theorem codes_crow (q : Fin 32) (r : Fin 64) (d : Fin 1536) : codesOf iv g xs rs x q (ix2 r d) = codeAt iv g xs rs x (crow q r) d := by
  rw [codes_at, rows_at, factors_at, factors_at]
  rfl

/-- Where a chunk's entry lies. -/
theorem rowsOf_emb (q : Fin 32) (r : Fin 64) (d : Fin 1536) : (rowsOf q).emb (ix2 r d) = ix2 (crow q r) d :=
  funext fun a => Fin.ext (by
    match a with
    | ⟨0, _⟩ => show 64 * q.val + 1 * r.val = 64 * q.val + r.val; omega
    | ⟨1, _⟩ => show 0 + 1 * d.val = d.val; omega)

/-- The codes as one function of the array's indices. -/
def codeFn : Vec Ideal S2048x1536 .fp8e4m3 := fun z => codeAt iv g xs rs x (z 0) (z 1)

/-- A chunk's codes, among all the codes. -/
theorem codes_emb (q : Fin 32) (r : Fin 64) (d : Fin 1536) :
    codesOf iv g xs rs x q (ix2 r d) = codeFn iv g xs rs x ((rowsOf q).emb (ix2 r d)) :=
  (codes_crow iv g xs rs x q r d).trans (congrArg (codeFn iv g xs rs x) (rowsOf_emb q r d)).symm

/-- Every store writes its part of the codes. -/
theorem stores_at (n : ℕ) (hn : n ≤ 32) (p : View.Piece (Elt Ideal) S2048x1536 .fp8e4m3) (hp : p ∈ stores iv g xs rs x n hn) (y : p.1.shape.Idx) :
    p.2 y = codeFn iv g xs rs x (p.1.emb y) := by
  obtain ⟨q, rfl⟩ := of_mem_stores iv g xs rs x n hn p hp
  obtain ⟨r, d, rfl⟩ : ∃ (r : Fin 64) (d : Fin 1536), y = ix2 r d := ⟨y 0, y 1, eq_ix2 y⟩
  exact codes_emb iv g xs rs x q r d

/-- All the codes. -/
theorem xcOf_eq : xcOf iv g xs rs x = codeFn iv g xs rs x := by
  have hs := stores_at iv g xs rs x 32 le_rfl
  have hc := stores_cover iv g xs rs x
  unfold xcOf
  generalize stores iv g xs rs x 32 le_rfl = L at hs hc ⊢
  funext z
  exact View.canon_apply_of_pieces (codeFn iv g xs rs x) L hs z (hc z)

/-- A block of the weight's gradient. -/
theorem dwOf_at (xc : Vec Ideal S2048x1536 .fp8e4m3) (i sc : Vec Ideal S1x512 .f32) (q : Vec Ideal S2048x512 .bf16) (col : Vec Ideal S1536x128 .f32) (d : Fin 1536) (k : Fin 512) :
    dwOf xc i sc q col (ix2 d k) = (∑ r : Fin 2048, xc (ix2 r d) * clip (q (ix2 r k) * i (ix2 0 k))) * (col (ix2 d 0) * sc (ix2 0 k)) := by
  have hc : View.ld col (Rect.unit (s := S1536x128) ![0, 0] S1536x1.size inb_S1536x128_S1536x1_0_0) (ix2 d 0) = col (ix2 d 0) := by
    refine congrArg col (funext fun a => Fin.ext ?_)
    match a with
    | ⟨0, _⟩ => show 0 + 1 * d.val = d.val; omega
    | ⟨1, _⟩ => rfl
  unfold dwOf
  rw [pay2_at, hc]
  simp only [pay1_at]

end Cert.KernelIdeal.Cols

end
-- ==== Proof.DwRegionVal.lean ====
module

public import proofs.«01_k».proof.Proof.DwRegion
public import proofs.«01_k».proof.Proof.DwVal

@[expose] public section

noncomputable section

namespace Cert.KernelIdeal.Cols

open Idealize.ShloMosaic Idealize.ShloMosaic.TcCoe Idealize.SL.Sem
open Idealize.ShloMosaic.Pipeline (Dat Cfg Window)
open Cert.KernelIdeal Cert.KernelIdeal.Gen Cert.Blocks Cert.Quant Cert.Spec

variable (V : (c : Dev nD) → (b : Ref sig .tc) → Buf (Elt Ideal) ((c : Thread nD τ).loc b))
variable (c : Dev nD) (I : Inp)

/-- The arrays the second region finds are the layer's operands, with the column maxima of its own quantities. -/
structure Finds : Prop where
  x : ∀ r d, (V c (Pipeline.arrRef spec1 5) : Vec Ideal S2048x1536 .fp8e4m3) (ix2 r d) = I.x r d
  xs : ∀ r : Fin 2048, (V c (Pipeline.arrRef spec1 0) : Vec Ideal S4x512 .f32) (ix2 (row 4 (r.val / 512)) (row 512 (r.val % 512))) = I.xs r
  rs : ∀ r : Fin 2048, (V c (Pipeline.arrRef spec1 1) : Vec Ideal S4x512 .f32) (ix2 (row 4 (r.val / 512)) (row 512 (r.val % 512))) = I.rs r
  g : ∀ d, (V c (Pipeline.arrRef spec1 2) : Vec Ideal S1x1536 .f32) (ix2 0 d) = I.g d
  xm : ∀ d, (V c (Pipeline.arrRef spec1 3) : Vec Ideal S1x1536 .f32) (ix2 0 d) = xmax I d
  qm : ∀ k, (V c (Pipeline.arrRef spec1 4) : Vec Ideal S1x2048 .f32) (ix2 0 k) = qmax I k
  dq : ∀ r k, (V c (Pipeline.arrRef spec1 6) : Vec Ideal S2048x2048 .bf16) (ix2 r k) = I.dq r k

/-! ## The blocks -/

/-- Which block each point takes: of the column windows its own, of the whole windows the only one. -/
theorem index_eq : ∀ t : Fin cfg1.N, win1_0.index t = ![0, 0] ∧ win1_1.index t = ![0, 0] ∧ win1_2.index t = ![0, 0]
    ∧ win1_3.index t = ![0, 0] ∧ win1_4.index t = ![0, t.val] ∧ win1_5.index t = ![0, 0] ∧ win1_6.index t = ![0, t.val] ∧ win1_7.index t = ![0, t.val]
    ∧ win1_8.index t = ![0, 0] ∧ win1_9.index t = ![0, 0] ∧ win1_10.index t = ![0, t.val] ∧ win1_11.index t = ![0, t.val] :=
  (by decide +kernel : ∀ t : Fin grid1.N, _)

variable (t : Fin cfg1.N)

/-- Column `k` of point `t`'s block, among all the columns. -/
def gcol (t : Fin cfg1.N) (k : Fin 512) : Fin 2048 :=
  ⟨512 * t.val + k.val, by have h : t.val < 4 := lt_of_lt_of_eq t.isLt N_1; have := k.isLt; omega⟩

/-- The block of the activations' scales is the whole array. -/
theorem blk0_eq : blk V c 0 t = (V c (Pipeline.arrRef spec1 0) : Vec Ideal S4x512 .f32) := by
  funext y
  refine congrArg (V c (Pipeline.arrRef spec1 0)) (funext fun a => Fin.ext ?_)
  have e := (index_eq t).1
  match a with
  | ⟨0, _⟩ => show win1_0.index t 0 * 4 + 1 * (y 0).val = (y 0).val; rw [e]; show 0 * 4 + 1 * (y 0).val = _; omega
  | ⟨1, _⟩ => show win1_0.index t 1 * 512 + 1 * (y 1).val = (y 1).val; rw [e]; show 0 * 512 + 1 * (y 1).val = _; omega

/-- The block of the reciprocal roots is the whole array. -/
theorem blk1_eq : blk V c 1 t = (V c (Pipeline.arrRef spec1 1) : Vec Ideal S4x512 .f32) := by
  funext y
  refine congrArg (V c (Pipeline.arrRef spec1 1)) (funext fun a => Fin.ext ?_)
  have e := (index_eq t).2.1
  match a with
  | ⟨0, _⟩ => show win1_1.index t 0 * 4 + 1 * (y 0).val = (y 0).val; rw [e]; show 0 * 4 + 1 * (y 0).val = _; omega
  | ⟨1, _⟩ => show win1_1.index t 1 * 512 + 1 * (y 1).val = (y 1).val; rw [e]; show 0 * 512 + 1 * (y 1).val = _; omega

/-- The block of the gain is the whole array. -/
theorem blk2_eq : blk V c 2 t = (V c (Pipeline.arrRef spec1 2) : Vec Ideal S1x1536 .f32) := by
  funext y
  refine congrArg (V c (Pipeline.arrRef spec1 2)) (funext fun a => Fin.ext ?_)
  have e := (index_eq t).2.2.1
  match a with
  | ⟨0, _⟩ => show win1_2.index t 0 * 1 + 1 * (y 0).val = (y 0).val; rw [e]; show 0 * 1 + 1 * (y 0).val = _; omega
  | ⟨1, _⟩ => show win1_2.index t 1 * 1536 + 1 * (y 1).val = (y 1).val; rw [e]; show 0 * 1536 + 1 * (y 1).val = _; omega

/-- The block of the activations' column maxima is the whole array. -/
theorem blk3_eq : blk V c 3 t = (V c (Pipeline.arrRef spec1 3) : Vec Ideal S1x1536 .f32) := by
  funext y
  refine congrArg (V c (Pipeline.arrRef spec1 3)) (funext fun a => Fin.ext ?_)
  have e := (index_eq t).2.2.2.1
  match a with
  | ⟨0, _⟩ => show win1_3.index t 0 * 1 + 1 * (y 0).val = (y 0).val; rw [e]; show 0 * 1 + 1 * (y 0).val = _; omega
  | ⟨1, _⟩ => show win1_3.index t 1 * 1536 + 1 * (y 1).val = (y 1).val; rw [e]; show 0 * 1536 + 1 * (y 1).val = _; omega

/-- The block of the activations is the whole array. -/
theorem blk5_eq : blk V c 5 t = (V c (Pipeline.arrRef spec1 5) : Vec Ideal S2048x1536 .fp8e4m3) := by
  funext y
  refine congrArg (V c (Pipeline.arrRef spec1 5)) (funext fun a => Fin.ext ?_)
  have e := (index_eq t).2.2.2.2.2.1
  match a with
  | ⟨0, _⟩ => show win1_5.index t 0 * 2048 + 1 * (y 0).val = (y 0).val; rw [e]; show 0 * 2048 + 1 * (y 0).val = _; omega
  | ⟨1, _⟩ => show win1_5.index t 1 * 1536 + 1 * (y 1).val = (y 1).val; rw [e]; show 0 * 1536 + 1 * (y 1).val = _; omega

variable {V c I}

/-- The block of the incoming gradient's column maxima. -/
theorem blk4_at (h : Finds V c I) (k : Fin 512) : blk V c 4 t (ix2 0 k) = qmax I (gcol t k) := by
  refine (congrArg (V c (Pipeline.arrRef spec1 4)) (funext fun a => Fin.ext ?_)).trans (h.qm (gcol t k))
  have e := (index_eq t).2.2.2.2.1
  match a with
  | ⟨0, _⟩ => show win1_4.index t 0 * 1 + 1 * 0 = 0; rw [e]; rfl
  | ⟨1, _⟩ => show win1_4.index t 1 * 512 + 1 * k.val = 512 * t.val + k.val; rw [e]; show t.val * 512 + 1 * k.val = _; omega

/-- The block of the incoming gradient. -/
theorem blk6_at (h : Finds V c I) (r : Fin 2048) (k : Fin 512) : blk V c 6 t (ix2 r k) = I.dq r (gcol t k) := by
  refine (congrArg (V c (Pipeline.arrRef spec1 6)) (funext fun a => Fin.ext ?_)).trans (h.dq r (gcol t k))
  have e := (index_eq t).2.2.2.2.2.2.1
  match a with
  | ⟨0, _⟩ => show win1_6.index t 0 * 2048 + 1 * r.val = r.val; rw [e]; show 0 * 2048 + 1 * r.val = _; omega
  | ⟨1, _⟩ => show win1_6.index t 1 * 512 + 1 * k.val = 512 * t.val + k.val; rw [e]; show t.val * 512 + 1 * k.val = _; omega

/-! ## What a point computes, in the layer's own terms -/

/-- The activations' scales. -/
theorem xscAt_at (h : Finds V c I) (d : Fin 1536) : xscAt V c (ix2 0 d) = scale (xmax I d) := by
  rw [xscAt, blk3_eq, pay5_at, h.xm, scaleOf_eq (ratio_nonneg (xmax_nonneg I d))]
  rfl

/-- The same, as a column. -/
theorem colAt_at (h : Finds V c I) (d : Fin 1536) (l : Fin 128) : colAt V c (ix2 d l) = scale (xmax I d) := by
  rw [colAt, blk3_eq, pay7_at, pay5_at, h.xm, scaleOf_eq (ratio_nonneg (xmax_nonneg I d))]
  rfl

/-- The activations' codes. -/
theorem xcAt_at (h : Finds V c I) (r : Fin 2048) (d : Fin 1536) : xcAt V c (ix2 r d) = xcode I r d := by
  rw [xcAt, xcOf_eq]
  refine (show _ = codeAt _ _ _ _ _ r d from rfl).trans ?_
  rw [codeAt, pay6_at, blk0_eq, blk1_eq, blk2_eq, blk3_eq, blk5_eq, h.xm, h.x, h.xs, h.rs, h.g, invOf_eq (ratio_nonneg (xmax_nonneg I d))]
  rfl

/-- The incoming gradient's scales. -/
theorem qscAt_at (h : Finds V c I) (k : Fin 512) : qscAt V c t (ix2 0 k) = scale (qmax I (gcol t k)) := by
  rw [qscAt, pay61_at, blk4_at t h, scaleOf_eq (ratio_nonneg (qmax_nonneg I _))]
  rfl

/-- Their inverses. -/
theorem qinv_at (h : Finds V c I) (k : Fin 512) : k1_pay62 (blk V c 4 t) (ix2 0 k) = inv (qmax I (gcol t k)) := by
  rw [pay62_at, blk4_at t h, invOf_eq (ratio_nonneg (qmax_nonneg I _))]
  rfl

/-- The incoming gradient's codes. -/
theorem qcAt_at (h : Finds V c I) (r : Fin 2048) (k : Fin 512) : qcAt V c t (ix2 r k) = qcode I r (gcol t k) := by
  rw [qcAt, pay1_at, qinv_at t h, blk6_at t h]
  rfl

/-- The weight's gradient. -/
theorem dwAt_at (h : Finds V c I) (d : Fin 1536) (k : Fin 512) : dwAt V c t (ix2 d k) = dw I d (gcol t k) := by
  have hs : k1_pay61 (blk V c 4 t) (ix2 0 k) = scale (qmax I (gcol t k)) := qscAt_at t h k
  rw [dwAt, dwOf_at, hs, qinv_at t h, colAt_at h]
  simp only [xcAt_at h, blk6_at t h]
  rfl

/-! ## The arrays after the region -/

/-- The weight's gradient after the region. -/
theorem final7 (h : Finds V c I) : (dat1 V c).arrAt 7 cfg1.N = (fun i => dw I (i 0) (i 1) : Vec Ideal S1536x2048 .f32) := by
  refine (dat1 V c).arrAt_eq_of_cover 7 _ (fun t _ => ?_) (fun i => ?_)
  · show (cfg1.win 7).cut (grid1.coords t) ((dat1 V c).after 7 t) = _
    rw [after1_7]
    funext y
    have e := (index_eq t).2.2.2.2.2.2.2.1
    have ey : y = ix2 (y 0) (y 1) := eq_ix2 y
    have h0 : ((cfg1.win 7).blk t).view.emb y 0 = y 0 := Fin.ext (by
      show win1_7.index t 0 * 1536 + 1 * (y 0).val = (y 0).val
      rw [e]; show 0 * 1536 + 1 * (y 0).val = _; omega)
    have h1 : ((cfg1.win 7).blk t).view.emb y 1 = gcol t (y 1) := Fin.ext (by
      show win1_7.index t 1 * 512 + 1 * (y 1).val = 512 * t.val + (y 1).val
      rw [e]; show t.val * 512 + 1 * (y 1).val = _; omega)
    show dwAt V c t y = dw I (((cfg1.win 7).blk t).view.emb y 0) (((cfg1.win 7).blk t).view.emb y 1)
    rw [h0, h1]
    exact (congrArg (dwAt V c t) ey).trans (dwAt_at t h (y 0) (y 1))
  · have hi0 : (i 0).val < 1536 := (i 0).isLt
    have hi1 : (i 1).val < 2048 := (i 1).isLt
    let t : Fin cfg1.N := ⟨(i 1).val / 512, lt_of_lt_of_eq (by omega) N_1.symm⟩
    have e := (index_eq t).2.2.2.2.2.2.2.1
    refine ⟨t, flush1_7 t, ?_⟩
    show i ∈ ((View.whole main_v5_0).slice (win1_7.rect t)).set
    rw [View.set_slice_whole, Rect.mem_set_unit]
    intro a
    match a with
    | ⟨0, _⟩ =>
      show win1_7.index t 0 * 1536 ≤ (i 0).val ∧ (i 0).val < win1_7.index t 0 * 1536 + 1536
      rw [e]; show 0 * 1536 ≤ _ ∧ _ < 0 * 1536 + 1536; omega
    | ⟨1, _⟩ =>
      show win1_7.index t 1 * 512 ≤ (i 1).val ∧ (i 1).val < win1_7.index t 1 * 512 + 512
      rw [e]; show (i 1).val / 512 * 512 ≤ _ ∧ _ < (i 1).val / 512 * 512 + 512; omega

/-- The last point, the one that writes the whole arrays back. -/
def lastPt : Fin cfg1.N := ⟨3, lt_of_lt_of_eq (by decide) N_1.symm⟩

/-- The activations' codes after the region. -/
theorem final8 (h : Finds V c I) : (dat1 V c).arrAt 8 cfg1.N = (fun i => xcode I (i 0) (i 1) : Vec Ideal S2048x1536 .fp8e4m3) := by
  refine (dat1 V c).arrAt_eq_of_cover 8 _ (fun t _ => ?_) (fun i => ⟨lastPt, (flush1_8 lastPt).mpr rfl, ?_⟩)
  · show (cfg1.win 8).cut (grid1.coords t) ((dat1 V c).after 8 t) = _
    rw [after1_8]
    funext y
    have e := (index_eq t).2.2.2.2.2.2.2.2.1
    have ey : y = ix2 (y 0) (y 1) := eq_ix2 y
    have h0 : ((cfg1.win 8).blk t).view.emb y 0 = y 0 := Fin.ext (by
      show win1_8.index t 0 * 2048 + 1 * (y 0).val = (y 0).val
      rw [e]; show 0 * 2048 + 1 * (y 0).val = _; omega)
    have h1 : ((cfg1.win 8).blk t).view.emb y 1 = y 1 := Fin.ext (by
      show win1_8.index t 1 * 1536 + 1 * (y 1).val = (y 1).val
      rw [e]; show 0 * 1536 + 1 * (y 1).val = _; omega)
    show xcAt V c y = xcode I (((cfg1.win 8).blk t).view.emb y 0) (((cfg1.win 8).blk t).view.emb y 1)
    rw [h0, h1]
    exact (congrArg (xcAt V c) ey).trans (xcAt_at h (y 0) (y 1))
  · have hi0 : (i 0).val < 2048 := (i 0).isLt
    have hi1 : (i 1).val < 1536 := (i 1).isLt
    have e := (index_eq lastPt).2.2.2.2.2.2.2.2.1
    show i ∈ ((View.whole main_v5_1).slice (win1_8.rect lastPt)).set
    rw [View.set_slice_whole, Rect.mem_set_unit]
    intro a
    match a with
    | ⟨0, _⟩ =>
      show win1_8.index lastPt 0 * 2048 ≤ (i 0).val ∧ (i 0).val < win1_8.index lastPt 0 * 2048 + 2048
      rw [e]; show 0 * 2048 ≤ _ ∧ _ < 0 * 2048 + 2048; omega
    | ⟨1, _⟩ =>
      show win1_8.index lastPt 1 * 1536 ≤ (i 1).val ∧ (i 1).val < win1_8.index lastPt 1 * 1536 + 1536
      rw [e]; show 0 * 1536 ≤ _ ∧ _ < 0 * 1536 + 1536; omega

/-- The activations' scales after the region. -/
theorem final9 (h : Finds V c I) : (dat1 V c).arrAt 9 cfg1.N = (fun i => scale (xmax I (i 1)) : Vec Ideal S1x1536 .f32) := by
  refine (dat1 V c).arrAt_eq_of_cover 9 _ (fun t _ => ?_) (fun i => ⟨lastPt, (flush1_9 lastPt).mpr rfl, ?_⟩)
  · show (cfg1.win 9).cut (grid1.coords t) ((dat1 V c).after 9 t) = _
    rw [after1_9]
    funext y
    have e := (index_eq t).2.2.2.2.2.2.2.2.2.1
    have ey : y = ix2 (y 0) (y 1) := eq_ix2 y
    have h1 : ((cfg1.win 9).blk t).view.emb y 1 = y 1 := Fin.ext (by
      show win1_9.index t 1 * 1536 + 1 * (y 1).val = (y 1).val
      rw [e]; show 0 * 1536 + 1 * (y 1).val = _; omega)
    show xscAt V c y = scale (xmax I (((cfg1.win 9).blk t).view.emb y 1))
    rw [h1]
    have e0 : y 0 = (0 : Fin 1) := Subsingleton.elim (α := Fin 1) _ _
    rw [ey, e0]
    exact xscAt_at h (y 1)
  · have hi0 : (i 0).val < 1 := (i 0).isLt
    have hi1 : (i 1).val < 1536 := (i 1).isLt
    have e := (index_eq lastPt).2.2.2.2.2.2.2.2.2.1
    show i ∈ ((View.whole main_v5_2).slice (win1_9.rect lastPt)).set
    rw [View.set_slice_whole, Rect.mem_set_unit]
    intro a
    match a with
    | ⟨0, _⟩ =>
      show win1_9.index lastPt 0 * 1 ≤ (i 0).val ∧ (i 0).val < win1_9.index lastPt 0 * 1 + 1
      rw [e]; show 0 * 1 ≤ _ ∧ _ < 0 * 1 + 1; omega
    | ⟨1, _⟩ =>
      show win1_9.index lastPt 1 * 1536 ≤ (i 1).val ∧ (i 1).val < win1_9.index lastPt 1 * 1536 + 1536
      rw [e]; show 0 * 1536 ≤ _ ∧ _ < 0 * 1536 + 1536; omega

/-- The incoming gradient's codes after the region. -/
theorem final10 (h : Finds V c I) : (dat1 V c).arrAt 10 cfg1.N = (fun i => qcode I (i 0) (i 1) : Vec Ideal S2048x2048 .fp8e4m3) := by
  refine (dat1 V c).arrAt_eq_of_cover 10 _ (fun t _ => ?_) (fun i => ?_)
  · show (cfg1.win 10).cut (grid1.coords t) ((dat1 V c).after 10 t) = _
    rw [after1_10]
    funext y
    have e := (index_eq t).2.2.2.2.2.2.2.2.2.2.1
    have ey : y = ix2 (y 0) (y 1) := eq_ix2 y
    have h0 : ((cfg1.win 10).blk t).view.emb y 0 = y 0 := Fin.ext (by
      show win1_10.index t 0 * 2048 + 1 * (y 0).val = (y 0).val
      rw [e]; show 0 * 2048 + 1 * (y 0).val = _; omega)
    have h1 : ((cfg1.win 10).blk t).view.emb y 1 = gcol t (y 1) := Fin.ext (by
      show win1_10.index t 1 * 512 + 1 * (y 1).val = 512 * t.val + (y 1).val
      rw [e]; show t.val * 512 + 1 * (y 1).val = _; omega)
    show qcAt V c t y = qcode I (((cfg1.win 10).blk t).view.emb y 0) (((cfg1.win 10).blk t).view.emb y 1)
    rw [h0, h1]
    exact (congrArg (qcAt V c t) ey).trans (qcAt_at t h (y 0) (y 1))
  · have hi0 : (i 0).val < 2048 := (i 0).isLt
    have hi1 : (i 1).val < 2048 := (i 1).isLt
    let t : Fin cfg1.N := ⟨(i 1).val / 512, lt_of_lt_of_eq (by omega) N_1.symm⟩
    have e := (index_eq t).2.2.2.2.2.2.2.2.2.2.1
    refine ⟨t, flush1_10 t, ?_⟩
    show i ∈ ((View.whole main_v5_3).slice (win1_10.rect t)).set
    rw [View.set_slice_whole, Rect.mem_set_unit]
    intro a
    match a with
    | ⟨0, _⟩ =>
      show win1_10.index t 0 * 2048 ≤ (i 0).val ∧ (i 0).val < win1_10.index t 0 * 2048 + 2048
      rw [e]; show 0 * 2048 ≤ _ ∧ _ < 0 * 2048 + 2048; omega
    | ⟨1, _⟩ =>
      show win1_10.index t 1 * 512 ≤ (i 1).val ∧ (i 1).val < win1_10.index t 1 * 512 + 512
      rw [e]; show (i 1).val / 512 * 512 ≤ _ ∧ _ < (i 1).val / 512 * 512 + 512; omega

/-- The incoming gradient's scales after the region. -/
theorem final11 (h : Finds V c I) : (dat1 V c).arrAt 11 cfg1.N = (fun i => scale (qmax I (i 1)) : Vec Ideal S1x2048 .f32) := by
  refine (dat1 V c).arrAt_eq_of_cover 11 _ (fun t _ => ?_) (fun i => ?_)
  · show (cfg1.win 11).cut (grid1.coords t) ((dat1 V c).after 11 t) = _
    rw [after1_11]
    funext y
    have e := (index_eq t).2.2.2.2.2.2.2.2.2.2.2
    have ey : y = ix2 (y 0) (y 1) := eq_ix2 y
    have h1 : ((cfg1.win 11).blk t).view.emb y 1 = gcol t (y 1) := Fin.ext (by
      show win1_11.index t 1 * 512 + 1 * (y 1).val = 512 * t.val + (y 1).val
      rw [e]; show t.val * 512 + 1 * (y 1).val = _; omega)
    show qscAt V c t y = scale (qmax I (((cfg1.win 11).blk t).view.emb y 1))
    rw [h1]
    have e0 : y 0 = (0 : Fin 1) := Subsingleton.elim (α := Fin 1) _ _
    rw [ey, e0]
    exact qscAt_at t h (y 1)
  · have hi0 : (i 0).val < 1 := (i 0).isLt
    have hi1 : (i 1).val < 2048 := (i 1).isLt
    let t : Fin cfg1.N := ⟨(i 1).val / 512, lt_of_lt_of_eq (by omega) N_1.symm⟩
    have e := (index_eq t).2.2.2.2.2.2.2.2.2.2.2
    refine ⟨t, flush1_11 t, ?_⟩
    show i ∈ ((View.whole main_v5_4).slice (win1_11.rect t)).set
    rw [View.set_slice_whole, Rect.mem_set_unit]
    intro a
    match a with
    | ⟨0, _⟩ =>
      show win1_11.index t 0 * 1 ≤ (i 0).val ∧ (i 0).val < win1_11.index t 0 * 1 + 1
      rw [e]; show 0 * 1 ≤ _ ∧ _ < 0 * 1 + 1; omega
    | ⟨1, _⟩ =>
      show win1_11.index t 1 * 512 ≤ (i 1).val ∧ (i 1).val < win1_11.index t 1 * 512 + 512
      rw [e]; show (i 1).val / 512 * 512 ≤ _ ∧ _ < (i 1).val / 512 * 512 + 512; omega

end Cert.KernelIdeal.Cols

end
-- ==== Proof.Ends.lean ====
module

public import proofs.«01_k».proof.Proof.Region
public import proofs.«01_k».proof.Proof.DwRegion
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.KernelIdeal.Ends

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal
open Cert.KernelIdeal.Gen hiding V1 V2 V3 segs V1_of V2_of V3_of
open Cert.KernelIdeal.Rows (dat0 A_eq0 body_obligation0 hin0 hout0)
open Cert.KernelIdeal.Cols (dat1 A_eq1 body_obligation1 hin1 hout1)

variable {F : FTy → Type} [FloatOps F] [Named F]

local notation "𝕄" => MT nD τ sig Unit (Elt F) ℕ (UR sig nD τ) ℕ

variable (m : (ℓ : Loc nD τ sig) → Buf (Elt F) ℓ)

/-- The arguments' buffers. -/
abbrev argRefs : List (Ref sig .tc) := [main_arg0, main_arg1, main_arg2, main_arg3, main_arg4, main_arg5, main_arg6]

/-- No reshape before the first call writes an argument. -/
theorem hostOps0_args : ∀ a ∈ argRefs, a ∉ hostOps0_W := ListAll.forall_mem_of_all_decide (by decide +kernel)

/-! ## The buffers' contents between the calls -/

/-- Core `c`'s buffers at launch. -/
abbrev W0 : Dev nD → Valuation τ sig (Elt F) := fun c b => m ((c : Dev nD), b)
/-- The arguments at launch. -/
theorem W0_args (c : Dev nD) : ∀ a ∈ argRefs, W0 m c (Proc.devRef .tc a) = m ((c : Thread nD τ).loc a) := fun _ _ => rfl
/-- After `hostOps0` (region 0's entry). -/
abbrev W1 : Dev nD → Valuation τ sig (Elt F) := fun c => StableHlo.after hostOps0 (W0 m c)
/-- A reference `hostOps0` does not write keeps its contents across it. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- The first host segment leaves the arguments. -/
theorem W1_args (c : Dev nD) : ∀ a ∈ argRefs, W1 m c (Proc.devRef .tc a) = m ((c : Thread nD τ).loc a) :=
  fun a ha => (W1_of m c a (hostOps0_args a ha)).trans (W0_args m c a ha)
/-- The same read at the TensorCore's references (what region 0's proof data take). -/
abbrev V1 : (c : Dev nD) → (b : Ref sig .tc) → Buf (Elt F) ((c : Thread nD τ).loc b) := fun c b => W1 m c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m c) fun w => (dat0 (V1 m) c).arrAt w cfg0.N
/-- The first call's arrays after it. -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
/-- The first call leaves every other buffer. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The first call leaves the arguments. -/
theorem W2_args (c : Dev nD) : ∀ a ∈ argRefs, W2 m c (Proc.devRef .tc a) = m ((c : Thread nD τ).loc a) :=
  fun a ha => (W2_of m c a (argsIn0 a ha)).trans (W1_args m c a ha)
/-- The same read at the TensorCore's references (region 0's exit contents). -/
abbrev V2 : (c : Dev nD) → (b : Ref sig .tc) → Buf (Elt F) ((c : Thread nD τ).loc b) := fun c b => W2 m c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m) c).arrAt w cfg0.N = V2 m c (Pipeline.arrRef spec0 w) :=
  (W2_arr m c w).symm
/-- The first call leaves every other buffer. -/
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m c) fun w => (dat1 (V2 m) c).arrAt w cfg1.N
/-- The second call's arrays after it. -/
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
/-- The second call leaves every other buffer. -/
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (V2 m) c).arrAt_in w (h w rfl) _).trans (A_eq1 (V2 m) c w))
  · exact W3_of_ne m c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The second call leaves the arguments. -/
theorem W3_args (c : Dev nD) : ∀ a ∈ argRefs, W3 m c (Proc.devRef .tc a) = m ((c : Thread nD τ).loc a) :=
  fun a ha => (W3_of m c a (argsIn1 a ha)).trans (W2_args m c a ha)
/-- The same read at the TensorCore's references (region 1's exit contents). -/
abbrev V3 : (c : Dev nD) → (b : Ref sig .tc) → Buf (Elt F) ((c : Thread nD τ).loc b) := fun c b => W3 m c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m) c).arrAt w cfg1.N = V3 m c (Pipeline.arrRef spec1 w) :=
  (W3_arr m c w).symm
/-- The second call leaves every other buffer. -/
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
/-- No loop needs a variant. -/
abbrev 𝒱₀ : Variants := Variants.none
/-- No core owes another anything: no level is assigned. -/
abbrev L : GSem nD τ sig → Finset Unit := fun _ => ∅
/-- No level is assigned. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) (A_eq1 (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main IS the run of the segments: `Gen.main_chain`, then the segments' run against that chain by the kernel's
    definitional check (`chain_rfl`). -/
theorem main_run (c : Dev nD) : main (F := F) c = Pipeline.Seg.run (segs m) := (main_chain c).trans (by chain_rfl)

/-- The TensorCore has no unscoped semaphore. -/
theorem no_unscoped : ∀ sm : SemLoc sig, sm.isScoped .tc = true := by decide

variable (ρ : Dev nD → PrngReg)

set_option backward.isDefEq.respectTransparency.types false in
/-- Every execution ends with every buffer at the last boundary's contents and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W3 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h hz => ⟨h, funext fun g => hz g (.inr (no_unscoped g.2))⟩)

/-- Every execution leaves the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run_all m ρ)
  have key : ∀ a ∈ argRefs, ∀ (hs : ¬ (Proc.devRef .tc a : DevRef τ sig).isScoped),
      r.2.mem ((c : Thread nD τ).loc a) = m ((c : Thread nD τ).loc a) :=
    fun a ha hs => (h.1 c _ (mem_uc a hs)).trans (W3_args m c a ha)
  exact ⟨key main_arg0 (by decide) (by decide), key main_arg1 (by decide) (by decide), key main_arg2 (by decide) (by decide),
    key main_arg3 (by decide) (by decide), key main_arg4 (by decide) (by decide), key main_arg5 (by decide) (by decide),
    key main_arg6 (by decide) (by decide)⟩

end Cert.KernelIdeal.Ends

end
-- ==== Proof.KernelRun.lean ====
module

public import proofs.«01_k».proof.Proof.RegionVal
public import proofs.«01_k».proof.Proof.DwRegionVal
public import proofs.«01_k».proof.Proof.Ends

@[expose] public section

noncomputable section

namespace Cert.KernelIdeal.Run

open Idealize.ShloMosaic Idealize.ShloMosaic.TcCoe Idealize.SL.Sem
open Cert.KernelIdeal Cert.Blocks Cert.Spec Cert.KernelIdeal.Ends
open Cert.KernelIdeal.Gen hiding V1 V2 V3 segs V1_of V2_of V3_of

variable (m : (ℓ : Loc nD τ sig) → Buf (Elt Ideal) ℓ) (ρ : Dev nD → PrngReg) (c : Dev nD)

/-- The arguments as the layer's operands: row `r` is position `r % 512` of sequence `r / 512`. -/
def arg : Inp where
  x r d := (m ((c : Thread nD τ).loc main_arg0) : Vec Ideal S4x512x1536 .fp8e4m3) (ix3 (row 4 (r.val / 512)) (row 512 (r.val % 512)) d)
  xs r := (m ((c : Thread nD τ).loc main_arg1) : Vec Ideal S4x512 .f32) (ix2 (row 4 (r.val / 512)) (row 512 (r.val % 512)))
  rs r := (m ((c : Thread nD τ).loc main_arg2) : Vec Ideal S4x512 .f32) (ix2 (row 4 (r.val / 512)) (row 512 (r.val % 512)))
  g d := (m ((c : Thread nD τ).loc main_arg3) : Vec Ideal S1536 .f32) (ix1 d)
  w d k := (m ((c : Thread nD τ).loc main_arg4) : Vec Ideal S1536x2048 .fp8e4m3) (ix2 d k)
  ws k := (m ((c : Thread nD τ).loc main_arg5) : Vec Ideal S2048 .f32) (ix1 k)
  dq r k := (m ((c : Thread nD τ).loc main_arg6) : Vec Ideal S4x512x2048 .bf16) (ix3 (row 4 (r.val / 512)) (row 512 (r.val % 512)) k)

/-- The first call's operands are the arguments. -/
theorem inp_eq : Rows.inp (V1 m) c = arg m c := by
  have e0 : (V1 m c main_v0 : Vec Ideal S2048x1536 .fp8e4m3) = shapeCast S2048x1536 (m ((c : Thread nD τ).loc main_arg0)) shapeCasts_S4x512x1536_S2048x1536 := rfl
  have e1 : (V1 m c main_arg1 : Vec Ideal S4x512 .f32) = m ((c : Thread nD τ).loc main_arg1) := W1_args m c main_arg1 (by decide)
  have e2 : (V1 m c main_arg2 : Vec Ideal S4x512 .f32) = m ((c : Thread nD τ).loc main_arg2) := W1_args m c main_arg2 (by decide)
  have e3 : (V1 m c main_v2 : Vec Ideal S1x1536 .f32) = shapeCast S1x1536 (m ((c : Thread nD τ).loc main_arg3)) shapeCasts_S1536_S1x1536 := rfl
  have e4 : (V1 m c main_arg4 : Vec Ideal S1536x2048 .fp8e4m3) = m ((c : Thread nD τ).loc main_arg4) := W1_args m c main_arg4 (by decide)
  have e5 : (V1 m c main_v3 : Vec Ideal S1x2048 .f32) = shapeCast S1x2048 (m ((c : Thread nD τ).loc main_arg5)) shapeCasts_S2048_S1x2048 := rfl
  have e6 : (V1 m c main_v1 : Vec Ideal S2048x2048 .bf16) = shapeCast S2048x2048 (m ((c : Thread nD τ).loc main_arg6)) shapeCasts_S4x512x2048_S2048x2048 := rfl
  show Rows.inpOf (V1 m c main_v0) (V1 m c main_arg1) (V1 m c main_arg2) (V1 m c main_v2) (V1 m c main_arg4) (V1 m c main_v3) (V1 m c main_v1) = _
  rw [e0, e1, e2, e3, e4, e5, e6, Rows.inpOf, arg, Inp.mk.injEq]
  refine ⟨?_, rfl, rfl, ?_, rfl, ?_, ?_⟩
  · exact funext fun r => funext fun d => shapeCast_apply _ _ _ _ (flat3 r d)
  · exact funext fun d => shapeCast_apply _ _ _ _ (flat1 d)
  · exact funext fun d => shapeCast_apply _ _ _ _ (flat1 d)
  · exact funext fun r => funext fun d => shapeCast_apply _ _ _ _ (flat3 r d)

/-- The second call finds the same operands, and the column maxima the first call left. -/
theorem finds : Cols.Finds (V2 m) c (Rows.inp (V1 m) c) where
  x r d := congrFun (W2_of m c main_v0 (by decide +kernel)) (ix2 r d)
  xs r := congrFun (W2_of m c main_arg1 (by decide +kernel)) (ix2 (row 4 (r.val / 512)) (row 512 (r.val % 512)))
  rs r := congrFun (W2_of m c main_arg2 (by decide +kernel)) (ix2 (row 4 (r.val / 512)) (row 512 (r.val % 512)))
  g d := congrFun (W2_of m c main_v2 (by decide +kernel)) (ix2 0 d)
  xm d := congrFun ((W2_arr m c 9).trans (Rows.final9 (V1 m) c)) (ix2 0 d)
  qm k := congrFun ((W2_arr m c 10).trans (Rows.final10 (V1 m) c)) (ix2 0 k)
  dq r k := congrFun (W2_of m c main_v1 (by decide +kernel)) (ix2 r k)

/-- The second call leaves the activations' gradient alone. -/
theorem keeps0 : W3 m c (Proc.devRef .tc main_v4_0) = (fun i => dx (arg m c) (i 0) (i 1) : Vec Ideal S2048x1536 .bf16) :=
  ((W3_of_ne m c main_v4_0 (by decide +kernel)).trans ((W2_arr m c 7).trans (Rows.final7 (V1 m) c))).trans (by rw [inp_eq])

/-- And the gain's. -/
theorem keeps1 : W3 m c (Proc.devRef .tc main_v4_1) = (fun i => dgamma (arg m c) (i 1) : Vec Ideal S1x1536 .f32) :=
  ((W3_of_ne m c main_v4_1 (by decide +kernel)).trans ((W2_arr m c 8).trans (Rows.final8 (V1 m) c))).trans (by rw [inp_eq])

/-- The second call's operands in terms of the arguments. -/
theorem finds_arg : Cols.Finds (V2 m) c (arg m c) := inp_eq m c ▸ finds m c

/-- Every execution ends with the layer's seven results. -/
theorem run_results : θ_run defs (onTc (τ := τ) (main (F := Ideal))) ⟨m, fun _ => 0, ρ⟩ (fun r => ∀ c : Dev nD,
      r.2.mem ((c.tc : Thread nD τ).loc main_v4_0) = (fun i => dx (arg m c) (i 0) (i 1) : Vec Ideal S2048x1536 .bf16)
      ∧ r.2.mem ((c.tc : Thread nD τ).loc main_v5_0) = (fun i => dw (arg m c) (i 0) (i 1) : Vec Ideal S1536x2048 .f32)
      ∧ r.2.mem ((c.tc : Thread nD τ).loc main_v4_1) = (fun i => dgamma (arg m c) (i 1) : Vec Ideal S1x1536 .f32)
      ∧ r.2.mem ((c.tc : Thread nD τ).loc main_v5_1) = (fun i => xcode (arg m c) (i 0) (i 1) : Vec Ideal S2048x1536 .fp8e4m3)
      ∧ r.2.mem ((c.tc : Thread nD τ).loc main_v5_2) = (fun i => scale (xmax (arg m c) (i 1)) : Vec Ideal S1x1536 .f32)
      ∧ r.2.mem ((c.tc : Thread nD τ).loc main_v5_3) = (fun i => qcode (arg m c) (i 0) (i 1) : Vec Ideal S2048x2048 .fp8e4m3)
      ∧ r.2.mem ((c.tc : Thread nD τ).loc main_v5_4) = (fun i => scale (qmax (arg m c) (i 1)) : Vec Ideal S1x2048 .f32)) := by
  refine (θ_run defs _ _).mono (fun r h c => ?_) (run_all m ρ)
  have hf := finds_arg m c
  exact ⟨(h.1 c _ (mem_uc main_v4_0 (by decide))).trans (keeps0 m c),
    (h.1 c _ (mem_uc main_v5_0 (by decide))).trans ((W3_arr m c 7).trans (Cols.final7 hf)),
    (h.1 c _ (mem_uc main_v4_1 (by decide))).trans (keeps1 m c),
    (h.1 c _ (mem_uc main_v5_1 (by decide))).trans ((W3_arr m c 8).trans (Cols.final8 hf)),
    (h.1 c _ (mem_uc main_v5_2 (by decide))).trans ((W3_arr m c 9).trans (Cols.final9 hf)),
    (h.1 c _ (mem_uc main_v5_3 (by decide))).trans ((W3_arr m c 10).trans (Cols.final10 hf)),
    (h.1 c _ (mem_uc main_v5_4 (by decide))).trans ((W3_arr m c 11).trans (Cols.final11 hf))⟩

end Cert.KernelIdeal.Run

end
-- ==== Proof.RowsBits.lean ====
module

public import proofs.«01_k».proof.Proof.Gen.Kernel.Loops
public import Idealize.ShloMosaic.Lib.Pointwise
public import Idealize.ShloMosaic.Lib.Pipeline.ValueKit.Acc
public import Idealize.ShloMosaic.Lib.Pipeline.ValueKit.Tiles
public import Idealize.ShloMosaic.Lib.WritesUnit
public import Idealize.ShloMosaic.Lib.VecWindow

@[expose] public section

noncomputable section

namespace Cert.Kernel.Rows

open Idealize.ShloMosaic Idealize.ShloMosaic.TcCoe Idealize.SL.Sem
open Cert.Kernel Cert.Kernel.Gen

variable {F : FTy → Type} [FloatOps F]

/-! ## The chunks of a block of 512 rows -/

/-- Chunk `k` of a column repeated over the lanes. -/
def colAt (v : Vec F S512x128 .f32) (k : Fin k0_t1_loop.trips) : Vec F S64x1 .f32 :=
  View.ld v (Rect.unit (s := S512x128) (k0_off2 k) S64x1.size (k0_off2_inb k))

/-- Chunk `k` of a block as wide as the model. -/
def rowsAt {e : EltTy} (v : Vec F S512x1536 e) (k : Fin k0_t1_loop.trips) : Vec F S64x1536 e :=
  View.ld v (Rect.unit (s := S512x1536) (k0_off3 k) S64x1536.size (k0_off3_inb k))

/-- Chunk `k` of a block of the incoming gradient. -/
def gradAt (v : Vec F S512x2048 .bf16) (k : Fin k0_t1_loop.trips) : Vec F S64x2048 .bf16 :=
  View.ld v (Rect.unit (s := S512x2048) (k0_off4 k) S64x2048.size (k0_off4_inb k))

/-- The scale's gradient after `k` chunks. -/
def gamAcc (x : Vec F S512x1536 .fp8e4m3) (xs rs : Vec F S512x128 .f32) (h : Vec F S512x1536 .f32) (a : Vec F S1x1536 .f32) : ℕ → Vec F S1x1536 .f32
  | 0 => a
  | k + 1 => if hk : k < k0_t1_loop.trips then
      k0_pay9 (k0_pay14 (gamAcc x xs rs h a k)) (k0_pay15 (colAt xs ⟨k, hk⟩) (colAt rs ⟨k, hk⟩) (rowsAt h ⟨k, hk⟩) (rowsAt x ⟨k, hk⟩))
    else gamAcc x xs rs h a k

/-- The activations' largest magnitude after `k` chunks. -/
def xAcc (g : Vec F S1x1536 .f32) (x : Vec F S512x1536 .fp8e4m3) (xs rs : Vec F S512x128 .f32) (a : Vec F S1x1536 .f32) : ℕ → Vec F S1x1536 .f32
  | 0 => a
  | k + 1 => if hk : k < k0_t1_loop.trips then
      k0_pay12 (k0_pay8 g) (colAt xs ⟨k, hk⟩) (colAt rs ⟨k, hk⟩) (rowsAt x ⟨k, hk⟩) (xAcc g x xs rs a k)
    else xAcc g x xs rs a k

/-- The incoming gradient's largest magnitude after `k` chunks. -/
def qAcc (q : Vec F S512x2048 .bf16) (a : Vec F S1x2048 .f32) : ℕ → Vec F S1x2048 .f32
  | 0 => a
  | k + 1 => if hk : k < k0_t1_loop.trips then k0_pay13 (qAcc q a k) (gradAt q ⟨k, hk⟩) else qAcc q a k

/-- The chunk loop makes eight passes. -/
theorem trips_eq : k0_t1_loop.trips = 8 := by decide +kernel

/-- The chunk that row `y` of a block lies in. -/
def chunkOf (y : S512x1536.Idx) : Fin k0_t1_loop.trips :=
  ⟨(y 0).val / 64, by have h : (y 0).val < 512 := (y 0).isLt; rw [trips_eq]; omega⟩

/-- Where in its chunk row `y` lies. -/
def inChunk (y : S512x1536.Idx) : S64x1536.Idx := ix2 ⟨(y 0).val % 64, Nat.mod_lt _ (by decide)⟩ ⟨(y 1).val, (y 1).isLt⟩

/-- The activations' gradient of a block, chunk by chunk. -/
def dxRows (g : Vec F S1x1536 .f32) (x : Vec F S512x1536 .fp8e4m3) (xs rs : Vec F S512x128 .f32) (h : Vec F S512x1536 .f32) : Vec F S512x1536 .bf16 :=
  fun y => k0_pay10 g (colAt rs (chunkOf y)) (rowsAt h (chunkOf y)) (k0_pay11 (colAt xs (chunkOf y)) (colAt rs (chunkOf y)) (rowsAt x (chunkOf y))) (inChunk y)

variable
  (𝒱 : Variants) (c : Dev nD) (bd : Option 𝒱.V) (i : grid0.Coords)
  (arg1 : Memref sig .tc .vmem S4x512 .f32) (harg1 : arg1.IsWhole)
  (arg2 : Memref sig .tc .vmem S4x512 .f32) (harg2 : arg2.IsWhole)
  (arg3 : Memref sig .tc .vmem S1x1536 .f32) (harg3 : arg3.IsWhole)
  (arg4 : Memref sig .tc .vmem S1x2048 .f32) (harg4 : arg4.IsWhole)
  (arg5 : Memref sig .tc .vmem S512x1536 .fp8e4m3) (harg5 : arg5.IsWhole)
  (arg6 : Memref sig .tc .vmem S1536x2048 .fp8e4m3) (harg6 : arg6.IsWhole)
  (arg7 : Memref sig .tc .vmem S512x2048 .bf16) (harg7 : arg7.IsWhole)
  (arg8 : Memref sig .tc .vmem S512x1536 .bf16) (harg8 : arg8.IsWhole)
  (arg9 : Memref sig .tc .vmem S1x1536 .f32) (harg9 : arg9.IsWhole)
  (arg10 : Memref sig .tc .vmem S1x1536 .f32) (harg10 : arg10.IsWhole)
  (arg11 : Memref sig .tc .vmem S1x2048 .f32) (harg11 : arg11.IsWhole)
  (arg12 : Memref sig .tc .vmem S1536x2048 .bf16) (harg12 : arg12.IsWhole)
  (arg13 : Memref sig .tc .vmem S512x1536 .f32) (harg13 : arg13.IsWhole)
  (arg14 : Memref sig .tc .vmem S512x128 .f32) (harg14 : arg14.IsWhole)
  (arg15 : Memref sig .tc .vmem S512x128 .f32) (harg15 : arg15.IsWhole)
  (v26 : Vec F S1x1536 .f32)
  (X5 : BufTy.Contents (Elt F) arg5.view.ty)
  (X7 : BufTy.Contents (Elt F) arg7.view.ty)
  (X13 : BufTy.Contents (Elt F) arg13.view.ty)
  (X14 : BufTy.Contents (Elt F) arg14.view.ty)
  (X15 : BufTy.Contents (Elt F) arg15.view.ty)
  (G8 : BufTy.Contents (Elt F) arg8.view.ty)
  (G9 : BufTy.Contents (Elt F) arg9.view.ty)
  (G10 : BufTy.Contents (Elt F) arg10.view.ty)
  (G11 : BufTy.Contents (Elt F) arg11.view.ty)

set_option maxHeartbeats 1000000 in
/-- What one trip stores: its 64 rows of the gradient, and the three accumulators. -/
theorem trip_eq (k : Fin k0_t1_loop.trips) :
    tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 k G8 G9 G10 G11
      = ([⟨Rect.unit (s := S512x1536) (k0_off3 k) S64x1536.size (k0_off3_inb k), k0_pay10 v26 (colAt (arg15.view.read (Elt F) X15) k) (rowsAt (arg13.view.read (Elt F) X13) k) (k0_pay11 (colAt (arg14.view.read (Elt F) X14) k) (colAt (arg15.view.read (Elt F) X15) k) (rowsAt (arg5.view.read (Elt F) X5) k))⟩],
         [⟨Rect.unit (s := S1x1536) ![0, 0] S1x1536.size inb_S1x1536_S1x1536_0_0, k0_pay9 (k0_pay14 (arg9.view.read (Elt F) G9)) (k0_pay15 (colAt (arg14.view.read (Elt F) X14) k) (colAt (arg15.view.read (Elt F) X15) k) (rowsAt (arg13.view.read (Elt F) X13) k) (rowsAt (arg5.view.read (Elt F) X5) k))⟩],
         [⟨Rect.unit (s := S1x1536) ![0, 0] S1x1536.size inb_S1x1536_S1x1536_0_0, k0_pay12 (k0_pay8 v26) (colAt (arg14.view.read (Elt F) X14) k) (colAt (arg15.view.read (Elt F) X15) k) (rowsAt (arg5.view.read (Elt F) X5) k) (arg10.view.read (Elt F) G10)⟩],
         [⟨Rect.unit (s := S1x2048) ![0, 0] S1x2048.size inb_S1x2048_S1x2048_0_0, k0_pay13 (arg11.view.read (Elt F) G11) (gradAt (arg7.view.read (Elt F) X7) k)⟩]) := by
  rw [← View.ld_unit_lit' (off := ![0, 0]) inb_S1x1536_S1x1536_0_0 (arg9.view.read (Elt F) G9) (by decide),
    ← View.ld_unit_lit' (off := ![0, 0]) inb_S1x1536_S1x1536_0_0 (arg10.view.read (Elt F) G10) (by decide),
    ← View.ld_unit_lit' (off := ![0, 0]) inb_S1x2048_S1x2048_0_0 (arg11.view.read (Elt F) G11) (by decide)]
  unfold tripL_k0_t1 trip_k0_t1
  rfl

/-- After `k` trips the accumulators hold the recursions above, and the first `64 k` rows of the gradient stand. -/
theorem loop_eq (k : ℕ) (hk : k ≤ 8) :
    arg9.view.read (Elt F) (arg9.view.writes (Elt F) G9 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 k).2.1) = gamAcc (arg5.view.read (Elt F) X5) (arg14.view.read (Elt F) X14) (arg15.view.read (Elt F) X15) (arg13.view.read (Elt F) X13) (arg9.view.read (Elt F) G9) k ∧
    arg10.view.read (Elt F) (arg10.view.writes (Elt F) G10 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 k).2.2.1) = xAcc v26 (arg5.view.read (Elt F) X5) (arg14.view.read (Elt F) X14) (arg15.view.read (Elt F) X15) (arg10.view.read (Elt F) G10) k ∧
    arg11.view.read (Elt F) (arg11.view.writes (Elt F) G11 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 k).2.2.2) = qAcc (arg7.view.read (Elt F) X7) (arg11.view.read (Elt F) G11) k ∧
    ∀ y : S512x1536.Idx, (y 0).val < 64 * k →
      arg8.view.read (Elt F) (arg8.view.writes (Elt F) G8 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 k).1) y = dxRows v26 (arg5.view.read (Elt F) X5) (arg14.view.read (Elt F) X14) (arg15.view.read (Elt F) X15) (arg13.view.read (Elt F) X13) y := by
  induction k with
  | zero => exact ⟨rfl, rfl, rfl, fun y h => absurd h (by omega)⟩
  | succ k ih =>
    obtain ⟨h9, h10, h11, h8⟩ := ih (by omega)
    have hk' : k < k0_t1_loop.trips := by rw [trips_eq]; omega
    rw [pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 ⟨k, hk'⟩, trip_eq]
    refine ⟨?_, ?_, ?_, fun y h => ?_⟩
    · refine (View.read_writes_full arg9.view _ _ _ _).trans ?_
      rw [gamAcc, dif_pos hk', h9]
    · refine (View.read_writes_full arg10.view _ _ _ _).trans ?_
      rw [xAcc, dif_pos hk', h10]
    · refine (View.read_writes_full arg11.view _ _ _ _).trans ?_
      rw [qAcc, dif_pos hk', h11]
    · by_cases hr : (y 0).val < 64 * k
      · refine (View.read_writes_cons_rows_of_not_mem (d := ![512, 1536]) arg8.view _ _ _ _ y (k0_off3_eq ⟨k, hk'⟩) rfl (Or.inl hr)).trans ?_
        exact h8 y hr
      · have e : chunkOf y = ⟨k, hk'⟩ := Fin.ext (by show (y 0).val / 64 = k; omega)
        refine (View.read_writes_cons_rows_of_mem (d := ![512, 1536]) arg8.view _ _ _ _ y (inChunk y) (k0_off3_eq ⟨k, hk'⟩) ?_ rfl).trans ?_
        · show (y 0).val = 64 * k + (y 0).val % 64; omega
        unfold dxRows
        rw [e]

end Cert.Kernel.Rows

end
-- ==== Proof.PointBits.lean ====
module

public import proofs.«01_k».proof.Proof.RowsBits
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.WordCmp

@[expose] public section

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The body's test for the first point of the grid. -/
abbrev atFirst (i : grid0.Coords) : Prop := (Scalar.cmpi .ne (Scalar.extui (Scalar.cmpi .eq (BitVec.ofNat 32 (i 0).val) 0#32)) 0#32) = 1#1

/-- It holds at the first point only. -/
theorem atFirst_iff : ∀ t : Fin cfg0.N, atFirst (grid0.coords t) ↔ t.val = 0 :=
  (fun t => by
    have ht : t.val < 4 := Nat.lt_of_lt_of_eq t.isLt N_0
    have e0 : (grid0.coords t 0).val = t.val / 1 % 4 := Pipeline.Grid.coords_val t 0 (by decide) rfl
    simp only [atFirst, e0]
    word_cmp
   : ∀ t : Fin grid0.N, atFirst (grid0.coords t) ↔ t.val = 0)

/-- A point's activation scales, one per row, repeated over the lanes. -/
def xsCol (v : Vec F S4x512 .f32) (i : grid0.Coords) : Vec F S512x128 .f32 :=
  k0_pay5 (View.ld v (Rect.unit (s := S4x512) (k0_off1 i) S1x512.size (k0_off1_inb i)))

/-- A point's reciprocal root mean squares, one per row, repeated over the lanes. -/
def rsCol (v : Vec F S4x512 .f32) (i : grid0.Coords) : Vec F S512x128 .f32 :=
  k0_pay6 (View.ld v (Rect.unit (s := S4x512) (k0_off1 i) S1x512.size (k0_off1_inb i)))

/-- The whole loop: the accumulators after the eight chunks, and every row of the gradient. -/
theorem loop_out
  (𝒱 : Variants) (c : Dev nD) (bd : Option 𝒱.V) (i : grid0.Coords)
  (arg1 : Memref sig .tc .vmem S4x512 .f32) (harg1 : arg1.IsWhole)
  (arg2 : Memref sig .tc .vmem S4x512 .f32) (harg2 : arg2.IsWhole)
  (arg3 : Memref sig .tc .vmem S1x1536 .f32) (harg3 : arg3.IsWhole)
  (arg4 : Memref sig .tc .vmem S1x2048 .f32) (harg4 : arg4.IsWhole)
  (arg5 : Memref sig .tc .vmem S512x1536 .fp8e4m3) (harg5 : arg5.IsWhole)
  (arg6 : Memref sig .tc .vmem S1536x2048 .fp8e4m3) (harg6 : arg6.IsWhole)
  (arg7 : Memref sig .tc .vmem S512x2048 .bf16) (harg7 : arg7.IsWhole)
  (arg8 : Memref sig .tc .vmem S512x1536 .bf16) (harg8 : arg8.IsWhole)
  (arg9 : Memref sig .tc .vmem S1x1536 .f32) (harg9 : arg9.IsWhole)
  (arg10 : Memref sig .tc .vmem S1x1536 .f32) (harg10 : arg10.IsWhole)
  (arg11 : Memref sig .tc .vmem S1x2048 .f32) (harg11 : arg11.IsWhole)
  (arg12 : Memref sig .tc .vmem S1536x2048 .bf16) (harg12 : arg12.IsWhole)
  (arg13 : Memref sig .tc .vmem S512x1536 .f32) (harg13 : arg13.IsWhole)
  (arg14 : Memref sig .tc .vmem S512x128 .f32) (harg14 : arg14.IsWhole)
  (arg15 : Memref sig .tc .vmem S512x128 .f32) (harg15 : arg15.IsWhole)
  (v26 : Vec F S1x1536 .f32)
  (X5 : BufTy.Contents (Elt F) arg5.view.ty)
  (X7 : BufTy.Contents (Elt F) arg7.view.ty)
  (X13 : BufTy.Contents (Elt F) arg13.view.ty)
  (X14 : BufTy.Contents (Elt F) arg14.view.ty)
  (X15 : BufTy.Contents (Elt F) arg15.view.ty)
  (G8 : BufTy.Contents (Elt F) arg8.view.ty)
  (G9 : BufTy.Contents (Elt F) arg9.view.ty)
  (G10 : BufTy.Contents (Elt F) arg10.view.ty)
  (G11 : BufTy.Contents (Elt F) arg11.view.ty)
  {g : Vec F S1x1536 .f32} {x : Vec F S512x1536 .fp8e4m3} {q : Vec F S512x2048 .bf16} {h : Vec F S512x1536 .f32} {xs rs : Vec F S512x128 .f32}
  {a9 a10 : Vec F S1x1536 .f32} {a11 : Vec F S1x2048 .f32} {k : ℕ} (hk : k = 8)
  (hg : v26 = g) (h5 : arg5.view.read (Elt F) X5 = x) (h7 : arg7.view.read (Elt F) X7 = q) (h13 : arg13.view.read (Elt F) X13 = h) (h14 : arg14.view.read (Elt F) X14 = xs) (h15 : arg15.view.read (Elt F) X15 = rs)
  (h9 : arg9.view.read (Elt F) G9 = a9) (h10 : arg10.view.read (Elt F) G10 = a10) (h11 : arg11.view.read (Elt F) G11 = a11) :
    arg8.view.read (Elt F) (arg8.view.writes (Elt F) G8 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 k).1) = dxRows g x xs rs h ∧
    arg9.view.read (Elt F) (arg9.view.writes (Elt F) G9 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 k).2.1) = gamAcc x xs rs h a9 8 ∧
    arg10.view.read (Elt F) (arg10.view.writes (Elt F) G10 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 k).2.2.1) = xAcc g x xs rs a10 8 ∧
    arg11.view.read (Elt F) (arg11.view.writes (Elt F) G11 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 k).2.2.2) = qAcc q a11 8 := by
  subst hk hg h5 h7 h13 h14 h15 h9 h10 h11
  obtain ⟨e9, e10, e11, e8⟩ := loop_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v26 X5 X7 X13 X14 X15 G8 G9 G10 G11 8 le_rfl
  exact ⟨funext fun y => e8 y (y 0).isLt, e9, e10, e11⟩

/-- The loop as the body reaches it: its per-row operands and the product with the weights just stored. -/
theorem loop_point (c : Dev nD) (i : grid0.Coords)
  (arg1 : Memref sig .tc .vmem S4x512 .f32) (harg1 : arg1.IsWhole)
  (arg2 : Memref sig .tc .vmem S4x512 .f32) (harg2 : arg2.IsWhole)
  (arg3 : Memref sig .tc .vmem S1x1536 .f32) (harg3 : arg3.IsWhole)
  (arg4 : Memref sig .tc .vmem S1x2048 .f32) (harg4 : arg4.IsWhole)
  (arg5 : Memref sig .tc .vmem S512x1536 .fp8e4m3) (harg5 : arg5.IsWhole)
  (arg6 : Memref sig .tc .vmem S1536x2048 .fp8e4m3) (harg6 : arg6.IsWhole)
  (arg7 : Memref sig .tc .vmem S512x2048 .bf16) (harg7 : arg7.IsWhole)
  (arg8 : Memref sig .tc .vmem S512x1536 .bf16) (harg8 : arg8.IsWhole)
  (arg9 : Memref sig .tc .vmem S1x1536 .f32) (harg9 : arg9.IsWhole)
  (arg10 : Memref sig .tc .vmem S1x1536 .f32) (harg10 : arg10.IsWhole)
  (arg11 : Memref sig .tc .vmem S1x2048 .f32) (harg11 : arg11.IsWhole)
  (arg12 : Memref sig .tc .vmem S1536x2048 .bf16) (harg12 : arg12.IsWhole)
  (arg13 : Memref sig .tc .vmem S512x1536 .f32) (harg13 : arg13.IsWhole)
  (arg14 : Memref sig .tc .vmem S512x128 .f32) (harg14 : arg14.IsWhole)
  (arg15 : Memref sig .tc .vmem S512x128 .f32) (harg15 : arg15.IsWhole)
  (f13 : BufTy.Contents (Elt F) arg13.view.ty)
  (f14 : BufTy.Contents (Elt F) arg14.view.ty)
  (f15 : BufTy.Contents (Elt F) arg15.view.ty)
  (G8 : BufTy.Contents (Elt F) arg8.view.ty)
  (G9 : BufTy.Contents (Elt F) arg9.view.ty)
  (G10 : BufTy.Contents (Elt F) arg10.view.ty)
  (G11 : BufTy.Contents (Elt F) arg11.view.ty)
  (x0 x1 : Vec F S4x512 .f32) (x2 : Vec F S1x1536 .f32) (x4 : Vec F S512x1536 .fp8e4m3) (x6 : Vec F S512x2048 .bf16)
  {wb w : Vec F S1536x2048 .bf16} {a9 a10 : Vec F S1x1536 .f32} {a11 : Vec F S1x2048 .f32}
  (hw : wb = w) (h9 : arg9.view.read (Elt F) G9 = a9) (h10 : arg10.view.read (Elt F) G10 = a10) (h11 : arg11.view.read (Elt F) G11 = a11) :
    arg8.view.read (Elt F) (arg8.view.writes (Elt F) G8 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (arg3.view.readAt (Elt F) (Rect.unit (s := S1x1536) ![0, 0] S1x1536.size inb_S1x1536_S1x1536_0_0).toLoadRect (harg3.unread x2)) (harg5.unread x4) (harg7.unread x6) (arg13.view.writes (Elt F) f13 [⟨(Rect.unit (s := S512x1536) ![0, 0] S512x1536.size inb_S512x1536_S512x1536_0_0), k0_pay7 (arg7.view.readAt (Elt F) (Rect.unit (s := S512x2048) ![0, 0] S512x2048.size inb_S512x2048_S512x2048_0_0).toLoadRect (harg7.unread x6)) wb⟩]) (arg14.view.writes (Elt F) f14 [⟨(Rect.unit (s := S512x128) ![0, 0] S512x128.size inb_S512x128_S512x128_0_0), k0_pay5 (arg1.view.readAt (Elt F) (Rect.unit (s := S4x512) (k0_off1 i) S1x512.size (k0_off1_inb i)).toLoadRect (harg1.unread x0))⟩]) (arg15.view.writes (Elt F) f15 [⟨(Rect.unit (s := S512x128) ![0, 0] S512x128.size inb_S512x128_S512x128_0_0), k0_pay6 (arg2.view.readAt (Elt F) (Rect.unit (s := S4x512) (k0_off1 i) S1x512.size (k0_off1_inb i)).toLoadRect (harg2.unread x1))⟩]) G8 G9 G10 G11 k0_t1_loop.trips).1) = dxRows x2 x4 (xsCol x0 i) (rsCol x1 i) (k0_pay7 x6 w) ∧
    arg9.view.read (Elt F) (arg9.view.writes (Elt F) G9 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (arg3.view.readAt (Elt F) (Rect.unit (s := S1x1536) ![0, 0] S1x1536.size inb_S1x1536_S1x1536_0_0).toLoadRect (harg3.unread x2)) (harg5.unread x4) (harg7.unread x6) (arg13.view.writes (Elt F) f13 [⟨(Rect.unit (s := S512x1536) ![0, 0] S512x1536.size inb_S512x1536_S512x1536_0_0), k0_pay7 (arg7.view.readAt (Elt F) (Rect.unit (s := S512x2048) ![0, 0] S512x2048.size inb_S512x2048_S512x2048_0_0).toLoadRect (harg7.unread x6)) wb⟩]) (arg14.view.writes (Elt F) f14 [⟨(Rect.unit (s := S512x128) ![0, 0] S512x128.size inb_S512x128_S512x128_0_0), k0_pay5 (arg1.view.readAt (Elt F) (Rect.unit (s := S4x512) (k0_off1 i) S1x512.size (k0_off1_inb i)).toLoadRect (harg1.unread x0))⟩]) (arg15.view.writes (Elt F) f15 [⟨(Rect.unit (s := S512x128) ![0, 0] S512x128.size inb_S512x128_S512x128_0_0), k0_pay6 (arg2.view.readAt (Elt F) (Rect.unit (s := S4x512) (k0_off1 i) S1x512.size (k0_off1_inb i)).toLoadRect (harg2.unread x1))⟩]) G8 G9 G10 G11 k0_t1_loop.trips).2.1) = gamAcc x4 (xsCol x0 i) (rsCol x1 i) (k0_pay7 x6 w) a9 8 ∧
    arg10.view.read (Elt F) (arg10.view.writes (Elt F) G10 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (arg3.view.readAt (Elt F) (Rect.unit (s := S1x1536) ![0, 0] S1x1536.size inb_S1x1536_S1x1536_0_0).toLoadRect (harg3.unread x2)) (harg5.unread x4) (harg7.unread x6) (arg13.view.writes (Elt F) f13 [⟨(Rect.unit (s := S512x1536) ![0, 0] S512x1536.size inb_S512x1536_S512x1536_0_0), k0_pay7 (arg7.view.readAt (Elt F) (Rect.unit (s := S512x2048) ![0, 0] S512x2048.size inb_S512x2048_S512x2048_0_0).toLoadRect (harg7.unread x6)) wb⟩]) (arg14.view.writes (Elt F) f14 [⟨(Rect.unit (s := S512x128) ![0, 0] S512x128.size inb_S512x128_S512x128_0_0), k0_pay5 (arg1.view.readAt (Elt F) (Rect.unit (s := S4x512) (k0_off1 i) S1x512.size (k0_off1_inb i)).toLoadRect (harg1.unread x0))⟩]) (arg15.view.writes (Elt F) f15 [⟨(Rect.unit (s := S512x128) ![0, 0] S512x128.size inb_S512x128_S512x128_0_0), k0_pay6 (arg2.view.readAt (Elt F) (Rect.unit (s := S4x512) (k0_off1 i) S1x512.size (k0_off1_inb i)).toLoadRect (harg2.unread x1))⟩]) G8 G9 G10 G11 k0_t1_loop.trips).2.2.1) = xAcc x2 x4 (xsCol x0 i) (rsCol x1 i) a10 8 ∧
    arg11.view.read (Elt F) (arg11.view.writes (Elt F) G11 (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (arg3.view.readAt (Elt F) (Rect.unit (s := S1x1536) ![0, 0] S1x1536.size inb_S1x1536_S1x1536_0_0).toLoadRect (harg3.unread x2)) (harg5.unread x4) (harg7.unread x6) (arg13.view.writes (Elt F) f13 [⟨(Rect.unit (s := S512x1536) ![0, 0] S512x1536.size inb_S512x1536_S512x1536_0_0), k0_pay7 (arg7.view.readAt (Elt F) (Rect.unit (s := S512x2048) ![0, 0] S512x2048.size inb_S512x2048_S512x2048_0_0).toLoadRect (harg7.unread x6)) wb⟩]) (arg14.view.writes (Elt F) f14 [⟨(Rect.unit (s := S512x128) ![0, 0] S512x128.size inb_S512x128_S512x128_0_0), k0_pay5 (arg1.view.readAt (Elt F) (Rect.unit (s := S4x512) (k0_off1 i) S1x512.size (k0_off1_inb i)).toLoadRect (harg1.unread x0))⟩]) (arg15.view.writes (Elt F) f15 [⟨(Rect.unit (s := S512x128) ![0, 0] S512x128.size inb_S512x128_S512x128_0_0), k0_pay6 (arg2.view.readAt (Elt F) (Rect.unit (s := S4x512) (k0_off1 i) S1x512.size (k0_off1_inb i)).toLoadRect (harg2.unread x1))⟩]) G8 G9 G10 G11 k0_t1_loop.trips).2.2.2) = qAcc x6 a11 8 := by
  refine loop_out Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ G8 G9 G10 G11 trips_eq ?_ (harg5.read_unread _) (harg7.read_unread _) ?_ ?_ ?_ h9 h10 h11
  · exact (View.readAt_full _ _ _).trans (harg3.read_unread _)
  · exact (View.read_writes_full arg13.view _ _ _ _).trans (congrArg₂ k0_pay7 ((View.readAt_full _ _ _).trans (harg7.read_unread _)) hw)
  · exact (View.read_writes_full arg14.view _ _ _ _).trans (congrArg (fun v => k0_pay5 (View.ld v (Rect.unit (s := S4x512) (k0_off1 i) S1x512.size (k0_off1_inb i)))) (harg1.read_unread x0))
  · exact (View.read_writes_full arg15.view _ _ _ _).trans (congrArg (fun v => k0_pay6 (View.ld v (Rect.unit (s := S4x512) (k0_off1 i) S1x512.size (k0_off1_inb i)))) (harg2.read_unread x1))

/-- The unscaled weights as the first point stores them. -/
theorem w_point (arg4 : Memref sig .tc .vmem S1x2048 .f32) (harg4 : arg4.IsWhole) (arg6 : Memref sig .tc .vmem S1536x2048 .fp8e4m3) (harg6 : arg6.IsWhole)
    (x3 : Vec F S1x2048 .f32) (x5 : Vec F S1536x2048 .fp8e4m3) :
    k0_pay1 (arg6.view.readAt (Elt F) (Rect.unit (s := S1536x2048) ![0, 0] S1536x2048.size inb_S1536x2048_S1536x2048_0_0).toLoadRect (harg6.unread x5)) (arg4.view.readAt (Elt F) (Rect.unit (s := S1x2048) ![0, 0] S1x2048.size inb_S1x2048_S1x2048_0_0).toLoadRect (harg4.unread x3)) = k0_pay1 x5 x3 :=
  congrArg₂ k0_pay1 ((View.readAt_full _ _ _).trans (harg6.read_unread _)) ((View.readAt_full _ _ _).trans (harg4.read_unread _))

set_option maxHeartbeats 2000000 in
/-- The body at the first point: the weights are unscaled into the carried buffer, and the accumulators start at zero. -/
theorem point_A (c : Dev nD) (i : grid0.Coords)
  (arg1 : Memref sig .tc .vmem S4x512 .f32) (harg1 : arg1.IsWhole)
  (arg2 : Memref sig .tc .vmem S4x512 .f32) (harg2 : arg2.IsWhole)
  (arg3 : Memref sig .tc .vmem S1x1536 .f32) (harg3 : arg3.IsWhole)
  (arg4 : Memref sig .tc .vmem S1x2048 .f32) (harg4 : arg4.IsWhole)
  (arg5 : Memref sig .tc .vmem S512x1536 .fp8e4m3) (harg5 : arg5.IsWhole)
  (arg6 : Memref sig .tc .vmem S1536x2048 .fp8e4m3) (harg6 : arg6.IsWhole)
  (arg7 : Memref sig .tc .vmem S512x2048 .bf16) (harg7 : arg7.IsWhole)
  (arg8 : Memref sig .tc .vmem S512x1536 .bf16) (harg8 : arg8.IsWhole)
  (arg9 : Memref sig .tc .vmem S1x1536 .f32) (harg9 : arg9.IsWhole)
  (arg10 : Memref sig .tc .vmem S1x1536 .f32) (harg10 : arg10.IsWhole)
  (arg11 : Memref sig .tc .vmem S1x2048 .f32) (harg11 : arg11.IsWhole)
  (arg12 : Memref sig .tc .vmem S1536x2048 .bf16) (harg12 : arg12.IsWhole)
  (arg13 : Memref sig .tc .vmem S512x1536 .f32) (harg13 : arg13.IsWhole)
  (arg14 : Memref sig .tc .vmem S512x128 .f32) (harg14 : arg14.IsWhole)
  (arg15 : Memref sig .tc .vmem S512x128 .f32) (harg15 : arg15.IsWhole)
  (hc0 : atFirst i)
  (x0 x1 : Vec F S4x512 .f32) (x2 : Vec F S1x1536 .f32) (x3 : Vec F S1x2048 .f32) (x4 : Vec F S512x1536 .fp8e4m3) (x5 : Vec F S1536x2048 .fp8e4m3) (x6 : Vec F S512x2048 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (dxRows x2 x4 (xsCol x0 i) (rsCol x1 i) (k0_pay7 x6 (k0_pay1 x5 x3))) ∗ owns (c : Thread nD τ) arg9 fullShare (gamAcc x4 (xsCol x0 i) (rsCol x1 i) (k0_pay7 x6 (k0_pay1 x5 x3)) k0_pay2 8) ∗ owns (c : Thread nD τ) arg10 fullShare (xAcc x2 x4 (xsCol x0 i) (rsCol x1 i) k0_pay3 8) ∗ owns (c : Thread nD τ) arg11 fullShare (qAcc x6 k0_pay4 8) ∗ owns (c : Thread nD τ) arg12 fullShare (k0_pay1 x5 x3) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_qkv_bwd_dx i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_qkv_bwd_dx_eq_skeleton]; unfold cc0_qkv_bwd_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    exact (loop_point c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x4 x6 ((View.readAt_writes_full arg12.view _ _ _ _ _).trans (w_point arg4 harg4 arg6 harg6 x3 x5)) (View.read_writes_full arg9.view _ _ _ _) (View.read_writes_full arg10.view _ _ _ _) (View.read_writes_full arg11.view _ _ _ _)).1
  isplitl [H8]
  · iexists _; isplitr; swap; · iexact H8
    ipureintro
    refine (congrArg _ (View.writes_append ..)).trans ?_
    exact (loop_point c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x4 x6 ((View.readAt_writes_full arg12.view _ _ _ _ _).trans (w_point arg4 harg4 arg6 harg6 x3 x5)) (View.read_writes_full arg9.view _ _ _ _) (View.read_writes_full arg10.view _ _ _ _) (View.read_writes_full arg11.view _ _ _ _)).2.1
  isplitl [H9]
  · iexists _; isplitr; swap; · iexact H9
    ipureintro
    refine (congrArg _ (View.writes_append ..)).trans ?_
    exact (loop_point c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x4 x6 ((View.readAt_writes_full arg12.view _ _ _ _ _).trans (w_point arg4 harg4 arg6 harg6 x3 x5)) (View.read_writes_full arg9.view _ _ _ _) (View.read_writes_full arg10.view _ _ _ _) (View.read_writes_full arg11.view _ _ _ _)).2.2.1
  isplitl [H10]
  · iexists _; isplitr; swap; · iexact H10
    ipureintro
    refine (congrArg _ (View.writes_append ..)).trans ?_
    exact (loop_point c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x4 x6 ((View.readAt_writes_full arg12.view _ _ _ _ _).trans (w_point arg4 harg4 arg6 harg6 x3 x5)) (View.read_writes_full arg9.view _ _ _ _) (View.read_writes_full arg10.view _ _ _ _) (View.read_writes_full arg11.view _ _ _ _)).2.2.2
  isplitl [HS0]
  · iexists _; isplitr; swap; · iexact HS0
    ipureintro
    exact (View.read_writes_full arg12.view _ _ _ _).trans (w_point arg4 harg4 arg6 harg6 x3 x5)
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

set_option maxHeartbeats 2000000 in
/-- The body at a later point: the accumulators and the unscaled weights are the ones the point before left. -/
theorem point_B (c : Dev nD) (i : grid0.Coords)
  (arg1 : Memref sig .tc .vmem S4x512 .f32) (harg1 : arg1.IsWhole)
  (arg2 : Memref sig .tc .vmem S4x512 .f32) (harg2 : arg2.IsWhole)
  (arg3 : Memref sig .tc .vmem S1x1536 .f32) (harg3 : arg3.IsWhole)
  (arg4 : Memref sig .tc .vmem S1x2048 .f32) (harg4 : arg4.IsWhole)
  (arg5 : Memref sig .tc .vmem S512x1536 .fp8e4m3) (harg5 : arg5.IsWhole)
  (arg6 : Memref sig .tc .vmem S1536x2048 .fp8e4m3) (harg6 : arg6.IsWhole)
  (arg7 : Memref sig .tc .vmem S512x2048 .bf16) (harg7 : arg7.IsWhole)
  (arg8 : Memref sig .tc .vmem S512x1536 .bf16) (harg8 : arg8.IsWhole)
  (arg9 : Memref sig .tc .vmem S1x1536 .f32) (harg9 : arg9.IsWhole)
  (arg10 : Memref sig .tc .vmem S1x1536 .f32) (harg10 : arg10.IsWhole)
  (arg11 : Memref sig .tc .vmem S1x2048 .f32) (harg11 : arg11.IsWhole)
  (arg12 : Memref sig .tc .vmem S1536x2048 .bf16) (harg12 : arg12.IsWhole)
  (arg13 : Memref sig .tc .vmem S512x1536 .f32) (harg13 : arg13.IsWhole)
  (arg14 : Memref sig .tc .vmem S512x128 .f32) (harg14 : arg14.IsWhole)
  (arg15 : Memref sig .tc .vmem S512x128 .f32) (harg15 : arg15.IsWhole)
  (hc0 : ¬atFirst i)
  (x0 x1 : Vec F S4x512 .f32) (x2 : Vec F S1x1536 .f32) (x3 : Vec F S1x2048 .f32) (x4 : Vec F S512x1536 .fp8e4m3) (x5 : Vec F S1536x2048 .fp8e4m3) (x6 : Vec F S512x2048 .bf16) (xo8 xo9 : Vec F S1x1536 .f32) (xo10 : Vec F S1x2048 .f32) (xs0 : Vec F S1536x2048 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9 ∗ owns (c : Thread nD τ) arg11 fullShare xo10 ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (dxRows x2 x4 (xsCol x0 i) (rsCol x1 i) (k0_pay7 x6 xs0)) ∗ owns (c : Thread nD τ) arg9 fullShare (gamAcc x4 (xsCol x0 i) (rsCol x1 i) (k0_pay7 x6 xs0) xo8 8) ∗ owns (c : Thread nD τ) arg10 fullShare (xAcc x2 x4 (xsCol x0 i) (rsCol x1 i) xo9 8) ∗ owns (c : Thread nD τ) arg11 fullShare (qAcc x6 xo10 8) ∗ owns (c : Thread nD τ) arg12 fullShare xs0 ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_qkv_bwd_dx i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_qkv_bwd_dx_eq_skeleton]; unfold cc0_qkv_bwd_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%fs0, %hfs0, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hf10; obtain rfl := harg12.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    exact (loop_point c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x4 x6 ((View.readAt_full _ _ _).trans (harg12.read_unread xs0)) (harg9.read_unread _) (harg10.read_unread _) (harg11.read_unread _)).1
  isplitl [H8]
  · iexists _; isplitr; swap; · iexact H8
    ipureintro
    exact (loop_point c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x4 x6 ((View.readAt_full _ _ _).trans (harg12.read_unread xs0)) (harg9.read_unread _) (harg10.read_unread _) (harg11.read_unread _)).2.1
  isplitl [H9]
  · iexists _; isplitr; swap; · iexact H9
    ipureintro
    exact (loop_point c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x4 x6 ((View.readAt_full _ _ _).trans (harg12.read_unread xs0)) (harg9.read_unread _) (harg10.read_unread _) (harg11.read_unread _)).2.2.1
  isplitl [H10]
  · iexists _; isplitr; swap; · iexact H10
    ipureintro
    exact (loop_point c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ x0 x1 x2 x4 x6 ((View.readAt_full _ _ _).trans (harg12.read_unread xs0)) (harg9.read_unread _) (harg10.read_unread _) (harg11.read_unread _)).2.2.2
  isplitl [HS0]
  · iexists _; isplitr; swap; · iexact HS0
    ipureintro
    exact harg12.read_unread _
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.Kernel.Rows

end
-- ==== Proof.RegionBits.lean ====
module

public import proofs.«01_k».proof.Proof.PointBits

@[expose] public section

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The buffers the body is called with -/

/-- The buffer that stages window 0. -/
abbrev stg0 (t : Fin cfg0.N) : Memref sig .tc .vmem S4x512 .f32 := win0_0.stage (cfg0.slots t 0)
/-- The buffer that stages window 1. -/
abbrev stg1 (t : Fin cfg0.N) : Memref sig .tc .vmem S4x512 .f32 := win0_1.stage (cfg0.slots t 1)
/-- The buffer that stages window 2. -/
abbrev stg2 (t : Fin cfg0.N) : Memref sig .tc .vmem S1x1536 .f32 := win0_2.stage (cfg0.slots t 2)
/-- The buffer that stages window 3. -/
abbrev stg3 (t : Fin cfg0.N) : Memref sig .tc .vmem S1x2048 .f32 := win0_3.stage (cfg0.slots t 3)
/-- The buffer that stages window 4. -/
abbrev stg4 (t : Fin cfg0.N) : Memref sig .tc .vmem S512x1536 .fp8e4m3 := win0_4.stage (cfg0.slots t 4)
/-- The buffer that stages window 5. -/
abbrev stg5 (t : Fin cfg0.N) : Memref sig .tc .vmem S1536x2048 .fp8e4m3 := win0_5.stage (cfg0.slots t 5)
/-- The buffer that stages window 6. -/
abbrev stg6 (t : Fin cfg0.N) : Memref sig .tc .vmem S512x2048 .bf16 := win0_6.stage (cfg0.slots t 6)
/-- The buffer that stages window 7. -/
abbrev stg7 (t : Fin cfg0.N) : Memref sig .tc .vmem S512x1536 .bf16 := win0_7.stage (cfg0.slots t 7)
/-- The buffer that stages window 8. -/
abbrev stg8 (t : Fin cfg0.N) : Memref sig .tc .vmem S1x1536 .f32 := win0_8.stage (cfg0.slots t 8)
/-- The buffer that stages window 9. -/
abbrev stg9 (t : Fin cfg0.N) : Memref sig .tc .vmem S1x1536 .f32 := win0_9.stage (cfg0.slots t 9)
/-- The buffer that stages window 10. -/
abbrev stg10 (t : Fin cfg0.N) : Memref sig .tc .vmem S1x2048 .f32 := win0_10.stage (cfg0.slots t 10)

/-- The scratch buffers: the unscaled weights, the product, and the two per-row factors. -/
abbrev sc0 : Memref sig .tc .vmem S1536x2048 .bf16 := Memref.whole cc0_scratch0
/-- The scratch that holds the product. -/
abbrev sc1 : Memref sig .tc .vmem S512x1536 .f32 := Memref.whole cc0_scratch1
/-- The scratch that holds the row scales. -/
abbrev sc2 : Memref sig .tc .vmem S512x128 .f32 := Memref.whole cc0_scratch2
/-- The scratch that holds the norms. -/
abbrev sc3 : Memref sig .tc .vmem S512x128 .f32 := Memref.whole cc0_scratch3

/-- The scratch buffers this call works with. -/
abbrev ownScratch : List (Ref sig .tc) := [cc0_scratch0, cc0_scratch1, cc0_scratch2, cc0_scratch3]

/-- What the body never touches: the other call's buffers and the generator register. -/
def more (c : Dev nD) : sProp 𝕄 := iprop(Pipeline.scopedRestBut spec0 c ownScratch ∗ (∃ r, prngReg c r))

/-- Separation regroups. -/
theorem more_assoc (P Q R : sProp 𝕄) : iprop((P ∗ Q) ∗ R) = iprop(P ∗ Q ∗ R) := equiv_iff.mp ⟨BI.sep_assoc, BI.sep_assoc'⟩

/-- Everything the body may write besides the windows: the scratch buffers and the rest. -/
theorem rest_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ more c) := by
  unfold Pipeline.ΦA
  rw [Pipeline.scopedRest_split_of_list spec0 c ownScratch (by decide) (by decide)]
  refine (more_assoc _ _ _).trans ?_
  simp only [sc0, sc1, sc2, sc3, owns_whole]
  rfl

/-! ## What the region computes, from the arrays' contents at its entry -/

variable (V : (c : Dev nD) → (b : Ref sig .tc) → Buf (Elt F) (((c : Thread nD τ)).loc b))

/-- Window `w`'s block at point `t`. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The unscaled weights, computed at the first point and kept. -/
def wAt (c : Dev nD) : Vec F S1536x2048 .bf16 := k0_pay1 (blk V c 5 ⟨0, by decide⟩) (blk V c 3 ⟨0, by decide⟩)

/-- The weights kept are those of the first point. -/
theorem wAt_zero (c : Dev nD) (t : Fin cfg0.N) (h : t.val = 0) : wAt V c = k0_pay1 (blk V c 5 t) (blk V c 3 t) := by
  obtain ⟨n, hn⟩ := t
  obtain rfl : n = 0 := h
  rfl

/-- A point's product of the incoming gradient with the unscaled weights. -/
def hAt (c : Dev nD) (t : Fin cfg0.N) : Vec F S512x1536 .f32 := k0_pay7 (blk V c 6 t) (wAt V c)

/-- A point's rows of the activations' gradient. -/
def dxAt (c : Dev nD) (t : Fin cfg0.N) : Vec F S512x1536 .bf16 := dxRows (blk V c 2 t) (blk V c 4 t) (xsCol (blk V c 0 t) (grid0.coords t)) (rsCol (blk V c 1 t) (grid0.coords t)) (hAt V c t)

/-- The scale's gradient after point `n`. -/
def gamAt (c : Dev nD) : (n : ℕ) → n < cfg0.N → Vec F S1x1536 .f32
  | 0, h => gamAcc (blk V c 4 ⟨0, h⟩) (xsCol (blk V c 0 ⟨0, h⟩) (grid0.coords ⟨0, h⟩)) (rsCol (blk V c 1 ⟨0, h⟩) (grid0.coords ⟨0, h⟩)) (hAt V c ⟨0, h⟩) k0_pay2 8
  | n + 1, h => gamAcc (blk V c 4 ⟨n + 1, h⟩) (xsCol (blk V c 0 ⟨n + 1, h⟩) (grid0.coords ⟨n + 1, h⟩)) (rsCol (blk V c 1 ⟨n + 1, h⟩) (grid0.coords ⟨n + 1, h⟩)) (hAt V c ⟨n + 1, h⟩) (gamAt c n (Nat.lt_of_succ_lt h)) 8

/-- The gain's gradient after the first point. -/
theorem gamAt_zero (c : Dev nD) (t : Fin cfg0.N) (h : t.val = 0) : gamAt V c t.val t.isLt = gamAcc (blk V c 4 t) (xsCol (blk V c 0 t) (grid0.coords t)) (rsCol (blk V c 1 t) (grid0.coords t)) (hAt V c t) k0_pay2 8 := by
  obtain ⟨n, hn⟩ := t
  obtain rfl : n = 0 := h
  rfl

/-- The gain's gradient after a later point. -/
theorem gamAt_pos (c : Dev nD) (t : Fin cfg0.N) (h : ¬t.val = 0) :
    gamAt V c t.val t.isLt = gamAcc (blk V c 4 t) (xsCol (blk V c 0 t) (grid0.coords t)) (rsCol (blk V c 1 t) (grid0.coords t)) (hAt V c t) (gamAt V c (t.val - 1) (Nat.lt_of_le_of_lt (Nat.sub_le _ _) t.isLt)) 8 := by
  obtain ⟨n, hn⟩ := t
  cases n with
  | zero => exact absurd rfl h
  | succ n => rfl

/-- The activations' largest magnitudes after point `n`. -/
def xAt (c : Dev nD) : (n : ℕ) → n < cfg0.N → Vec F S1x1536 .f32
  | 0, h => xAcc (blk V c 2 ⟨0, h⟩) (blk V c 4 ⟨0, h⟩) (xsCol (blk V c 0 ⟨0, h⟩) (grid0.coords ⟨0, h⟩)) (rsCol (blk V c 1 ⟨0, h⟩) (grid0.coords ⟨0, h⟩)) k0_pay3 8
  | n + 1, h => xAcc (blk V c 2 ⟨n + 1, h⟩) (blk V c 4 ⟨n + 1, h⟩) (xsCol (blk V c 0 ⟨n + 1, h⟩) (grid0.coords ⟨n + 1, h⟩)) (rsCol (blk V c 1 ⟨n + 1, h⟩) (grid0.coords ⟨n + 1, h⟩)) (xAt c n (Nat.lt_of_succ_lt h)) 8

/-- The activations' maxima after the first point. -/
theorem xAt_zero (c : Dev nD) (t : Fin cfg0.N) (h : t.val = 0) : xAt V c t.val t.isLt = xAcc (blk V c 2 t) (blk V c 4 t) (xsCol (blk V c 0 t) (grid0.coords t)) (rsCol (blk V c 1 t) (grid0.coords t)) k0_pay3 8 := by
  obtain ⟨n, hn⟩ := t
  obtain rfl : n = 0 := h
  rfl

/-- The activations' maxima after a later point. -/
theorem xAt_pos (c : Dev nD) (t : Fin cfg0.N) (h : ¬t.val = 0) :
    xAt V c t.val t.isLt = xAcc (blk V c 2 t) (blk V c 4 t) (xsCol (blk V c 0 t) (grid0.coords t)) (rsCol (blk V c 1 t) (grid0.coords t)) (xAt V c (t.val - 1) (Nat.lt_of_le_of_lt (Nat.sub_le _ _) t.isLt)) 8 := by
  obtain ⟨n, hn⟩ := t
  cases n with
  | zero => exact absurd rfl h
  | succ n => rfl

/-- The incoming gradient's largest magnitudes after point `n`. -/
def qAt (c : Dev nD) : (n : ℕ) → n < cfg0.N → Vec F S1x2048 .f32
  | 0, h => qAcc (blk V c 6 ⟨0, h⟩) k0_pay4 8
  | n + 1, h => qAcc (blk V c 6 ⟨n + 1, h⟩) (qAt c n (Nat.lt_of_succ_lt h)) 8

/-- The gradient's maxima after the first point. -/
theorem qAt_zero (c : Dev nD) (t : Fin cfg0.N) (h : t.val = 0) : qAt V c t.val t.isLt = qAcc (blk V c 6 t) k0_pay4 8 := by
  obtain ⟨n, hn⟩ := t
  obtain rfl : n = 0 := h
  rfl

/-- The gradient's maxima after a later point. -/
theorem qAt_pos (c : Dev nD) (t : Fin cfg0.N) (h : ¬t.val = 0) :
    qAt V c t.val t.isLt = qAcc (blk V c 6 t) (qAt V c (t.val - 1) (Nat.lt_of_le_of_lt (Nat.sub_le _ _) t.isLt)) 8 := by
  obtain ⟨n, hn⟩ := t
  cases n with
  | zero => exact absurd rfl h
  | succ n => rfl

/-! ## The pipeline's proof data -/

/-- What is held between points besides the windows: after the first point the carried buffer has the unscaled weights. -/
def Phi (c : Dev nD) : (n : ℕ) → n ≤ cfg0.N → sProp 𝕄
  | 0, _ => Pipeline.ΦA spec0 c
  | n + 1, hn => iprop(iprop(owns (c : Thread nD τ) sc0 fullShare (wAt V c) ∗ (∃ d, owns (c : Thread nD τ) sc1 fullShare d) ∗ (∃ d, owns (c : Thread nD τ) sc2 fullShare d) ∗ (∃ d, owns (c : Thread nD τ) sc3 fullShare d)) ∗ more c)

/-- What holds before the first point. -/
theorem Phi_zero (c : Dev nD) (n : ℕ) (h : n ≤ cfg0.N) (hz : n = 0) : Phi V c n h = Pipeline.ΦA spec0 c := by
  subst hz; rfl

/-- What holds after a point. -/
theorem Phi_succ (c : Dev nD) (n : ℕ) (hn : n < cfg0.N) :
    Phi V c (n + 1) hn = iprop(iprop(owns (c : Thread nD τ) sc0 fullShare (wAt V c) ∗ (∃ d, owns (c : Thread nD τ) sc1 fullShare d) ∗ (∃ d, owns (c : Thread nD τ) sc2 fullShare d) ∗ (∃ d, owns (c : Thread nD τ) sc3 fullShare d)) ∗ more c) := rfl

/-- What holds before a later point. -/
theorem Phi_pos (c : Dev nD) (n : ℕ) (h : n ≤ cfg0.N) (hz : ¬n = 0) :
    Phi V c n h = iprop(iprop(owns (c : Thread nD τ) sc0 fullShare (wAt V c) ∗ (∃ d, owns (c : Thread nD τ) sc1 fullShare d) ∗ (∃ d, owns (c : Thread nD τ) sc2 fullShare d) ∗ (∃ d, owns (c : Thread nD τ) sc3 fullShare d)) ∗ more c) := by
  cases n with
  | zero => exact absurd rfl hz
  | succ n => rfl

/-- The proof data: the arrays at the region's entry, each input's block left in place, each output at what the point computes. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => dxAt V c t
    | ⟨8, _⟩ => gamAt V c t.val t.isLt
    | ⟨9, _⟩ => xAt V c t.val t.isLt
    | ⟨10, _⟩ => qAt V c t.val t.isLt
  Φ t := Phi V c t.val (Nat.le_of_lt_succ t.isLt)
  q _ := fullShare
  owed _ := 0

/-- A window starts from the array the region finds. -/
theorem A_eq0 (c : Dev nD) (w : Fin cfg0.W) : (dat0 V c).A w = V c (Pipeline.arrRef spec0 w) := by
  dsimp only [dat0]

/-- What holds before a point. -/
theorem Phi_castSucc (c : Dev nD) (t : Fin cfg0.N) : (dat0 V c).Φ t.castSucc = Phi V c t.val (Nat.le_of_lt t.isLt) := by
  dsimp only [dat0]; exact Pipeline.Dat.Φ_castSucc (Phi V c) t

/-- What a point leaves in window 0. -/
theorem after0_0 (c : Dev nD) (t : Fin cfg0.N) : (dat0 V c).after 0 t = blk V c 0 t := by dsimp only [dat0]
/-- What a point leaves in window 1. -/
theorem after0_1 (c : Dev nD) (t : Fin cfg0.N) : (dat0 V c).after 1 t = blk V c 1 t := by dsimp only [dat0]
/-- What a point leaves in window 2. -/
theorem after0_2 (c : Dev nD) (t : Fin cfg0.N) : (dat0 V c).after 2 t = blk V c 2 t := by dsimp only [dat0]
/-- What a point leaves in window 3. -/
theorem after0_3 (c : Dev nD) (t : Fin cfg0.N) : (dat0 V c).after 3 t = blk V c 3 t := by dsimp only [dat0]
/-- What a point leaves in window 4. -/
theorem after0_4 (c : Dev nD) (t : Fin cfg0.N) : (dat0 V c).after 4 t = blk V c 4 t := by dsimp only [dat0]
/-- What a point leaves in window 5. -/
theorem after0_5 (c : Dev nD) (t : Fin cfg0.N) : (dat0 V c).after 5 t = blk V c 5 t := by dsimp only [dat0]
/-- What a point leaves in window 6. -/
theorem after0_6 (c : Dev nD) (t : Fin cfg0.N) : (dat0 V c).after 6 t = blk V c 6 t := by dsimp only [dat0]
/-- What a point leaves in window 7. -/
theorem after0_7 (c : Dev nD) (t : Fin cfg0.N) : (dat0 V c).after 7 t = dxAt V c t := by dsimp only [dat0]
/-- What a point leaves in window 8. -/
theorem after0_8 (c : Dev nD) (t : Fin cfg0.N) : (dat0 V c).after 8 t = gamAt V c t.val t.isLt := by dsimp only [dat0]
/-- What a point leaves in window 9. -/
theorem after0_9 (c : Dev nD) (t : Fin cfg0.N) : (dat0 V c).after 9 t = xAt V c t.val t.isLt := by dsimp only [dat0]
/-- What a point leaves in window 10. -/
theorem after0_10 (c : Dev nD) (t : Fin cfg0.N) : (dat0 V c).after 10 t = qAt V c t.val t.isLt := by dsimp only [dat0]

/-! Each input's buffer holds its block at every point, fetched there or not. -/

/-- What a point finds in window 0. -/
theorem before0_0 (c : Dev nD) (t : Fin cfg0.N) (d) : (dat0 V c).before 0 t d = blk V c 0 t :=
  ((dat0 V c).before_in_eq_fetched 0 rfl (fun _ => rfl) (fun _ _ _ => rfl) (fun t => by rw [after0_0]; unfold Dat.blockOf blk; rw [A_eq0]; try rfl) t d).trans
    (by unfold Dat.fetched Dat.blockOf blk; rw [A_eq0]; try rfl)
/-- What a point finds in window 1. -/
theorem before0_1 (c : Dev nD) (t : Fin cfg0.N) (d) : (dat0 V c).before 1 t d = blk V c 1 t :=
  ((dat0 V c).before_in_eq_fetched 1 rfl (fun _ => rfl) (fun _ _ _ => rfl) (fun t => by rw [after0_1]; unfold Dat.blockOf blk; rw [A_eq0]; try rfl) t d).trans
    (by unfold Dat.fetched Dat.blockOf blk; rw [A_eq0]; try rfl)
/-- What a point finds in window 2. -/
theorem before0_2 (c : Dev nD) (t : Fin cfg0.N) (d) : (dat0 V c).before 2 t d = blk V c 2 t :=
  ((dat0 V c).before_in_eq_fetched 2 rfl (fun _ => rfl) (fun _ _ _ => rfl) (fun t => by rw [after0_2]; unfold Dat.blockOf blk; rw [A_eq0]; try rfl) t d).trans
    (by unfold Dat.fetched Dat.blockOf blk; rw [A_eq0]; try rfl)
/-- What a point finds in window 3. -/
theorem before0_3 (c : Dev nD) (t : Fin cfg0.N) (d) : (dat0 V c).before 3 t d = blk V c 3 t :=
  ((dat0 V c).before_in_eq_fetched 3 rfl (fun _ => rfl) (fun _ _ _ => rfl) (fun t => by rw [after0_3]; unfold Dat.blockOf blk; rw [A_eq0]; try rfl) t d).trans
    (by unfold Dat.fetched Dat.blockOf blk; rw [A_eq0]; try rfl)
/-- What a point finds in window 4. -/
theorem before0_4 (c : Dev nD) (t : Fin cfg0.N) (d) : (dat0 V c).before 4 t d = blk V c 4 t :=
  ((dat0 V c).before_in_eq_fetched 4 rfl (fun _ => rfl) (fun _ _ _ => rfl) (fun t => by rw [after0_4]; unfold Dat.blockOf blk; rw [A_eq0]; try rfl) t d).trans
    (by unfold Dat.fetched Dat.blockOf blk; rw [A_eq0]; try rfl)
/-- What a point finds in window 5. -/
theorem before0_5 (c : Dev nD) (t : Fin cfg0.N) (d) : (dat0 V c).before 5 t d = blk V c 5 t :=
  ((dat0 V c).before_in_eq_fetched 5 rfl (fun _ => rfl) (fun _ _ _ => rfl) (fun t => by rw [after0_5]; unfold Dat.blockOf blk; rw [A_eq0]; try rfl) t d).trans
    (by unfold Dat.fetched Dat.blockOf blk; rw [A_eq0]; try rfl)
/-- What a point finds in window 6. -/
theorem before0_6 (c : Dev nD) (t : Fin cfg0.N) (d) : (dat0 V c).before 6 t d = blk V c 6 t :=
  ((dat0 V c).before_in_eq_fetched 6 rfl (fun _ => rfl) (fun _ _ _ => rfl) (fun t => by rw [after0_6]; unfold Dat.blockOf blk; rw [A_eq0]; try rfl) t d).trans
    (by unfold Dat.fetched Dat.blockOf blk; rw [A_eq0]; try rfl)

/-! At a later point an accumulator's buffer holds what the point before left. -/

/-- What a point finds in window 8. -/
theorem before0_8 (c : Dev nD) (t : Fin cfg0.N) (h0 : ¬t.val = 0) (d) :
    (dat0 V c).before 8 t d = gamAt V c (t.val - 1) (Nat.lt_of_le_of_lt (Nat.sub_le _ _) t.isLt) := by
  have hN : t.val < 4 := lt_of_lt_of_eq t.isLt (show cfg0.N = 4 from N_0)
  rw [Dat.before_out_kept _ 8 rfl t (by omega) (Bool.eq_false_iff.mpr fun h => by have := (flush0_8 _).mp h; dsimp only at this; omega)
    (fun _ => rfl) (fun _ _ => rfl)]
  dsimp only [dat0]
/-- What a point finds in window 9. -/
theorem before0_9 (c : Dev nD) (t : Fin cfg0.N) (h0 : ¬t.val = 0) (d) :
    (dat0 V c).before 9 t d = xAt V c (t.val - 1) (Nat.lt_of_le_of_lt (Nat.sub_le _ _) t.isLt) := by
  have hN : t.val < 4 := lt_of_lt_of_eq t.isLt (show cfg0.N = 4 from N_0)
  rw [Dat.before_out_kept _ 9 rfl t (by omega) (Bool.eq_false_iff.mpr fun h => by have := (flush0_9 _).mp h; dsimp only at this; omega)
    (fun _ => rfl) (fun _ _ => rfl)]
  dsimp only [dat0]
/-- What a point finds in window 10. -/
theorem before0_10 (c : Dev nD) (t : Fin cfg0.N) (h0 : ¬t.val = 0) (d) :
    (dat0 V c).before 10 t d = qAt V c (t.val - 1) (Nat.lt_of_le_of_lt (Nat.sub_le _ _) t.isLt) := by
  have hN : t.val < 4 := lt_of_lt_of_eq t.isLt (show cfg0.N = 4 from N_0)
  rw [Dat.before_out_kept _ 10 rfl t (by omega) (Bool.eq_false_iff.mpr fun h => by have := (flush0_10 _).mp h; dsimp only at this; omega)
    (fun _ => rfl) (fun _ _ => rfl)]
  dsimp only [dat0]

/-! ## The body at a generic point -/

/-- What the body is called with, -/
def bodyPre (c : Dev nD) (t : Fin cfg0.N) : sProp 𝕄 :=
  iprop((dat0 V c).Φ t.castSucc ∗ (dat0 V c).owesAt () t.castSucc
    ∗ (∃ d, owns (c : Thread nD τ) (stg0 t) fullShare ((dat0 V c).before 0 t d))
    ∗ (∃ d, owns (c : Thread nD τ) (stg1 t) fullShare ((dat0 V c).before 1 t d))
    ∗ (∃ d, owns (c : Thread nD τ) (stg2 t) fullShare ((dat0 V c).before 2 t d))
    ∗ (∃ d, owns (c : Thread nD τ) (stg3 t) fullShare ((dat0 V c).before 3 t d))
    ∗ (∃ d, owns (c : Thread nD τ) (stg4 t) fullShare ((dat0 V c).before 4 t d))
    ∗ (∃ d, owns (c : Thread nD τ) (stg5 t) fullShare ((dat0 V c).before 5 t d))
    ∗ (∃ d, owns (c : Thread nD τ) (stg6 t) fullShare ((dat0 V c).before 6 t d))
    ∗ (∃ d, owns (c : Thread nD τ) (stg7 t) fullShare ((dat0 V c).before 7 t d))
    ∗ (∃ d, owns (c : Thread nD τ) (stg8 t) fullShare ((dat0 V c).before 8 t d))
    ∗ (∃ d, owns (c : Thread nD τ) (stg9 t) fullShare ((dat0 V c).before 9 t d))
    ∗ (∃ d, owns (c : Thread nD τ) (stg10 t) fullShare ((dat0 V c).before 10 t d)))

/-- and what it returns. -/
def bodyPost (c : Dev nD) (t : Fin cfg0.N) : sProp 𝕄 :=
  iprop((dat0 V c).Φ t.succ ∗ (dat0 V c).owesAt () t.succ
    ∗ owns (c : Thread nD τ) (stg0 t) fullShare ((dat0 V c).after 0 t)
    ∗ owns (c : Thread nD τ) (stg1 t) fullShare ((dat0 V c).after 1 t)
    ∗ owns (c : Thread nD τ) (stg2 t) fullShare ((dat0 V c).after 2 t)
    ∗ owns (c : Thread nD τ) (stg3 t) fullShare ((dat0 V c).after 3 t)
    ∗ owns (c : Thread nD τ) (stg4 t) fullShare ((dat0 V c).after 4 t)
    ∗ owns (c : Thread nD τ) (stg5 t) fullShare ((dat0 V c).after 5 t)
    ∗ owns (c : Thread nD τ) (stg6 t) fullShare ((dat0 V c).after 6 t)
    ∗ owns (c : Thread nD τ) (stg7 t) fullShare ((dat0 V c).after 7 t)
    ∗ owns (c : Thread nD τ) (stg8 t) fullShare ((dat0 V c).after 8 t)
    ∗ owns (c : Thread nD τ) (stg9 t) fullShare ((dat0 V c).after 9 t)
    ∗ owns (c : Thread nD τ) (stg10 t) fullShare ((dat0 V c).after 10 t))

set_option maxHeartbeats 4000000 in
/-- The body at any point: the first point's triple or a later point's. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7, after0_8, after0_9, after0_10]
  rw [show (dat0 V c).Φ t.succ = Phi V c (t.val + 1) t.isLt from rfl, Phi_succ, dxAt]
  by_cases h0 : t.val = 0
  · rw [Phi_castSucc V c t, Phi_zero V c _ _ h0, rest_eq]
    rw [gamAt_zero V c t h0, xAt_zero V c t h0, qAt_zero V c t h0, hAt, wAt_zero V c t h0]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (point_A c (grid0.coords t) _ _ _ _ _ _ _ _ _ _ _ _ _ _ _ _ _ _ _ _ _ _ _ _ _ _ _ _ _ _ ((atFirst_iff t).mpr h0) (blk V c 0 t) (blk V c 1 t) (blk V c 2 t) (blk V c 3 t) (blk V c 4 t) (blk V c 5 t) (blk V c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · simp only [before0_8 V c t h0, before0_9 V c t h0, before0_10 V c t h0]
    rw [Phi_castSucc V c t, Phi_pos V c _ _ h0]
    rw [gamAt_pos V c t h0, xAt_pos V c t h0, qAt_pos V c t h0, hAt]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (point_B c (grid0.coords t) _ _ _ _ _ _ _ _ _ _ _ _ _ _ _ _ _ _ _ _ _ _ _ _ _ _ _ _ _ _ (fun h => h0 ((atFirst_iff t).mp h)) (blk V c 0 t) (blk V c 1 t) (blk V c 2 t) (blk V c 3 t) (blk V c 4 t) (blk V c 5 t) (blk V c 6 t) _ _ _ (wAt V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The library's body obligation, at every point. -/
theorem body_obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound_body V c t) rfl .rfl fun _ => .rfl

/-- What the launch hands the region is what is held before the first point. -/
theorem hin0 (c : Dev nD) : Pipeline.ΦA spec0 c ⊢ (dat0 V c).Φ 0 := by
  rw [show (dat0 V c).Φ 0 = Phi V c 0 (Nat.zero_le _) from rfl, Phi_zero V c 0 _ rfl]
  try exact Idealize.SL.BI.Entails.refl _

/-- After the last point the carried buffer's contents are forgotten. -/
theorem hout0 (c : Dev nD) : (dat0 V c).Φ (Fin.last cfg0.N) ⊢ Pipeline.ΦA spec0 c := by
  have hN : cfg0.N = 4 := N_0
  rw [show (dat0 V c).Φ (Fin.last cfg0.N) = Phi V c cfg0.N le_rfl from rfl, Phi_pos V c _ _ (by omega), rest_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

end Cert.Kernel.Rows

end
-- ==== Proof.DwPointBits.lean ====
module

public import proofs.«01_k».proof.Proof.Gen.Kernel.Launch
public import proofs.«01_k».proof.Proof.Gen.Kernel.Skeleton
public import proofs.«01_k».proof.Proof.Gen.Kernel.Points
public import Idealize.ShloMosaic.Lib.Pointwise
public import Idealize.ShloMosaic.Lib.Pipeline.FrameBody
public import Idealize.ShloMosaic.Lib.Pipeline.ValueKit.Acc
public import Idealize.ShloMosaic.Lib.Pipeline.ValueKit.Tiles
public import Idealize.ShloMosaic.Lib.WritesUnit
public import Idealize.ShloMosaic.Lib.VecWindow
public import Idealize.ShloMosaic.Lib.Tactic
public import Idealize.ShloMosaic.Lib.WordCmp

@[expose] public section

set_option maxRecDepth 16384

noncomputable section

namespace Cert.Kernel.Cols

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The body's test for the first point of the grid. -/
abbrev atFirst (i : grid1.Coords) : Prop := (Scalar.cmpi .ne (Scalar.extui (Scalar.cmpi .eq (BitVec.ofNat 32 (i 0).val) 0#32)) 0#32) = 1#1

/-- It holds at the first point only. -/
theorem atFirst_iff : ∀ t : Fin cfg1.N, atFirst (grid1.coords t) ↔ t.val = 0 :=
  (fun t => by
    have ht : t.val < 4 := Nat.lt_of_lt_of_eq t.isLt N_1
    have e0 : (grid1.coords t 0).val = t.val / 1 % 4 := Pipeline.Grid.coords_val t 0 (by decide) rfl
    simp only [atFirst, e0]
    word_cmp
   : ∀ t : Fin grid1.N, atFirst (grid1.coords t) ↔ t.val = 0)

/-! ## The codes of the activation, 64 rows at a time -/

/-- Chunk `q` takes 64 rows of the array. -/
theorem rows_inb (q : Fin 32) : ∀ a, (![64 * q.val, 0] : Fin 2 → ℕ) a + S64x1536.size a ≤ S2048x1536.size a := fun a => by
  have := q.isLt
  match a with
  | ⟨0, _⟩ => show 64 * q.val + 64 ≤ 2048; omega
  | ⟨1, _⟩ => show 0 + 1536 ≤ 1536; omega

/-- Eight chunks share a row of the two tables of factors. -/
theorem seq_inb (q : Fin 32) : ∀ a, (![q.val / 8, 0] : Fin 2 → ℕ) a + S1x512.size a ≤ S4x512.size a := fun a => by
  have := q.isLt
  match a with
  | ⟨0, _⟩ => show q.val / 8 + 1 ≤ 4; omega
  | ⟨1, _⟩ => show 0 + 512 ≤ 512; omega

/-- Each of the eight takes 64 of that row's entries. -/
theorem part_inb (q : Fin 32) : S512x1.Slices ![64 * (q.val % 8), 0] S64x1 := ⟨rfl, fun a => by
  match a with
  | ⟨0, _⟩ => show 64 * (q.val % 8) + 64 ≤ 512; omega
  | ⟨1, _⟩ => show 0 + 1 ≤ 1; omega⟩

/-- The rows of chunk `q`. -/
abbrev rowsOf (q : Fin 32) : Rect S2048x1536 := Rect.unit (s := S2048x1536) ![64 * q.val, 0] S64x1536.size (rows_inb q)

/-- Chunk `q`'s 64 factors out of a table with one row per sequence, as a column. -/
def factors (v : Vec F S4x512 .f32) (q : Fin 32) : FVec F S64x1 .f32 :=
  extractStridedSlice S64x1 ![64 * (q.val % 8), 0] (k1_pay9 (View.ld v (Rect.unit (s := S4x512) ![q.val / 8, 0] S1x512.size (seq_inb q)))) (part_inb q)

/-- The codes of chunk `q`: the activation scaled by its two factors, the column's weight and the inverse scale, clipped and rounded. -/
def codesOf (inv g : FVec F S1x1536 .f32) (xs rs : Vec F S4x512 .f32) (x : Vec F S2048x1536 .fp8e4m3) (q : Fin 32) : FVec F S64x1536 .fp8e4m3 :=
  truncf .fp8e4m3 (minimumf (broadcast S64x1536 (Scalar.ofBits .f32 0x43E00000#32))
    (maximumf (broadcast S64x1536 (Scalar.ofBits .f32 0xC3E00000#32))
      (mulf (mulf (mulf (mulf (extf .f32 (shapeCast S64x1536 (View.ld x (rowsOf q)) shapeCasts_S64x1536_S64x1536) bitsLt_fp8e4m3_f32)
        (broadcastTo S64x1536 (factors xs q) broadcasts_S64x1_S64x1536)) (broadcastTo S64x1536 (factors rs q) broadcasts_S64x1_S64x1536))
        (broadcastTo S64x1536 (k1_pay8 g) broadcasts_S1x1536_S64x1536)) (broadcastTo S64x1536 inv broadcasts_S1x1536_S64x1536)))) bitsLt_fp8e4m3_f32

/-- The stores of the first `n` chunks, the newest first. -/
def stores (inv g : FVec F S1x1536 .f32) (xs rs : Vec F S4x512 .f32) (x : Vec F S2048x1536 .fp8e4m3) : (n : ℕ) → n ≤ 32 → List (View.Piece (Elt F) S2048x1536 .fp8e4m3)
  | 0, _ => []
  | n + 1, h => ⟨rowsOf ⟨n, h⟩, codesOf inv g xs rs x ⟨n, h⟩⟩ :: stores inv g xs rs x n (Nat.le_of_succ_le h)

/-- All the codes, as the 32 chunks leave them. -/
def xcOf (inv g : FVec F S1x1536 .f32) (xs rs : Vec F S4x512 .f32) (x : Vec F S2048x1536 .fp8e4m3) : Vec F S2048x1536 .fp8e4m3 :=
  View.canon (stores inv g xs rs x 32 le_rfl)

/-- Every chunk is among the stores. -/
theorem mem_stores (inv g : FVec F S1x1536 .f32) (xs rs : Vec F S4x512 .f32) (x : Vec F S2048x1536 .fp8e4m3) (q : Fin 32) :
    ∀ (n : ℕ) (h : n ≤ 32), q.val < n → (⟨rowsOf q, codesOf inv g xs rs x q⟩ : View.Piece (Elt F) S2048x1536 .fp8e4m3) ∈ stores inv g xs rs x n h
  | 0, _, hq => absurd hq (Nat.not_lt_zero _)
  | n + 1, h, hq => by
    by_cases hn : q.val = n
    · obtain rfl : q = ⟨n, h⟩ := Fin.ext hn
      exact List.mem_cons_self
    · exact List.mem_cons_of_mem _ (mem_stores inv g xs rs x q n (Nat.le_of_succ_le h) (by omega))

/-- The stores are nothing but chunks. -/
theorem of_mem_stores (inv g : FVec F S1x1536 .f32) (xs rs : Vec F S4x512 .f32) (x : Vec F S2048x1536 .fp8e4m3) :
    ∀ (n : ℕ) (h : n ≤ 32) (p : View.Piece (Elt F) S2048x1536 .fp8e4m3), p ∈ stores inv g xs rs x n h → ∃ q : Fin 32, p = ⟨rowsOf q, codesOf inv g xs rs x q⟩
  | 0, _, _, hp => absurd hp List.not_mem_nil
  | n + 1, h, p, hp => by
    rcases List.mem_cons.mp hp with rfl | hp
    · exact ⟨⟨n, h⟩, rfl⟩
    · exact of_mem_stores inv g xs rs x n (Nat.le_of_succ_le h) p hp

/-- The chunk of a row. -/
abbrev chunkOf (y : S2048x1536.Idx) : Fin 32 := ⟨(y 0).val / 64, by have : (y 0).val < 2048 := (y 0).isLt; omega⟩

/-- An element lies in its row's chunk. -/
theorem mem_rowsOf (y : S2048x1536.Idx) : y ∈ (rowsOf (chunkOf y)).set := Rect.mem_set_unit.mpr fun a => by
  match a with
  | ⟨0, _⟩ => show 64 * ((y 0).val / 64) ≤ (y 0).val ∧ (y 0).val < 64 * ((y 0).val / 64) + 64; omega
  | ⟨1, _⟩ => exact ⟨Nat.zero_le _, (Nat.zero_add 1536).symm ▸ (y 1).isLt⟩

/-- The 32 stores fill the array. -/
theorem stores_cover (inv g : FVec F S1x1536 .f32) (xs rs : Vec F S4x512 .f32) (x : Vec F S2048x1536 .fp8e4m3) (y : S2048x1536.Idx) :
    ∃ p ∈ stores inv g xs rs x 32 le_rfl, y ∈ p.1.set :=
  ⟨_, mem_stores inv g xs rs x (chunkOf y) 32 le_rfl (chunkOf y).isLt, mem_rowsOf y⟩

/-- Whatever the array held, it reads as the codes after the 32 stores. -/
theorem read_stores (v : View sig .tc .vmem S2048x1536 .fp8e4m3) (f : v.ty.Contents (Elt F)) (inv g : FVec F S1x1536 .f32) (xs rs : Vec F S4x512 .f32) (x : Vec F S2048x1536 .fp8e4m3) :
    v.read (Elt F) (v.writes (Elt F) f (stores inv g xs rs x 32 le_rfl)) = xcOf inv g xs rs x :=
  View.read_writes_eq_canon v f _ (stores_cover inv g xs rs x)

/-- A point's block of the weight's gradient, from the codes and the scales. -/
def dwOf (xc : Vec F S2048x1536 .fp8e4m3) (inv sc : FVec F S1x512 .f32) (q : Vec F S2048x512 .bf16) (col : Vec F S1536x128 .f32) : FVec F S1536x512 .f32 :=
  k1_pay2 sc xc (k1_pay1 inv (k1_pay63 q)) (View.ld col (Rect.unit (s := S1536x128) ![0, 0] S1536x1.size inb_S1536x128_S1536x1_0_0))

/-- Equal operands give equal products. -/
theorem dw_congr {sc sc' : FVec F S1x512 .f32} {xc xc' : Vec F S2048x1536 .fp8e4m3} {qc qc' : FVec F S2048x512 .fp8e4m3} {col col' : Vec F S1536x1 .f32}
    (h1 : sc = sc') (h2 : xc = xc') (h3 : qc = qc') (h4 : col = col') : k1_pay2 sc xc qc col = k1_pay2 sc' xc' qc' col' := by
  subst h1 h2 h3 h4; rfl

set_option maxHeartbeats 4000000 in
/-- The body at the first point: the codes and the scales of the activation are computed and kept. -/
theorem point_A (c : Dev nD) (i : grid1.Coords)
  (arg1 : Memref sig .tc .vmem S4x512 .f32) (harg1 : arg1.IsWhole)
  (arg2 : Memref sig .tc .vmem S4x512 .f32) (harg2 : arg2.IsWhole)
  (arg3 : Memref sig .tc .vmem S1x1536 .f32) (harg3 : arg3.IsWhole)
  (arg4 : Memref sig .tc .vmem S1x1536 .f32) (harg4 : arg4.IsWhole)
  (arg5 : Memref sig .tc .vmem S1x512 .f32) (harg5 : arg5.IsWhole)
  (arg6 : Memref sig .tc .vmem S2048x1536 .fp8e4m3) (harg6 : arg6.IsWhole)
  (arg7 : Memref sig .tc .vmem S2048x512 .bf16) (harg7 : arg7.IsWhole)
  (arg8 : Memref sig .tc .vmem S1536x512 .f32) (harg8 : arg8.IsWhole)
  (arg9 : Memref sig .tc .vmem S2048x1536 .fp8e4m3) (harg9 : arg9.IsWhole)
  (arg10 : Memref sig .tc .vmem S1x1536 .f32) (harg10 : arg10.IsWhole)
  (arg11 : Memref sig .tc .vmem S2048x512 .fp8e4m3) (harg11 : arg11.IsWhole)
  (arg12 : Memref sig .tc .vmem S1x512 .f32) (harg12 : arg12.IsWhole)
  (arg13 : Memref sig .tc .vmem S1536x128 .f32) (harg13 : arg13.IsWhole)
  (hc0 : atFirst i)
  (x0 : Vec F S4x512 .f32) (x1 : Vec F S4x512 .f32) (x2 : Vec F S1x1536 .f32) (x3 : Vec F S1x1536 .f32) (x4 : Vec F S1x512 .f32) (x5 : Vec F S2048x1536 .fp8e4m3) (x6 : Vec F S2048x512 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (dwOf (xcOf (k1_pay6 x3) x2 x0 x1 x5) (k1_pay62 x4) (k1_pay61 x4) x6 (k1_pay7 x3)) ∗ owns (c : Thread nD τ) arg9 fullShare (xcOf (k1_pay6 x3) x2 x0 x1 x5) ∗ owns (c : Thread nD τ) arg10 fullShare (k1_pay5 x3) ∗ owns (c : Thread nD τ) arg11 fullShare (k1_pay1 (k1_pay62 x4) (k1_pay63 x6)) ∗ owns (c : Thread nD τ) arg12 fullShare (k1_pay61 x4) ∗ owns (c : Thread nD τ) arg13 fullShare (k1_pay7 x3)) -∗ K ⟨⟩))
      ⊢ wp frame (wpE (defs₀ (F := F)) Variants.none c none) E (cc1_qkv_bwd_dw i arg1 harg1 arg2 harg2 arg3 harg3 arg4 harg4 arg5 harg5 arg6 harg6 arg7 harg7 arg8 harg8 arg9 harg9 arg10 harg10 arg11 harg11 arg12 harg12 arg13 harg13) K := by
  simp only [cc1_qkv_bwd_dw_eq_skeleton]; unfold cc1_qkv_bwd_dw_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton]
  unfold k1_part16_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4 hf5 hf6
  skip
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro
    exact (View.read_writes_full _ _ _ _ _).trans (dw_congr (congrArg k1_pay61 (View.readAt_full _ _ _)) ((View.readAt_full _ _ _).trans ((read_stores arg9.view arg9.view.junk (k1_pay6 (arg4.view.readAt (Elt F) (Rect.unit (s := S1x1536) ![0, 0] S1x1536.size inb_S1x1536_S1x1536_0_0).toLoadRect f3)) (arg3.view.readAt (Elt F) (Rect.unit (s := S1x1536) ![0, 0] S1x1536.size inb_S1x1536_S1x1536_0_0).toLoadRect f2) (arg1.view.read (Elt F) f0) (arg2.view.read (Elt F) f1) (arg6.view.read (Elt F) f5)).trans (congrArg₂ (fun a b => xcOf (k1_pay6 a) b (arg1.view.read (Elt F) f0) (arg2.view.read (Elt F) f1) (arg6.view.read (Elt F) f5)) (View.readAt_full _ _ _) (View.readAt_full _ _ _)))) ((View.readAt_writes_full arg11.view arg11.view.junk _ _ _ _).trans (congrArg₂ (fun a b => k1_pay1 (k1_pay62 a) (k1_pay63 b)) (View.readAt_full _ _ _) (View.readAt_full _ _ _))) (congrArg (fun v => View.ld v (Rect.unit (s := S1536x128) ![0, 0] S1536x1.size inb_S1536x128_S1536x1_0_0)) ((View.read_writes_full arg13.view arg13.view.junk _ _ _).trans (congrArg k1_pay7 (View.readAt_full _ _ _)))))
  isplitl [H8]
  · iexists _; isplitr; swap; · iexact H8
    ipureintro
    exact (read_stores arg9.view f8 (k1_pay6 (arg4.view.readAt (Elt F) (Rect.unit (s := S1x1536) ![0, 0] S1x1536.size inb_S1x1536_S1x1536_0_0).toLoadRect f3)) (arg3.view.readAt (Elt F) (Rect.unit (s := S1x1536) ![0, 0] S1x1536.size inb_S1x1536_S1x1536_0_0).toLoadRect f2) (arg1.view.read (Elt F) f0) (arg2.view.read (Elt F) f1) (arg6.view.read (Elt F) f5)).trans (congrArg₂ (fun a b => xcOf (k1_pay6 a) b (arg1.view.read (Elt F) f0) (arg2.view.read (Elt F) f1) (arg6.view.read (Elt F) f5)) (View.readAt_full _ _ _) (View.readAt_full _ _ _))
  isplitl [H9]
  · iexists _; isplitr; swap; · iexact H9
    ipureintro
    exact (View.read_writes_full _ _ _ _ _).trans (congrArg k1_pay5 (View.readAt_full _ _ _))
  isplitl [H10]
  · iexists _; isplitr; swap; · iexact H10
    ipureintro
    exact (View.read_writes_full _ _ _ _ _).trans (congrArg₂ (fun a b => k1_pay1 (k1_pay62 a) (k1_pay63 b)) (View.readAt_full _ _ _) (View.readAt_full _ _ _))
  isplitl [H11]
  · iexists _; isplitr; swap; · iexact H11
    ipureintro
    exact (View.read_writes_full _ _ _ _ _).trans (congrArg k1_pay61 (View.readAt_full _ _ _))
  iexists _; isplitr; swap; · iexact H12
  ipureintro
  exact (View.read_writes_full _ _ _ _ _).trans (congrArg k1_pay7 (View.readAt_full _ _ _))

set_option maxHeartbeats 4000000 in
/-- The body at a later point: the codes and the scales of the activation are the ones kept. -/
theorem point_B (c : Dev nD) (i : grid1.Coords)
  (arg1 : Memref sig .tc .vmem S4x512 .f32) (harg1 : arg1.IsWhole)
  (arg2 : Memref sig .tc .vmem S4x512 .f32) (harg2 : arg2.IsWhole)
  (arg3 : Memref sig .tc .vmem S1x1536 .f32) (harg3 : arg3.IsWhole)
  (arg4 : Memref sig .tc .vmem S1x1536 .f32) (harg4 : arg4.IsWhole)
  (arg5 : Memref sig .tc .vmem S1x512 .f32) (harg5 : arg5.IsWhole)
  (arg6 : Memref sig .tc .vmem S2048x1536 .fp8e4m3) (harg6 : arg6.IsWhole)
  (arg7 : Memref sig .tc .vmem S2048x512 .bf16) (harg7 : arg7.IsWhole)
  (arg8 : Memref sig .tc .vmem S1536x512 .f32) (harg8 : arg8.IsWhole)
  (arg9 : Memref sig .tc .vmem S2048x1536 .fp8e4m3) (harg9 : arg9.IsWhole)
  (arg10 : Memref sig .tc .vmem S1x1536 .f32) (harg10 : arg10.IsWhole)
  (arg11 : Memref sig .tc .vmem S2048x512 .fp8e4m3) (harg11 : arg11.IsWhole)
  (arg12 : Memref sig .tc .vmem S1x512 .f32) (harg12 : arg12.IsWhole)
  (arg13 : Memref sig .tc .vmem S1536x128 .f32) (harg13 : arg13.IsWhole)
  (hc0 : ¬atFirst i)
  (x0 : Vec F S4x512 .f32) (x1 : Vec F S4x512 .f32) (x2 : Vec F S1x1536 .f32) (x3 : Vec F S1x1536 .f32) (x4 : Vec F S1x512 .f32) (x5 : Vec F S2048x1536 .fp8e4m3) (x6 : Vec F S2048x512 .bf16) (xo8 : Vec F S2048x1536 .fp8e4m3) (xo9 : Vec F S1x1536 .f32) (xs0 : Vec F S1536x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9 ∗ (∃ d, owns (c : Thread nD τ) arg11 fullShare d) ∗ (∃ d, owns (c : Thread nD τ) arg12 fullShare d) ∗ owns (c : Thread nD τ) arg13 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (dwOf xo8 (k1_pay62 x4) (k1_pay61 x4) x6 xs0) ∗ owns (c : Thread nD τ) arg9 fullShare xo8 ∗ owns (c : Thread nD τ) arg10 fullShare xo9 ∗ owns (c : Thread nD τ) arg11 fullShare (k1_pay1 (k1_pay62 x4) (k1_pay63 x6)) ∗ owns (c : Thread nD τ) arg12 fullShare (k1_pay61 x4) ∗ owns (c : Thread nD τ) arg13 fullShare xs0) -∗ K ⟨⟩))
      ⊢ wp frame (wpE (defs₀ (F := F)) Variants.none c none) E (cc1_qkv_bwd_dw i arg1 harg1 arg2 harg2 arg3 harg3 arg4 harg4 arg5 harg5 arg6 harg6 arg7 harg7 arg8 harg8 arg9 harg9 arg10 harg10 arg11 harg11 arg12 harg12 arg13 harg13) K := by
  simp only [cc1_qkv_bwd_dw_eq_skeleton]; unfold cc1_qkv_bwd_dw_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton]
  unfold k1_part16_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, ⟨%f12, %hf12, H12⟩, Hk⟩
  subst hf0 hf1 hf2 hf3 hf4 hf5 hf6 hf8 hf9 hf12
  skip
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro
    exact (View.read_writes_full _ _ _ _ _).trans (dw_congr (congrArg k1_pay61 (View.readAt_full _ _ _)) (View.readAt_full _ _ _) ((View.readAt_writes_full _ _ _ _ _ _).trans (congrArg₂ (fun a b => k1_pay1 (k1_pay62 a) (k1_pay63 b)) (View.readAt_full _ _ _) (View.readAt_full _ _ _))) rfl)
  isplitl [H8]
  · iexists _; isplitr; swap; · iexact H8
    ipureintro
    rfl
  isplitl [H9]
  · iexists _; isplitr; swap; · iexact H9
    ipureintro
    rfl
  isplitl [H10]
  · iexists _; isplitr; swap; · iexact H10
    ipureintro
    exact (View.read_writes_full _ _ _ _ _).trans (congrArg₂ (fun a b => k1_pay1 (k1_pay62 a) (k1_pay63 b)) (View.readAt_full _ _ _) (View.readAt_full _ _ _))
  isplitl [H11]
  · iexists _; isplitr; swap; · iexact H11
    ipureintro
    exact (View.read_writes_full _ _ _ _ _).trans (congrArg k1_pay61 (View.readAt_full _ _ _))
  iexists _; isplitr; swap; · iexact H12
  ipureintro
  rfl

end Cert.Kernel.Cols

end
-- ==== Proof.DwRegionBits.lean ====
module

public import proofs.«01_k».proof.Proof.DwPointBits
public import Idealize.ShloMosaic.Lib.Pipeline.TableIdle

@[expose] public section

set_option maxRecDepth 16384

noncomputable section

namespace Cert.Kernel.Cols

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The buffers the body is called with -/

/-- The buffer that stages window 0. -/
abbrev stg0 (t : Fin cfg1.N) : Memref sig .tc .vmem S4x512 .f32 := win1_0.stage (cfg1.slots t 0)
/-- The buffer that stages window 1. -/
abbrev stg1 (t : Fin cfg1.N) : Memref sig .tc .vmem S4x512 .f32 := win1_1.stage (cfg1.slots t 1)
/-- The buffer that stages window 2. -/
abbrev stg2 (t : Fin cfg1.N) : Memref sig .tc .vmem S1x1536 .f32 := win1_2.stage (cfg1.slots t 2)
/-- The buffer that stages window 3. -/
abbrev stg3 (t : Fin cfg1.N) : Memref sig .tc .vmem S1x1536 .f32 := win1_3.stage (cfg1.slots t 3)
/-- The buffer that stages window 4. -/
abbrev stg4 (t : Fin cfg1.N) : Memref sig .tc .vmem S1x512 .f32 := win1_4.stage (cfg1.slots t 4)
/-- The buffer that stages window 5. -/
abbrev stg5 (t : Fin cfg1.N) : Memref sig .tc .vmem S2048x1536 .fp8e4m3 := win1_5.stage (cfg1.slots t 5)
/-- The buffer that stages window 6. -/
abbrev stg6 (t : Fin cfg1.N) : Memref sig .tc .vmem S2048x512 .bf16 := win1_6.stage (cfg1.slots t 6)
/-- The buffer that stages window 7. -/
abbrev stg7 (t : Fin cfg1.N) : Memref sig .tc .vmem S1536x512 .f32 := win1_7.stage (cfg1.slots t 7)
/-- The buffer that stages window 8. -/
abbrev stg8 (t : Fin cfg1.N) : Memref sig .tc .vmem S2048x1536 .fp8e4m3 := win1_8.stage (cfg1.slots t 8)
/-- The buffer that stages window 9. -/
abbrev stg9 (t : Fin cfg1.N) : Memref sig .tc .vmem S1x1536 .f32 := win1_9.stage (cfg1.slots t 9)
/-- The buffer that stages window 10. -/
abbrev stg10 (t : Fin cfg1.N) : Memref sig .tc .vmem S2048x512 .fp8e4m3 := win1_10.stage (cfg1.slots t 10)
/-- The buffer that stages window 11. -/
abbrev stg11 (t : Fin cfg1.N) : Memref sig .tc .vmem S1x512 .f32 := win1_11.stage (cfg1.slots t 11)

/-- The scratch buffer: the activation's scales as a column, repeated over the lanes. -/
abbrev sc0 : Memref sig .tc .vmem S1536x128 .f32 := Memref.whole cc1_scratch0

/-- The scratch buffer this call works with. -/
abbrev ownScratch : List (Ref sig .tc) := [cc1_scratch0]

/-- What the body never touches: the other call's buffers and the generator register. -/
def more (c : Dev nD) : sProp 𝕄 := iprop(Pipeline.scopedRestBut spec1 c ownScratch ∗ (∃ r, prngReg c r))

/-- Separation regroups. -/
theorem more_assoc (P Q R : sProp 𝕄) : iprop((P ∗ Q) ∗ R) = iprop(P ∗ Q ∗ R) := equiv_iff.mp ⟨BI.sep_assoc, BI.sep_assoc'⟩

/-- Everything the body may write besides the windows: the scratch buffer and the rest. -/
theorem rest_eq (c : Dev nD) :
    (Pipeline.ΦA spec1 c : sProp 𝕄) = iprop((∃ d, owns (c : Thread nD τ) sc0 fullShare d) ∗ more c) := by
  unfold Pipeline.ΦA
  rw [Pipeline.scopedRest_split_of_list spec1 c ownScratch (by decide) (by decide)]
  refine (more_assoc _ _ _).trans ?_
  simp only [sc0, owns_whole]
  rfl

/-! ## What the region computes, from the arrays' contents at its entry -/

variable (V : (c : Dev nD) → (b : Ref sig .tc) → Buf (Elt F) (((c : Thread nD τ)).loc b))

/-- Window `w`'s block at point `t`. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The codes of the activation, computed at the first point and kept. -/
def xcAt (c : Dev nD) : Vec F S2048x1536 .fp8e4m3 :=
  xcOf (k1_pay6 (blk V c 3 ⟨0, by decide⟩)) (blk V c 2 ⟨0, by decide⟩) (blk V c 0 ⟨0, by decide⟩) (blk V c 1 ⟨0, by decide⟩) (blk V c 5 ⟨0, by decide⟩)

/-- The activation's scales, computed at the first point and kept, -/
def xscAt (c : Dev nD) : Vec F S1x1536 .f32 := k1_pay5 (blk V c 3 ⟨0, by decide⟩)

/-- and the same scales as a column. -/
def colAt (c : Dev nD) : Vec F S1536x128 .f32 := k1_pay7 (blk V c 3 ⟨0, by decide⟩)

/-- At the first point the three are computed from its own blocks. -/
theorem kept_zero (c : Dev nD) (t : Fin cfg1.N) (h : t.val = 0) :
    xcAt V c = xcOf (k1_pay6 (blk V c 3 t)) (blk V c 2 t) (blk V c 0 t) (blk V c 1 t) (blk V c 5 t) ∧ xscAt V c = k1_pay5 (blk V c 3 t) ∧ colAt V c = k1_pay7 (blk V c 3 t) := by
  obtain ⟨n, hn⟩ := t
  obtain rfl : n = 0 := h
  exact ⟨rfl, rfl, rfl⟩

/-- A point's block of the weight's gradient, -/
def dwAt (c : Dev nD) (t : Fin cfg1.N) : Vec F S1536x512 .f32 := dwOf (xcAt V c) (k1_pay62 (blk V c 4 t)) (k1_pay61 (blk V c 4 t)) (blk V c 6 t) (colAt V c)

/-- its codes of the incoming gradient, -/
def qcAt (c : Dev nD) (t : Fin cfg1.N) : Vec F S2048x512 .fp8e4m3 := k1_pay1 (k1_pay62 (blk V c 4 t)) (k1_pay63 (blk V c 6 t))

/-- and their scales. -/
def qscAt (c : Dev nD) (t : Fin cfg1.N) : Vec F S1x512 .f32 := k1_pay61 (blk V c 4 t)

/-- What is held between points besides the windows: after the first point the carried buffer has the scales. -/
def Phi (c : Dev nD) : (n : ℕ) → n ≤ cfg1.N → sProp 𝕄
  | 0, _ => Pipeline.ΦA spec1 c
  | n + 1, hn => iprop(owns (c : Thread nD τ) sc0 fullShare (colAt V c) ∗ more c)

/-- Before the first point it has anything. -/
theorem Phi_zero (c : Dev nD) (n : ℕ) (h : n ≤ cfg1.N) (hz : n = 0) : Phi V c n h = Pipeline.ΦA spec1 c := by
  subst hz; rfl

/-- After a point it has the scales. -/
theorem Phi_succ (c : Dev nD) (n : ℕ) (hn : n < cfg1.N) :
    Phi V c (n + 1) hn = iprop(owns (c : Thread nD τ) sc0 fullShare (colAt V c) ∗ more c) := rfl

/-- Before a later point it has the scales. -/
theorem Phi_pos (c : Dev nD) (n : ℕ) (h : n ≤ cfg1.N) (hz : ¬n = 0) :
    Phi V c n h = iprop(owns (c : Thread nD τ) sc0 fullShare (colAt V c) ∗ more c) := by
  cases n with
  | zero => exact absurd rfl hz
  | succ n => rfl

/-- The proof data: the arrays at the region's entry, each input's block left in place, each output at what the point computes. -/
def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => dwAt V c t
    | ⟨8, _⟩ => xcAt V c
    | ⟨9, _⟩ => xscAt V c
    | ⟨10, _⟩ => qcAt V c t
    | ⟨11, _⟩ => qscAt V c t
  Φ t := Phi V c t.val (Nat.le_of_lt_succ t.isLt)
  q _ := fullShare
  owed _ := 0

/-- A window starts from the array the region finds. -/
theorem A_eq1 (c : Dev nD) (w : Fin cfg1.W) : (dat1 V c).A w = V c (Pipeline.arrRef spec1 w) := by
  dsimp only [dat1]

/-- What holds before a point. -/
theorem Phi_castSucc (c : Dev nD) (t : Fin cfg1.N) : (dat1 V c).Φ t.castSucc = Phi V c t.val (Nat.le_of_lt t.isLt) := by
  dsimp only [dat1]; rfl

/-- What a point leaves in window 0. -/
theorem after1_0 (c : Dev nD) (t : Fin cfg1.N) : (dat1 V c).after 0 t = blk V c 0 t := by dsimp only [dat1]
/-- What a point leaves in window 1. -/
theorem after1_1 (c : Dev nD) (t : Fin cfg1.N) : (dat1 V c).after 1 t = blk V c 1 t := by dsimp only [dat1]
/-- What a point leaves in window 2. -/
theorem after1_2 (c : Dev nD) (t : Fin cfg1.N) : (dat1 V c).after 2 t = blk V c 2 t := by dsimp only [dat1]
/-- What a point leaves in window 3. -/
theorem after1_3 (c : Dev nD) (t : Fin cfg1.N) : (dat1 V c).after 3 t = blk V c 3 t := by dsimp only [dat1]
/-- What a point leaves in window 4. -/
theorem after1_4 (c : Dev nD) (t : Fin cfg1.N) : (dat1 V c).after 4 t = blk V c 4 t := by dsimp only [dat1]
/-- What a point leaves in window 5. -/
theorem after1_5 (c : Dev nD) (t : Fin cfg1.N) : (dat1 V c).after 5 t = blk V c 5 t := by dsimp only [dat1]
/-- What a point leaves in window 6. -/
theorem after1_6 (c : Dev nD) (t : Fin cfg1.N) : (dat1 V c).after 6 t = blk V c 6 t := by dsimp only [dat1]
/-- What a point leaves in window 7. -/
theorem after1_7 (c : Dev nD) (t : Fin cfg1.N) : (dat1 V c).after 7 t = dwAt V c t := by dsimp only [dat1]
/-- What a point leaves in window 8. -/
theorem after1_8 (c : Dev nD) (t : Fin cfg1.N) : (dat1 V c).after 8 t = xcAt V c := by dsimp only [dat1]
/-- What a point leaves in window 9. -/
theorem after1_9 (c : Dev nD) (t : Fin cfg1.N) : (dat1 V c).after 9 t = xscAt V c := by dsimp only [dat1]
/-- What a point leaves in window 10. -/
theorem after1_10 (c : Dev nD) (t : Fin cfg1.N) : (dat1 V c).after 10 t = qcAt V c t := by dsimp only [dat1]
/-- What a point leaves in window 11. -/
theorem after1_11 (c : Dev nD) (t : Fin cfg1.N) : (dat1 V c).after 11 t = qscAt V c t := by dsimp only [dat1]

/-! Each input's buffer holds its block at every point, fetched there or not. -/

/-- What a point finds in window 0. -/
theorem before1_0 (c : Dev nD) (t : Fin cfg1.N) (d) : (dat1 V c).before 0 t d = blk V c 0 t :=
  ((dat1 V c).before_in_eq_fetched 0 rfl (fun _ => rfl) (fun _ _ _ => rfl) (fun t => by rw [after1_0]; unfold Dat.blockOf blk; rw [A_eq1]; try rfl) t d).trans
    (by unfold Dat.fetched Dat.blockOf blk; rw [A_eq1]; try rfl)
/-- What a point finds in window 1. -/
theorem before1_1 (c : Dev nD) (t : Fin cfg1.N) (d) : (dat1 V c).before 1 t d = blk V c 1 t :=
  ((dat1 V c).before_in_eq_fetched 1 rfl (fun _ => rfl) (fun _ _ _ => rfl) (fun t => by rw [after1_1]; unfold Dat.blockOf blk; rw [A_eq1]; try rfl) t d).trans
    (by unfold Dat.fetched Dat.blockOf blk; rw [A_eq1]; try rfl)
/-- What a point finds in window 2. -/
theorem before1_2 (c : Dev nD) (t : Fin cfg1.N) (d) : (dat1 V c).before 2 t d = blk V c 2 t :=
  ((dat1 V c).before_in_eq_fetched 2 rfl (fun _ => rfl) (fun _ _ _ => rfl) (fun t => by rw [after1_2]; unfold Dat.blockOf blk; rw [A_eq1]; try rfl) t d).trans
    (by unfold Dat.fetched Dat.blockOf blk; rw [A_eq1]; try rfl)
/-- What a point finds in window 3. -/
theorem before1_3 (c : Dev nD) (t : Fin cfg1.N) (d) : (dat1 V c).before 3 t d = blk V c 3 t :=
  ((dat1 V c).before_in_eq_fetched 3 rfl (fun _ => rfl) (fun _ _ _ => rfl) (fun t => by rw [after1_3]; unfold Dat.blockOf blk; rw [A_eq1]; try rfl) t d).trans
    (by unfold Dat.fetched Dat.blockOf blk; rw [A_eq1]; try rfl)
/-- What a point finds in window 4. -/
theorem before1_4 (c : Dev nD) (t : Fin cfg1.N) (d) : (dat1 V c).before 4 t d = blk V c 4 t :=
  ((dat1 V c).before_in_eq_fetched 4 rfl (fun _ => rfl) (fun _ _ _ => rfl) (fun t => by rw [after1_4]; unfold Dat.blockOf blk; rw [A_eq1]; try rfl) t d).trans
    (by unfold Dat.fetched Dat.blockOf blk; rw [A_eq1]; try rfl)
/-- What a point finds in window 5. -/
theorem before1_5 (c : Dev nD) (t : Fin cfg1.N) (d) : (dat1 V c).before 5 t d = blk V c 5 t :=
  ((dat1 V c).before_in_eq_fetched 5 rfl (fun _ => rfl) (fun _ _ _ => rfl) (fun t => by rw [after1_5]; unfold Dat.blockOf blk; rw [A_eq1]; try rfl) t d).trans
    (by unfold Dat.fetched Dat.blockOf blk; rw [A_eq1]; try rfl)
/-- What a point finds in window 6. -/
theorem before1_6 (c : Dev nD) (t : Fin cfg1.N) (d) : (dat1 V c).before 6 t d = blk V c 6 t :=
  ((dat1 V c).before_in_eq_fetched 6 rfl (fun _ => rfl) (fun _ _ _ => rfl) (fun t => by rw [after1_6]; unfold Dat.blockOf blk; rw [A_eq1]; try rfl) t d).trans
    (by unfold Dat.fetched Dat.blockOf blk; rw [A_eq1]; try rfl)

/-! At a later point the codes and scales of the activation are the ones left before. -/

/-- The body leaves these two buffers alone exactly after the first point. -/
theorem idle_iff (t : Fin cfg1.N) : (cfg1.idle 8 (cfg1.grid.coords t) = true ↔ ¬t.val = 0) ∧ (cfg1.idle 9 (cfg1.grid.coords t) = true ↔ ¬t.val = 0) := by
  have h : (!(k1_cond1 (grid1.coords t) == 1#1)) = true ↔ ¬t.val = 0 := by
    rw [Bool.not_eq_true', beq_eq_false_iff_ne, ne_eq]
    exact not_congr (atFirst_iff t)
  exact ⟨h, h⟩

/-- Past the first point they hold what was stored there. -/
theorem not_fresh : ∀ n : ℕ, n + 1 < 4 → cfg1.fresh 8 (n + 1) = false ∧ cfg1.fresh 9 (n + 1) = false
  | n, hn => by
    have hN : n < cfg1.N := by rw [show cfg1.N = 4 from N_1]; omega
    have f8 : (cfg1.win 8).flush ⟨n, hN⟩ = false := Bool.eq_false_iff.mpr fun h => by have := (flush1_8 ⟨n, hN⟩).mp h; dsimp only at this; omega
    have f9 : (cfg1.win 9).flush ⟨n, hN⟩ = false := Bool.eq_false_iff.mpr fun h => by have := (flush1_9 ⟨n, hN⟩).mp h; dsimp only at this; omega
    rw [Pipeline.Cfg.fresh_succ cfg1 8 n hN, Pipeline.Cfg.fresh_succ cfg1 9 n hN, f8, f9]
    cases n with
    | zero =>
      have i8 : cfg1.idle 8 (cfg1.grid.coords ⟨0, hN⟩) = false := Bool.eq_false_iff.mpr fun h => ((idle_iff ⟨0, hN⟩).1.mp h) rfl
      rw [i8]
      exact ⟨rfl, rfl⟩
    | succ n =>
      have ih := not_fresh n (by omega)
      rw [ih.1, ih.2, Bool.and_false]
      exact ⟨rfl, rfl⟩

/-- What a point finds in window 8. -/
theorem before1_8 (c : Dev nD) (t : Fin cfg1.N) (h0 : ¬t.val = 0) (d) :
    (dat1 V c).before 8 t d = xcAt V c := by
  have hN : t.val < 4 := lt_of_lt_of_eq t.isLt (show cfg1.N = 4 from N_1)
  have hf : cfg1.fresh 8 t.val = false := by
    have := not_fresh (t.val - 1) (by omega)
    rw [show t.val - 1 + 1 = t.val by omega] at this
    exact this.1
  rw [(dat1 V c).before_out_traj 8 rfl (fun _ _ => rfl) (fun _ _ _ _ => by dsimp only [dat1]) t.val t rfl d, hf, if_neg Bool.false_ne_true]
  dsimp only [dat1]
/-- What a point finds in window 9. -/
theorem before1_9 (c : Dev nD) (t : Fin cfg1.N) (h0 : ¬t.val = 0) (d) :
    (dat1 V c).before 9 t d = xscAt V c := by
  have hN : t.val < 4 := lt_of_lt_of_eq t.isLt (show cfg1.N = 4 from N_1)
  have hf : cfg1.fresh 9 t.val = false := by
    have := not_fresh (t.val - 1) (by omega)
    rw [show t.val - 1 + 1 = t.val by omega] at this
    exact this.2
  rw [(dat1 V c).before_out_traj 9 rfl (fun _ _ => rfl) (fun _ _ _ _ => by dsimp only [dat1]) t.val t rfl d, hf, if_neg Bool.false_ne_true]
  dsimp only [dat1]
/-- The kept buffer is what the pipeline expects after any point. -/
theorem keep8 (c : Dev nD) (t : Fin cfg1.N) : owns (c : Thread nD τ) (stg8 t) fullShare (xcAt V c) ⊢ ((dat1 V c).leavesExact 8 t : sProp 𝕄) := by
  by_cases hi : cfg1.idle 8 (cfg1.grid.coords t) = true
  · by_cases hf : (cfg1.win 8).flush t = true
    · unfold Dat.leavesExact
      rw [hi, hf, after1_8]
    · rw [(dat1 V c).leavesExact_idle 8 t hi (Bool.eq_false_iff.mpr hf)]
      iintro H
      iexists (xcAt V c)
      rw [before1_8 V c t ((idle_iff t).1.mp hi)]
      iexact H
  · unfold Dat.leavesExact
    rw [Bool.eq_false_iff.mpr hi, after1_8]

/-- The kept buffer is what the pipeline expects after any point. -/
theorem keep9 (c : Dev nD) (t : Fin cfg1.N) : owns (c : Thread nD τ) (stg9 t) fullShare (xscAt V c) ⊢ ((dat1 V c).leavesExact 9 t : sProp 𝕄) := by
  by_cases hi : cfg1.idle 9 (cfg1.grid.coords t) = true
  · by_cases hf : (cfg1.win 9).flush t = true
    · unfold Dat.leavesExact
      rw [hi, hf, after1_9]
    · rw [(dat1 V c).leavesExact_idle 9 t hi (Bool.eq_false_iff.mpr hf)]
      iintro H
      iexists (xscAt V c)
      rw [before1_9 V c t ((idle_iff t).2.mp hi)]
      iexact H
  · unfold Dat.leavesExact
    rw [Bool.eq_false_iff.mpr hi, after1_9]

/-! ## The body at a generic point -/

/-- What the body is called with, -/
def bodyPre (c : Dev nD) (t : Fin cfg1.N) : sProp 𝕄 :=
  iprop((dat1 V c).Φ t.castSucc ∗ (dat1 V c).owesAt () t.castSucc
    ∗ (∃ d, owns (c : Thread nD τ) (stg0 t) fullShare ((dat1 V c).before 0 t d))
    ∗ (∃ d, owns (c : Thread nD τ) (stg1 t) fullShare ((dat1 V c).before 1 t d))
    ∗ (∃ d, owns (c : Thread nD τ) (stg2 t) fullShare ((dat1 V c).before 2 t d))
    ∗ (∃ d, owns (c : Thread nD τ) (stg3 t) fullShare ((dat1 V c).before 3 t d))
    ∗ (∃ d, owns (c : Thread nD τ) (stg4 t) fullShare ((dat1 V c).before 4 t d))
    ∗ (∃ d, owns (c : Thread nD τ) (stg5 t) fullShare ((dat1 V c).before 5 t d))
    ∗ (∃ d, owns (c : Thread nD τ) (stg6 t) fullShare ((dat1 V c).before 6 t d))
    ∗ (∃ d, owns (c : Thread nD τ) (stg7 t) fullShare ((dat1 V c).before 7 t d))
    ∗ (∃ d, owns (c : Thread nD τ) (stg8 t) fullShare ((dat1 V c).before 8 t d))
    ∗ (∃ d, owns (c : Thread nD τ) (stg9 t) fullShare ((dat1 V c).before 9 t d))
    ∗ (∃ d, owns (c : Thread nD τ) (stg10 t) fullShare ((dat1 V c).before 10 t d))
    ∗ (∃ d, owns (c : Thread nD τ) (stg11 t) fullShare ((dat1 V c).before 11 t d)))

/-- and what it returns. -/
def bodyPost (c : Dev nD) (t : Fin cfg1.N) : sProp 𝕄 :=
  iprop((dat1 V c).Φ t.succ ∗ (dat1 V c).owesAt () t.succ
    ∗ owns (c : Thread nD τ) (stg0 t) fullShare ((dat1 V c).after 0 t)
    ∗ owns (c : Thread nD τ) (stg1 t) fullShare ((dat1 V c).after 1 t)
    ∗ owns (c : Thread nD τ) (stg2 t) fullShare ((dat1 V c).after 2 t)
    ∗ owns (c : Thread nD τ) (stg3 t) fullShare ((dat1 V c).after 3 t)
    ∗ owns (c : Thread nD τ) (stg4 t) fullShare ((dat1 V c).after 4 t)
    ∗ owns (c : Thread nD τ) (stg5 t) fullShare ((dat1 V c).after 5 t)
    ∗ owns (c : Thread nD τ) (stg6 t) fullShare ((dat1 V c).after 6 t)
    ∗ owns (c : Thread nD τ) (stg7 t) fullShare ((dat1 V c).after 7 t)
    ∗ (dat1 V c).leavesExact 8 t
    ∗ (dat1 V c).leavesExact 9 t
    ∗ owns (c : Thread nD τ) (stg10 t) fullShare ((dat1 V c).after 10 t)
    ∗ owns (c : Thread nD τ) (stg11 t) fullShare ((dat1 V c).after 11 t))

set_option maxHeartbeats 4000000 in
/-- The body at any point: the first point's triple or a later point's. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6]
  rw [show (dat1 V c).owesAt () t.succ = (dat1 V c).owesAt () t.castSucc from rfl,
    after1_0, after1_1, after1_2, after1_3, after1_4, after1_5, after1_6, after1_7, after1_10, after1_11]
  rw [show (dat1 V c).Φ t.succ = Phi V c (t.val + 1) t.isLt from rfl, Phi_succ, dwAt, qcAt, qscAt]
  by_cases h0 : t.val = 0
  · rw [Phi_castSucc V c t, Phi_zero V c _ _ h0, rest_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (point_A c (grid1.coords t) _ _ _ _ _ _ _ _ _ _ _ _ _ _ _ _ _ _ _ _ _ _ _ _ _ _ ((atFirst_iff t).mpr h0) (blk V c 0 t) (blk V c 1 t) (blk V c 2 t) (blk V c 3 t) (blk V c 4 t) (blk V c 5 t) (blk V c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    rw [← (kept_zero V c t h0).1, ← (kept_zero V c t h0).2.1, ← (kept_zero V c t h0).2.2]
    iintro ⟨H0, H1, H2, H3, H4, H5, H6, H7, H8, H9, H10, H11, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (keep8 V c t); iexact H8
    isplitl [H9]; · iapply (keep9 V c t); iexact H9
    isplitl [H10]; · iexact H10
    iexact H11
  · simp only [before1_8 V c t h0, before1_9 V c t h0]
    rw [Phi_castSucc V c t, Phi_pos V c _ _ h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (point_B c (grid1.coords t) _ _ _ _ _ _ _ _ _ _ _ _ _ _ _ _ _ _ _ _ _ _ _ _ _ _ (fun h => h0 ((atFirst_iff t).mp h)) (blk V c 0 t) (blk V c 1 t) (blk V c 2 t) (blk V c 3 t) (blk V c 4 t) (blk V c 5 t) (blk V c 6 t) (xcAt V c) (xscAt V c) (colAt V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexists _; iexact H10
    isplitl [H11]; · iexists _; iexact H11
    isplitl [HS0]; · iexact HS0
    iintro ⟨H0, H1, H2, H3, H4, H5, H6, H7, H8, H9, H10, H11, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (keep8 V c t); iexact H8
    isplitl [H9]; · iapply (keep9 V c t); iexact H9
    isplitl [H10]; · iexact H10
    iexact H11

set_option maxHeartbeats 2000000 in
/-- The library's body obligation, at every point. -/
theorem body_obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  exact triple_restated (sound_body V c t) rfl .rfl fun _ => .rfl

/-- What the launch hands the region is what is held before the first point. -/
theorem hin1 (c : Dev nD) : Pipeline.ΦA spec1 c ⊢ (dat1 V c).Φ 0 := by
  rw [show (dat1 V c).Φ 0 = Phi V c 0 (Nat.zero_le _) from rfl, Phi_zero V c 0 _ rfl]
  try exact Idealize.SL.BI.Entails.refl _

/-- After the last point the carried buffer's contents are forgotten. -/
theorem hout1 (c : Dev nD) : (dat1 V c).Φ (Fin.last cfg1.N) ⊢ Pipeline.ΦA spec1 c := by
  have hN : cfg1.N = 4 := N_1
  rw [show (dat1 V c).Φ (Fin.last cfg1.N) = Phi V c cfg1.N le_rfl from rfl, Phi_pos V c _ _ (by omega), rest_eq]
  iintro ⟨HS0, Hg⟩
  isplitl [HS0]
  · iexists _; iexact HS0
  iexact Hg

end Cert.Kernel.Cols

end
-- ==== Proof.EndsBits.lean ====
module

public import proofs.«01_k».proof.Proof.RegionBits
public import proofs.«01_k».proof.Proof.DwRegionBits
public import proofs.«01_k».proof.Proof.Gen.Kernel.Regions
public import Idealize.ShloMosaic.Lib.Pipeline.RegionsLoop
public import Idealize.ShloMosaic.Lib.Pipeline.FrameSuffix

@[expose] public section

set_option maxRecDepth 16384

noncomputable section

namespace Cert.Kernel.Ends

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel
open Cert.Kernel.Gen hiding V1 V2 V3 segs V1_of V2_of V3_of
open Cert.Kernel.Rows (dat0 A_eq0 body_obligation0 hin0 hout0)
open Cert.Kernel.Cols (dat1 A_eq1 body_obligation1 hin1 hout1)

variable {F : FTy → Type} [FloatOps F]

local notation "𝕄" => MT nD τ sig Unit (Elt F) ℕ (UR sig nD τ) ℕ

variable (m : (ℓ : Loc nD τ sig) → Buf (Elt F) ℓ)

/-- The arguments' buffers. -/
abbrev argRefs : List (Ref sig .tc) := [main_arg0, main_arg1, main_arg2, main_arg3, main_arg4, main_arg5, main_arg6]

/-- No reshape before the first call writes an argument. -/
theorem hostOps0_args : ∀ a ∈ argRefs, a ∉ hostOps0_W := ListAll.forall_mem_of_all_decide (by decide +kernel)

/-! ## The buffers' contents between the calls -/

/-- Core `c`'s buffers at launch. -/
abbrev W0 : Dev nD → Valuation τ sig (Elt F) := fun c b => m ((c : Dev nD), b)
/-- The arguments at launch. -/
theorem W0_args (c : Dev nD) : ∀ a ∈ argRefs, W0 m c (Proc.devRef .tc a) = m ((c : Thread nD τ).loc a) := fun _ _ => rfl
/-- After `hostOps0` (region 0's entry). -/
abbrev W1 : Dev nD → Valuation τ sig (Elt F) := fun c => StableHlo.after hostOps0 (W0 m c)
/-- A reference `hostOps0` does not write keeps its contents across it. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- The first host segment leaves the arguments. -/
theorem W1_args (c : Dev nD) : ∀ a ∈ argRefs, W1 m c (Proc.devRef .tc a) = m ((c : Thread nD τ).loc a) :=
  fun a ha => (W1_of m c a (hostOps0_args a ha)).trans (W0_args m c a ha)
/-- The same read at the TensorCore's references (what region 0's proof data take). -/
abbrev V1 : (c : Dev nD) → (b : Ref sig .tc) → Buf (Elt F) ((c : Thread nD τ).loc b) := fun c b => W1 m c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m c) fun w => (dat0 (V1 m) c).arrAt w cfg0.N
/-- The first call's arrays after it. -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
/-- The first call leaves every other buffer. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The first call leaves the arguments. -/
theorem W2_args (c : Dev nD) : ∀ a ∈ argRefs, W2 m c (Proc.devRef .tc a) = m ((c : Thread nD τ).loc a) :=
  fun a ha => (W2_of m c a (argsIn0 a ha)).trans (W1_args m c a ha)
/-- The same read at the TensorCore's references (region 0's exit contents). -/
abbrev V2 : (c : Dev nD) → (b : Ref sig .tc) → Buf (Elt F) ((c : Thread nD τ).loc b) := fun c b => W2 m c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m) c).arrAt w cfg0.N = V2 m c (Pipeline.arrRef spec0 w) :=
  (W2_arr m c w).symm
/-- The first call leaves every other buffer. -/
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m c) fun w => (dat1 (V2 m) c).arrAt w cfg1.N
/-- The second call's arrays after it. -/
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
/-- The second call leaves every other buffer. -/
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (V2 m) c).arrAt_in w (h w rfl) _).trans (A_eq1 (V2 m) c w))
  · exact W3_of_ne m c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The second call leaves the arguments. -/
theorem W3_args (c : Dev nD) : ∀ a ∈ argRefs, W3 m c (Proc.devRef .tc a) = m ((c : Thread nD τ).loc a) :=
  fun a ha => (W3_of m c a (argsIn1 a ha)).trans (W2_args m c a ha)
/-- The same read at the TensorCore's references (region 1's exit contents). -/
abbrev V3 : (c : Dev nD) → (b : Ref sig .tc) → Buf (Elt F) ((c : Thread nD τ).loc b) := fun c b => W3 m c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m) c).arrAt w cfg1.N = V3 m c (Pipeline.arrRef spec1 w) :=
  (W3_arr m c w).symm
/-- The second call leaves every other buffer. -/
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
/-- No loop needs a variant. -/
abbrev 𝒱₀ : Variants := Variants.none
/-- No core owes another anything: no level is assigned. -/
abbrev L : GSem nD τ sig → Finset Unit := fun _ => ∅
/-- No level is assigned. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) (A_eq1 (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main IS the run of the segments: `Gen.main_chain`, then the segments' run against that chain by the kernel's
    definitional check (`chain_rfl`). -/
theorem main_run (c : Dev nD) : main (F := F) c = Pipeline.Seg.run (segs m) := (main_chain c).trans (by chain_rfl)

/-- The TensorCore has no unscoped semaphore. -/
theorem no_unscoped : ∀ sm : SemLoc sig, sm.isScoped .tc = true := by decide

variable (ρ : Dev nD → PrngReg)

set_option backward.isDefEq.respectTransparency.types false in
/-- Every execution ends with every buffer at the last boundary's contents and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W3 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h hz => ⟨h, funext fun g => hz g (.inr (no_unscoped g.2))⟩)

/-- Every execution leaves the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run_all m ρ)
  have key : ∀ a ∈ argRefs, ∀ (hs : ¬ (Proc.devRef .tc a : DevRef τ sig).isScoped),
      r.2.mem ((c : Thread nD τ).loc a) = m ((c : Thread nD τ).loc a) :=
    fun a ha hs => (h.1 c _ (mem_uc a hs)).trans (W3_args m c a ha)
  exact ⟨key main_arg0 (by decide) (by decide), key main_arg1 (by decide) (by decide), key main_arg2 (by decide) (by decide),
    key main_arg3 (by decide) (by decide), key main_arg4 (by decide) (by decide), key main_arg5 (by decide) (by decide),
    key main_arg6 (by decide) (by decide)⟩

end Cert.Kernel.Ends

end
-- ==== Proof.RefVal.lean ====
module

public import proofs.«01_k».proof.Proof.Gen.ReferenceIdeal.Frame
public import proofs.«01_k».proof.Proof.Spec
public import Idealize.ShloMosaic.Lib.Pipeline.ValueKit

@[expose] public section

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)
open Cert.Blocks Cert.Quant Cert.Spec

variable (x : Vec Ideal S2048x1536 .fp8e4m3) (a b : Vec Ideal S2048x1 .f32) (g : Vec Ideal S1x1536 .f32)
  (q : FVec Ideal S2048x2048 .bf16) (w : FVec Ideal S1536x2048 .bf16) (s : Vec Ideal S1x2048 .f32)

/-! ## The values the body computes -/

/-- The normalised activation. -/
theorem pay4_at (r : Fin 2048) (d : Fin 1536) : k0_pay4 x a b (ix2 r d) = x (ix2 r d) * a (ix2 r 0) * b (ix2 r 0) := by
  pointwise [k0_pay4]

/-- The scaled activation. -/
theorem pay6_at (r : Fin 2048) (d : Fin 1536) : k0_pay6 x a b g (ix2 r d) = x (ix2 r d) * a (ix2 r 0) * b (ix2 r 0) * g (ix2 0 d) := by
  pointwise [k0_pay6, k0_pay4, k0_pay5]

/-- The incoming gradient against the unscaled weights. -/
theorem pay1_at (r : Fin 2048) (d : Fin 1536) : k0_pay1 q w s (ix2 r d) = ∑ k : Fin 2048, q (ix2 r k) * (w (ix2 d k) * s (ix2 0 k)) := by
  pointwise [k0_pay1]

/-- The gain's gradient. -/
theorem pay2_at (n : FVec Ideal S2048x1536 .f32) (d : Fin 1536) : k0_pay2 n q w s (ix2 0 d) = ∑ r : Fin 2048, k0_pay1 q w s (ix2 r d) * n (ix2 r d) := by
  pointwise [k0_pay2]

/-- Over 1536 is times its reciprocal. -/
theorem div_1536 (v : EReal) : Ideal.div v (Scalar.ofBits (F := Ideal) .f32 0x44C00000#32) = v * ((1 / 1536 : ℝ) : EReal) := by
  have e : (Scalar.ofBits (F := Ideal) .f32 0x44C00000#32 : EReal) = ((1536 : ℝ) : EReal) := by
    show Ideal.ofBits .f32 0x44C00000#32 = _
    simp [Ideal.ofBits, Ideal.ieee, -EReal.coe_mul]; norm_num
  rw [e, Ideal.div_coe (by norm_num), one_div]

/-- The activations' gradient. -/
theorem pay3_at (n : FVec Ideal S2048x1536 .f32) (v : Vec Ideal S2048x1 .f32) (r : Fin 2048) (d : Fin 1536) :
    k0_pay3 n (k0_pay5 g) q w s v (ix2 r d) = v (ix2 r 0) * (k0_pay1 q w s (ix2 r d) * g (ix2 0 d) - n (ix2 r d) *
      ((∑ l : Fin 1536, k0_pay1 q w s (ix2 r l) * g (ix2 0 l) * n (ix2 r l)) * ((1 / 1536 : ℝ) : EReal))) := by
  rw [← div_1536]
  pointwise [k0_pay3, k0_pay5]

/-- The stored constant is named as the reciprocal of the logarithm of two. -/
theorem inv_ln2 : Named.named (F := Ideal) Cert.ReferenceIdeal.κ "inv_ln2" (φ := .f32) 0x3FB8AA3B#32 = (((Real.log 2)⁻¹ : ℝ) : EReal) :=
  IdealRules.named_const.ideal_named_scalar _ _ _ _ rfl

/-- The exponents of a vector of quotients. -/
theorem expo_at {S : Shape} (v : FVec Ideal S .f32) (i : S.Idx) :
    select (cmpf .olt v (broadcast S (Scalar.ofBits .f32 0x00800000#32))) (broadcast S (Scalar.ofBits .f32 0x00000000#32))
      (minimumf (addf (floor (mulf (log v) (broadcast S (Named.named (F := Ideal) Cert.ReferenceIdeal.κ "inv_ln2" (φ := .f32) 0x3FB8AA3B#32))))
        (broadcast S (Scalar.ofBits .f32 0x3F800000#32))) (broadcast S (Scalar.ofBits .f32 0x42FC0000#32))) i = expo (v i) := by
  rw [expo, ← inv_ln2]
  rfl

/-- Two to the negated exponents. -/
theorem negExp_at {S : Shape} (e : FVec Ideal S .f32) (i : S.Idx) :
    exp2 (subf (broadcast S (Scalar.ofBits (F := Ideal) .f32 0x00000000#32)) e) i = Ideal.exp2 (0 - e i) := by
  have z : Ideal.ofBits .f32 0x00000000#32 = 0 := by simp [Ideal.ofBits, Ideal.ieee]
  rw [← z]
  rfl

/-- The largest magnitude of each column, of the activation's shape, -/
theorem maxX_at (u : FVec Ideal S2048x1536 .f32) (d : Fin 1536) :
    shapeCast S1x1536 (multiReduction .maximumf [0] S1536 (absf u) 0xFF800000#32 reduces_S2048x1536_S1536 (.inl rfl) rfl) shapeCasts_S1536_S1x1536 (ix2 0 d)
      = Finset.univ.sup fun r : Fin 2048 => mag (u (ix2 r d)) := by
  pointwise []
  rw [fold_max]; rfl

/-- and its quotient by 448. -/
theorem ratioX_at (u : FVec Ideal S2048x1536 .f32) (d : Fin 1536) :
    mulf (shapeCast S1x1536 (multiReduction .maximumf [0] S1536 (absf u) 0xFF800000#32 reduces_S2048x1536_S1536 (.inl rfl) rfl) shapeCasts_S1536_S1x1536)
      (broadcast S1x1536 (Scalar.ofBits .f32 0x3B124925#32)) (ix2 0 d) = ratio (Finset.univ.sup fun r : Fin 2048 => mag (u (ix2 r d))) := by
  rw [← maxX_at u d, mulf_apply]
  rfl

/-- The largest magnitude of each column, of the gradient's shape, -/
theorem maxQ_at (u : FVec Ideal S2048x2048 .f32) (d : Fin 2048) :
    shapeCast S1x2048 (multiReduction .maximumf [0] S2048 (absf u) 0xFF800000#32 reduces_S2048x2048_S2048 (.inl rfl) rfl) shapeCasts_S2048_S1x2048 (ix2 0 d)
      = Finset.univ.sup fun r : Fin 2048 => mag (u (ix2 r d)) := by
  pointwise []
  rw [fold_max]; rfl

/-- and its quotient by 448. -/
theorem ratioQ_at (u : FVec Ideal S2048x2048 .f32) (d : Fin 2048) :
    mulf (shapeCast S1x2048 (multiReduction .maximumf [0] S2048 (absf u) 0xFF800000#32 reduces_S2048x2048_S2048 (.inl rfl) rfl) shapeCasts_S2048_S1x2048)
      (broadcast S1x2048 (Scalar.ofBits .f32 0x3B124925#32)) (ix2 0 d) = ratio (Finset.univ.sup fun r : Fin 2048 => mag (u (ix2 r d))) := by
  rw [← maxQ_at u d, mulf_apply]
  rfl

/-- A row of factors over the activation's shape. -/
theorem rowX_at (u : FVec Ideal S2048x1536 .f32) (v : FVec Ideal S1x1536 .f32) (r : Fin 2048) (d : Fin 1536) :
    mulf u (broadcastTo S2048x1536 v broadcasts_S1x1536_S2048x1536) (ix2 r d) = u (ix2 r d) * v (ix2 0 d) := by
  pointwise []

/-- A row of factors over the gradient's shape, held within the codes' range. -/
theorem rowQ_at (v : FVec Ideal S1x2048 .f32) (r : Fin 2048) (d : Fin 2048) :
    (truncf .fp8e4m3 (minimumf (broadcast S2048x2048 (Scalar.ofBits .f32 0x43E00000#32)) (maximumf (broadcast S2048x2048 (Scalar.ofBits .f32 0xC3E00000#32))
      (mulf (extf .f32 q bitsLt_bf16_f32) (broadcastTo S2048x2048 v broadcasts_S1x2048_S2048x2048)))) bitsLt_fp8e4m3_f32 : FVec Ideal S2048x2048 .fp8e4m3) (ix2 r d)
      = clip (q (ix2 r d) * v (ix2 0 d)) := by
  pointwise [clip]

/-- The exponent of an activation column's scale. -/
theorem pay8_at (d : Fin 1536) : k0_pay8 x a b g (ix2 0 d)
    = expo (ratio (Finset.univ.sup fun r : Fin 2048 => mag (k0_pay6 x a b g (ix2 r d)))) := by
  delta k0_pay8
  generalize k0_pay6 x a b g = u
  exact (expo_at _ (ix2 0 d)).trans (congrArg expo (ratioX_at u d))

/-- The scale. -/
theorem pay9_at (d : Fin 1536) : k0_pay9 x a b g (ix2 0 d) = Ideal.exp2 (k0_pay8 x a b g (ix2 0 d)) := by
  delta k0_pay9
  exact exp2_apply _ (ix2 0 d)

/-- The scaled activation over its column's scale. -/
theorem pay10_at (r : Fin 2048) (d : Fin 1536) : k0_pay10 x a b g (ix2 r d) = k0_pay6 x a b g (ix2 r d) * Ideal.exp2 (0 - k0_pay8 x a b g (ix2 0 d)) := by
  delta k0_pay10
  generalize k0_pay8 x a b g = e
  generalize k0_pay6 x a b g = u
  exact (rowX_at u _ r d).trans (congrArg _ (negExp_at e (ix2 0 d)))

/-- A value held within the codes' range. -/
theorem pay11_at (v : FVec Ideal S2048x1536 .f32) (r : Fin 2048) (d : Fin 1536) :
    k0_pay11 v (Scalar.ofBits .f32 0xC3E00000#32) (Scalar.ofBits .f32 0x43E00000#32) (ix2 r d) = clip (v (ix2 r d)) := by
  pointwise [k0_pay11, clip]

/-- The exponent of a gradient column's scale. -/
theorem pay13_at (k : Fin 2048) : k0_pay13 q (ix2 0 k) = expo (ratio (Finset.univ.sup fun r : Fin 2048 => mag (q (ix2 r k)))) := by
  delta k0_pay13
  exact (expo_at _ (ix2 0 k)).trans (congrArg expo (ratioQ_at (k0_pay12 q) k))

/-- The scale. -/
theorem pay14_at (k : Fin 2048) : k0_pay14 q (ix2 0 k) = Ideal.exp2 (k0_pay13 q (ix2 0 k)) := by
  delta k0_pay14
  exact exp2_apply _ (ix2 0 k)

/-- The gradient's codes. -/
theorem pay15_at (r : Fin 2048) (k : Fin 2048) : k0_pay15 q (ix2 r k) = clip (q (ix2 r k) * Ideal.exp2 (0 - k0_pay13 q (ix2 0 k))) := by
  delta k0_pay15
  generalize k0_pay13 q = e
  rw [← negExp_at e (ix2 0 k)]
  exact rowQ_at q _ r k

/-- The product of the codes, scaled back. -/
theorem pay16_at (u : FVec Ideal S1x1536 .f32) (v : FVec Ideal S2048x1536 .f32) (l h : Ideal .f32) (d : Fin 1536) (k : Fin 2048) :
    k0_pay16 q u v l h (ix2 d k) = (∑ r : Fin 2048, k0_pay11 v l h (ix2 r d) * k0_pay15 q (ix2 r k)) * (u (ix2 0 d) * k0_pay14 q (ix2 0 k)) := by
  pointwise [k0_pay16]

/-- The weights' codes are read as they are. -/
theorem pay17_at (w : Vec Ideal S1536x2048 .fp8e4m3) (d : Fin 1536) (k : Fin 2048) : k0_pay17 w (ix2 d k) = w (ix2 d k) := by
  pointwise [k0_pay17]

/-- The incoming gradient is read as it is. -/
theorem pay7_at (q : Vec Ideal S2048x2048 .bf16) (r : Fin 2048) (k : Fin 2048) : k0_pay7 q (ix2 r k) = q (ix2 r k) := by
  pointwise [k0_pay7]

/-! ## The values are the layer's -/

variable (x0 : Vec Ideal S2048x1536 .fp8e4m3) (x1 x2 : Vec Ideal S2048x1 .f32) (x3 : Vec Ideal S1x1536 .f32) (x4 : Vec Ideal S1536x2048 .fp8e4m3) (x5 : Vec Ideal S1x2048 .f32) (x6 : Vec Ideal S2048x2048 .bf16)

/-- Whole arrays as the layer's operands. -/
def inpOf : Inp where
  x r d := x0 (ix2 r d)
  xs r := x1 (ix2 r 0)
  rs r := x2 (ix2 r 0)
  g d := x3 (ix2 0 d)
  w d k := x4 (ix2 d k)
  ws k := x5 (ix2 0 k)
  dq r k := x6 (ix2 r k)

/-- The gradient that reaches the scaled activation. -/
theorem dxhat_eq (r : Fin 2048) (d : Fin 1536) : k0_pay1 (k0_pay7 x6) (k0_pay17 x4) x5 (ix2 r d) = dxhat (inpOf x0 x1 x2 x3 x4 x5 x6) r d := by
  rw [pay1_at]
  simp only [pay7_at, pay17_at]
  rfl

/-- The exponents of the activation's scales. -/
theorem expoX_eq (d : Fin 1536) : k0_pay8 x0 x1 x2 x3 (ix2 0 d) = expo (ratio (xmax (inpOf x0 x1 x2 x3 x4 x5 x6) d)) := by
  rw [pay8_at]
  simp only [pay6_at]
  rfl

/-- The exponents of the gradient's scales. -/
theorem expoQ_eq (k : Fin 2048) : k0_pay13 (k0_pay7 x6) (ix2 0 k) = expo (ratio (qmax (inpOf x0 x1 x2 x3 x4 x5 x6) k)) := by
  rw [pay13_at]
  simp only [pay7_at]
  rfl

/-- The activation's codes. -/
theorem codeX_eq (r : Fin 2048) (d : Fin 1536) : k0_pay11 (k0_pay10 x0 x1 x2 x3) (Scalar.ofBits .f32 0xC3E00000#32) (Scalar.ofBits .f32 0x43E00000#32) (ix2 r d)
    = xcode (inpOf x0 x1 x2 x3 x4 x5 x6) r d := by
  rw [pay11_at, pay10_at, pay6_at, expoX_eq x0 x1 x2 x3 x4 x5 x6]
  rfl

/-- The gradient's codes. -/
theorem codeQ_eq (r k : Fin 2048) : k0_pay15 (k0_pay7 x6) (ix2 r k) = qcode (inpOf x0 x1 x2 x3 x4 x5 x6) r k := by
  rw [pay15_at, pay7_at, expoQ_eq x0 x1 x2 x3 x4 x5 x6]
  rfl

/-- The activation's scales. -/
theorem scaleX_eq (d : Fin 1536) : k0_pay9 x0 x1 x2 x3 (ix2 0 d) = scale (xmax (inpOf x0 x1 x2 x3 x4 x5 x6) d) := by
  rw [pay9_at, expoX_eq x0 x1 x2 x3 x4 x5 x6]
  rfl

/-- The gradient's scales. -/
theorem scaleQ_eq (k : Fin 2048) : k0_pay14 (k0_pay7 x6) (ix2 0 k) = scale (qmax (inpOf x0 x1 x2 x3 x4 x5 x6) k) := by
  rw [pay14_at, expoQ_eq x0 x1 x2 x3 x4 x5 x6]
  rfl

/-- The activations' gradient. -/
theorem val7 (y : S2048x1536.Idx) : k0_pay3 (k0_pay4 x0 x1 x2) (k0_pay5 x3) (k0_pay7 x6) (k0_pay17 x4) x5 x2 y = dx (inpOf x0 x1 x2 x3 x4 x5 x6) (y 0) (y 1) := by
  obtain ⟨r, d, rfl⟩ : ∃ (r : Fin 2048) (d : Fin 1536), y = ix2 r d := ⟨y 0, y 1, eq_ix2 y⟩
  rw [pay3_at]
  simp only [pay4_at, dxhat_eq x0 x1 x2 x3 x4 x5 x6]
  rfl

/-- The weight's gradient. -/
theorem val8 (y : S1536x2048.Idx) : k0_pay16 (k0_pay7 x6) (k0_pay9 x0 x1 x2 x3) (k0_pay10 x0 x1 x2 x3) (Scalar.ofBits .f32 0xC3E00000#32) (Scalar.ofBits .f32 0x43E00000#32) y = dw (inpOf x0 x1 x2 x3 x4 x5 x6) (y 0) (y 1) := by
  obtain ⟨r, d, rfl⟩ : ∃ (r : Fin 1536) (d : Fin 2048), y = ix2 r d := ⟨y 0, y 1, eq_ix2 y⟩
  rw [pay16_at]
  simp only [codeX_eq x0 x1 x2 x3 x4 x5 x6, codeQ_eq x0 x1 x2 x3 x4 x5 x6, scaleX_eq x0 x1 x2 x3 x4 x5 x6, scaleQ_eq x0 x1 x2 x3 x4 x5 x6]
  rfl

/-- The gain's gradient. -/
theorem val9 (y : S1x1536.Idx) : k0_pay2 (k0_pay4 x0 x1 x2) (k0_pay7 x6) (k0_pay17 x4) x5 y = dgamma (inpOf x0 x1 x2 x3 x4 x5 x6) (y 1) := by
  obtain ⟨r, d, rfl⟩ : ∃ (r : Fin 1) (d : Fin 1536), y = ix2 r d := ⟨y 0, y 1, eq_ix2 y⟩
  obtain rfl : r = 0 := Subsingleton.elim _ _
  rw [pay2_at]
  simp only [pay4_at, dxhat_eq x0 x1 x2 x3 x4 x5 x6]
  rfl

/-- The activations' codes. -/
theorem val10 (y : S2048x1536.Idx) : k0_pay11 (k0_pay10 x0 x1 x2 x3) (Scalar.ofBits .f32 0xC3E00000#32) (Scalar.ofBits .f32 0x43E00000#32) y = xcode (inpOf x0 x1 x2 x3 x4 x5 x6) (y 0) (y 1) := by
  obtain ⟨r, d, rfl⟩ : ∃ (r : Fin 2048) (d : Fin 1536), y = ix2 r d := ⟨y 0, y 1, eq_ix2 y⟩
  exact codeX_eq x0 x1 x2 x3 x4 x5 x6 r d

/-- The activations' scales. -/
theorem val11 (y : S1x1536.Idx) : k0_pay9 x0 x1 x2 x3 y = scale (xmax (inpOf x0 x1 x2 x3 x4 x5 x6) (y 1)) := by
  obtain ⟨r, d, rfl⟩ : ∃ (r : Fin 1) (d : Fin 1536), y = ix2 r d := ⟨y 0, y 1, eq_ix2 y⟩
  obtain rfl : r = 0 := Subsingleton.elim _ _
  exact scaleX_eq x0 x1 x2 x3 x4 x5 x6 d

/-- The incoming gradient's codes. -/
theorem val12 (y : S2048x2048.Idx) : k0_pay15 (k0_pay7 x6) y = qcode (inpOf x0 x1 x2 x3 x4 x5 x6) (y 0) (y 1) := by
  obtain ⟨r, d, rfl⟩ : ∃ (r : Fin 2048) (d : Fin 2048), y = ix2 r d := ⟨y 0, y 1, eq_ix2 y⟩
  exact codeQ_eq x0 x1 x2 x3 x4 x5 x6 r d

/-- The incoming gradient's scales. -/
theorem val13 (y : S1x2048.Idx) : k0_pay14 (k0_pay7 x6) y = scale (qmax (inpOf x0 x1 x2 x3 x4 x5 x6) (y 1)) := by
  obtain ⟨r, d, rfl⟩ : ∃ (r : Fin 1) (d : Fin 2048), y = ix2 r d := ⟨y 0, y 1, eq_ix2 y⟩
  obtain rfl : r = 0 := Subsingleton.elim _ _
  exact scaleQ_eq x0 x1 x2 x3 x4 x5 x6 d

/-! ## The one point's blocks are the whole arrays -/

variable (m : (ℓ : Loc nD τ sig) → Buf (Elt Ideal) ℓ) (c : Dev nD)

/-- Every window has one block. -/
theorem index0 : ∀ (w : Fin cfg0.W) (t : Fin cfg0.N) (a), (cfg0.win w).index t a = 0 := by decide +kernel

/-- A block at no offset lies where the array does. -/
theorem no_offset (n s v : ℕ) (h : n = 0) : n * s + 1 * v = v := by subst h; omega

/-- The block of window 0 is the whole array. -/
theorem iblk0 (t : Fin cfg0.N) : iblk m c 0 t = (V m c (Pipeline.arrRef spec0 0) : Vec Ideal S2048x1536 .fp8e4m3) :=
  funext fun y => congrArg (V m c (Pipeline.arrRef spec0 0)) (funext fun a => Fin.ext (no_offset _ _ (y a).val (index0 0 t a)))

/-- The block of window 1 is the whole array. -/
theorem iblk1 (t : Fin cfg0.N) : iblk m c 1 t = (V m c (Pipeline.arrRef spec0 1) : Vec Ideal S2048x1 .f32) :=
  funext fun y => congrArg (V m c (Pipeline.arrRef spec0 1)) (funext fun a => Fin.ext (no_offset _ _ (y a).val (index0 1 t a)))

/-- The block of window 2 is the whole array. -/
theorem iblk2 (t : Fin cfg0.N) : iblk m c 2 t = (V m c (Pipeline.arrRef spec0 2) : Vec Ideal S2048x1 .f32) :=
  funext fun y => congrArg (V m c (Pipeline.arrRef spec0 2)) (funext fun a => Fin.ext (no_offset _ _ (y a).val (index0 2 t a)))

/-- The block of window 3 is the whole array. -/
theorem iblk3 (t : Fin cfg0.N) : iblk m c 3 t = (V m c (Pipeline.arrRef spec0 3) : Vec Ideal S1x1536 .f32) :=
  funext fun y => congrArg (V m c (Pipeline.arrRef spec0 3)) (funext fun a => Fin.ext (no_offset _ _ (y a).val (index0 3 t a)))

/-- The block of window 4 is the whole array. -/
theorem iblk4 (t : Fin cfg0.N) : iblk m c 4 t = (V m c (Pipeline.arrRef spec0 4) : Vec Ideal S1536x2048 .fp8e4m3) :=
  funext fun y => congrArg (V m c (Pipeline.arrRef spec0 4)) (funext fun a => Fin.ext (no_offset _ _ (y a).val (index0 4 t a)))

/-- The block of window 5 is the whole array. -/
theorem iblk5 (t : Fin cfg0.N) : iblk m c 5 t = (V m c (Pipeline.arrRef spec0 5) : Vec Ideal S1x2048 .f32) :=
  funext fun y => congrArg (V m c (Pipeline.arrRef spec0 5)) (funext fun a => Fin.ext (no_offset _ _ (y a).val (index0 5 t a)))

/-- The block of window 6 is the whole array. -/
theorem iblk6 (t : Fin cfg0.N) : iblk m c 6 t = (V m c (Pipeline.arrRef spec0 6) : Vec Ideal S2048x2048 .bf16) :=
  funext fun y => congrArg (V m c (Pipeline.arrRef spec0 6)) (funext fun a => Fin.ext (no_offset _ _ (y a).val (index0 6 t a)))

/-- The arrays the region finds, as the layer's operands. -/
def inp : Inp :=
  inpOf (V m c (Pipeline.arrRef spec0 0)) (V m c (Pipeline.arrRef spec0 1)) (V m c (Pipeline.arrRef spec0 2)) (V m c (Pipeline.arrRef spec0 3))
    (V m c (Pipeline.arrRef spec0 4)) (V m c (Pipeline.arrRef spec0 5)) (V m c (Pipeline.arrRef spec0 6))

/-! ## The arrays after the run -/

/-- The one point. -/
def pt : Fin cfg0.N := ⟨0, by decide⟩

/-- There is no other. -/
theorem eq_pt (t : Fin cfg0.N) : t = pt := Fin.ext (by have : t.val < 1 := t.isLt; show t.val = 0; omega)

/-- The stores start at the origin. -/
theorem zero2 : ∀ a : Fin 2, (![0, 0] : Fin 2 → ℕ) a = 0 := by decide

/-- One store over a whole buffer leaves its payload. -/
theorem canon_whole {S : Shape} {e : EltTy} {off : Fin S.rank → ℕ} (inb : ∀ a, off a + S.size a ≤ S.size a) (p : S.Idx → Elt Ideal e)
    (h : ∀ a, off a = 0) : View.canon (Val := Elt Ideal) [⟨Rect.unit off S.size inb, p⟩] = p := by
  obtain rfl : off = fun _ => 0 := funext h
  funext y
  have e : (Rect.unit (s := S) (fun _ => 0) S.size inb).emb y = y := Rect.emb_whole_apply S y
  exact (congrArg _ e.symm).trans (View.canon_cons_emb (Rect.unit (s := S) (fun _ => 0) S.size inb) p [] y)

/-- A load of a whole buffer reads it all. -/
theorem ld0 (x : Vec Ideal S2048x1536 .fp8e4m3) : View.ld (Val := Elt Ideal) x r0_0 = x := View.ld_unit_zero (funext zero2) _ x
/-- A load of a whole buffer reads it all. -/
theorem ld1 (x : Vec Ideal S2048x1 .f32) : View.ld (Val := Elt Ideal) x r0_1 = x := View.ld_unit_zero (funext zero2) _ x
/-- A load of a whole buffer reads it all. -/
theorem ld2 (x : Vec Ideal S1x1536 .f32) : View.ld (Val := Elt Ideal) x r0_2 = x := View.ld_unit_zero (funext zero2) _ x
/-- A load of a whole buffer reads it all. -/
theorem ld3 (x : Vec Ideal S2048x2048 .bf16) : View.ld (Val := Elt Ideal) x r0_3 = x := View.ld_unit_zero (funext zero2) _ x
/-- A load of a whole buffer reads it all. -/
theorem ld5 (x : Vec Ideal S1x2048 .f32) : View.ld (Val := Elt Ideal) x r0_5 = x := View.ld_unit_zero (funext zero2) _ x
/-- A load of a whole buffer reads it all. -/
theorem ld4 (x : Vec Ideal S1536x2048 .fp8e4m3) : View.ld (Val := Elt Ideal) x r0_4 = x := View.ld_unit_zero (funext zero2) _ x

/-- What the body leaves of result 1. -/
theorem out7_eq : out0_7 x0 x1 x2 x3 x4 x5 x6 = k0_pay3 (k0_pay4 x0 x1 x2) (k0_pay5 x3) (k0_pay7 x6) (k0_pay17 x4) x5 x2 := by
  rw [out0_7, k0_pay18, k0_pay19, k0_pay22, ld0, ld1, ld1, ld2, ld3, ld4, ld5]; exact canon_whole _ _ zero2

/-- What the body leaves of result 2. -/
theorem out8_eq : out0_8 x0 x1 x2 x3 x4 x5 x6 = k0_pay16 (k0_pay7 x6) (k0_pay9 x0 x1 x2 x3) (k0_pay10 x0 x1 x2 x3) (Scalar.ofBits .f32 0xC3E00000#32) (Scalar.ofBits .f32 0x43E00000#32) := by
  rw [out0_8, k0_pay19, k0_pay20, k0_pay21, ld0, ld1, ld1, ld2, ld3]; exact canon_whole _ _ zero2

/-- What the body leaves of result 3. -/
theorem out9_eq : out0_9 x0 x1 x2 x3 x4 x5 x6 = k0_pay2 (k0_pay4 x0 x1 x2) (k0_pay7 x6) (k0_pay17 x4) x5 := by
  rw [out0_9, k0_pay18, k0_pay19, k0_pay22, ld0, ld1, ld1, ld3, ld4, ld5]; exact canon_whole _ _ zero2

/-- What the body leaves of result 4. -/
theorem out10_eq : out0_10 x0 x1 x2 x3 x4 x5 x6 = k0_pay11 (k0_pay10 x0 x1 x2 x3) (Scalar.ofBits .f32 0xC3E00000#32) (Scalar.ofBits .f32 0x43E00000#32) := by
  rw [out0_10, k0_pay21, ld0, ld1, ld1, ld2]; exact canon_whole _ _ zero2

/-- What the body leaves of result 5. -/
theorem out11_eq : out0_11 x0 x1 x2 x3 x4 x5 x6 = k0_pay9 x0 x1 x2 x3 := by
  rw [out0_11, k0_pay20, ld0, ld1, ld1, ld2]; exact canon_whole _ _ zero2

/-- What the body leaves of result 6. -/
theorem out12_eq : out0_12 x0 x1 x2 x3 x4 x5 x6 = k0_pay15 (k0_pay7 x6) := by
  rw [out0_12, k0_pay19, ld3]; exact canon_whole _ _ zero2

/-- What the body leaves of result 7. -/
theorem out13_eq : out0_13 x0 x1 x2 x3 x4 x5 x6 = k0_pay14 (k0_pay7 x6) := by
  rw [out0_13, k0_pay19, ld3]; exact canon_whole _ _ zero2

/-- The activations' gradient after the run. -/
theorem final7 : (dats m 0 c).arrAt 7 cfg0.N = (fun i => dx (inp m c) (i 0) (i 1) : Vec Ideal S2048x1536 .bf16) := by
  refine (dats m 0 c).arrAt_eq_of_cover 7 _ (fun t _ => ?_) (fun i => ⟨pt, by decide +kernel, ?_⟩)
  · show (cfg0.win 7).cut (grid0.coords t) ((dats m 0 c).after 7 t) = _
    rw [after0_7, iblk0, iblk1, iblk2, iblk3, iblk4, iblk5, iblk6, out7_eq]
    funext y
    have ey : ((cfg0.win 7).blk t).view.emb y = y := funext fun a => Fin.ext (no_offset _ _ (y a).val (index0 7 t a))
    refine Eq.trans ?_ (congrArg (fun i : S2048x1536.Idx => dx (inp m c) (i 0) (i 1)) ey.symm)
    exact val7 _ _ _ _ _ _ _ y
  · have e : ((cfg0.win 7).blk pt).view.emb i = i := funext fun a => Fin.ext (no_offset _ _ (i a).val (index0 7 pt a))
    exact e ▸ View.emb_mem_set (((cfg0.win 7).blk pt).view) i

/-- The weight's gradient after the run. -/
theorem final8 : (dats m 0 c).arrAt 8 cfg0.N = (fun i => dw (inp m c) (i 0) (i 1) : Vec Ideal S1536x2048 .f32) := by
  refine (dats m 0 c).arrAt_eq_of_cover 8 _ (fun t _ => ?_) (fun i => ⟨pt, by decide +kernel, ?_⟩)
  · show (cfg0.win 8).cut (grid0.coords t) ((dats m 0 c).after 8 t) = _
    rw [after0_8, iblk0, iblk1, iblk2, iblk3, iblk4, iblk5, iblk6, out8_eq]
    funext y
    have ey : ((cfg0.win 8).blk t).view.emb y = y := funext fun a => Fin.ext (no_offset _ _ (y a).val (index0 8 t a))
    refine Eq.trans ?_ (congrArg (fun i : S1536x2048.Idx => dw (inp m c) (i 0) (i 1)) ey.symm)
    exact val8 _ _ _ _ _ _ _ y
  · have e : ((cfg0.win 8).blk pt).view.emb i = i := funext fun a => Fin.ext (no_offset _ _ (i a).val (index0 8 pt a))
    exact e ▸ View.emb_mem_set (((cfg0.win 8).blk pt).view) i

/-- The gain's gradient after the run. -/
theorem final9 : (dats m 0 c).arrAt 9 cfg0.N = (fun i => dgamma (inp m c) (i 1) : Vec Ideal S1x1536 .f32) := by
  refine (dats m 0 c).arrAt_eq_of_cover 9 _ (fun t _ => ?_) (fun i => ⟨pt, by decide +kernel, ?_⟩)
  · show (cfg0.win 9).cut (grid0.coords t) ((dats m 0 c).after 9 t) = _
    rw [after0_9, iblk0, iblk1, iblk2, iblk3, iblk4, iblk5, iblk6, out9_eq]
    funext y
    have ey : ((cfg0.win 9).blk t).view.emb y = y := funext fun a => Fin.ext (no_offset _ _ (y a).val (index0 9 t a))
    refine Eq.trans ?_ (congrArg (fun i : S1x1536.Idx => dgamma (inp m c) (i 1)) ey.symm)
    exact val9 _ _ _ _ _ _ _ y
  · have e : ((cfg0.win 9).blk pt).view.emb i = i := funext fun a => Fin.ext (no_offset _ _ (i a).val (index0 9 pt a))
    exact e ▸ View.emb_mem_set (((cfg0.win 9).blk pt).view) i

/-- The activations' codes after the run. -/
theorem final10 : (dats m 0 c).arrAt 10 cfg0.N = (fun i => xcode (inp m c) (i 0) (i 1) : Vec Ideal S2048x1536 .fp8e4m3) := by
  refine (dats m 0 c).arrAt_eq_of_cover 10 _ (fun t _ => ?_) (fun i => ⟨pt, by decide +kernel, ?_⟩)
  · show (cfg0.win 10).cut (grid0.coords t) ((dats m 0 c).after 10 t) = _
    rw [after0_10, iblk0, iblk1, iblk2, iblk3, iblk4, iblk5, iblk6, out10_eq]
    funext y
    have ey : ((cfg0.win 10).blk t).view.emb y = y := funext fun a => Fin.ext (no_offset _ _ (y a).val (index0 10 t a))
    refine Eq.trans ?_ (congrArg (fun i : S2048x1536.Idx => xcode (inp m c) (i 0) (i 1)) ey.symm)
    exact val10 _ _ _ _ _ _ _ y
  · have e : ((cfg0.win 10).blk pt).view.emb i = i := funext fun a => Fin.ext (no_offset _ _ (i a).val (index0 10 pt a))
    exact e ▸ View.emb_mem_set (((cfg0.win 10).blk pt).view) i

/-- The activations' scales after the run. -/
theorem final11 : (dats m 0 c).arrAt 11 cfg0.N = (fun i => scale (xmax (inp m c) (i 1)) : Vec Ideal S1x1536 .f32) := by
  refine (dats m 0 c).arrAt_eq_of_cover 11 _ (fun t _ => ?_) (fun i => ⟨pt, by decide +kernel, ?_⟩)
  · show (cfg0.win 11).cut (grid0.coords t) ((dats m 0 c).after 11 t) = _
    rw [after0_11, iblk0, iblk1, iblk2, iblk3, iblk4, iblk5, iblk6, out11_eq]
    funext y
    have ey : ((cfg0.win 11).blk t).view.emb y = y := funext fun a => Fin.ext (no_offset _ _ (y a).val (index0 11 t a))
    refine Eq.trans ?_ (congrArg (fun i : S1x1536.Idx => scale (xmax (inp m c) (i 1))) ey.symm)
    exact val11 _ _ _ _ _ _ _ y
  · have e : ((cfg0.win 11).blk pt).view.emb i = i := funext fun a => Fin.ext (no_offset _ _ (i a).val (index0 11 pt a))
    exact e ▸ View.emb_mem_set (((cfg0.win 11).blk pt).view) i

/-- The incoming gradient's codes after the run. -/
theorem final12 : (dats m 0 c).arrAt 12 cfg0.N = (fun i => qcode (inp m c) (i 0) (i 1) : Vec Ideal S2048x2048 .fp8e4m3) := by
  refine (dats m 0 c).arrAt_eq_of_cover 12 _ (fun t _ => ?_) (fun i => ⟨pt, by decide +kernel, ?_⟩)
  · show (cfg0.win 12).cut (grid0.coords t) ((dats m 0 c).after 12 t) = _
    rw [after0_12, iblk0, iblk1, iblk2, iblk3, iblk4, iblk5, iblk6, out12_eq]
    funext y
    have ey : ((cfg0.win 12).blk t).view.emb y = y := funext fun a => Fin.ext (no_offset _ _ (y a).val (index0 12 t a))
    refine Eq.trans ?_ (congrArg (fun i : S2048x2048.Idx => qcode (inp m c) (i 0) (i 1)) ey.symm)
    exact val12 _ _ _ _ _ _ _ y
  · have e : ((cfg0.win 12).blk pt).view.emb i = i := funext fun a => Fin.ext (no_offset _ _ (i a).val (index0 12 pt a))
    exact e ▸ View.emb_mem_set (((cfg0.win 12).blk pt).view) i

/-- The incoming gradient's scales after the run. -/
theorem final13 : (dats m 0 c).arrAt 13 cfg0.N = (fun i => scale (qmax (inp m c) (i 1)) : Vec Ideal S1x2048 .f32) := by
  refine (dats m 0 c).arrAt_eq_of_cover 13 _ (fun t _ => ?_) (fun i => ⟨pt, by decide +kernel, ?_⟩)
  · show (cfg0.win 13).cut (grid0.coords t) ((dats m 0 c).after 13 t) = _
    rw [after0_13, iblk0, iblk1, iblk2, iblk3, iblk4, iblk5, iblk6, out13_eq]
    funext y
    have ey : ((cfg0.win 13).blk t).view.emb y = y := funext fun a => Fin.ext (no_offset _ _ (y a).val (index0 13 t a))
    refine Eq.trans ?_ (congrArg (fun i : S1x2048.Idx => scale (qmax (inp m c) (i 1))) ey.symm)
    exact val13 _ _ _ _ _ _ _ y
  · have e : ((cfg0.win 13).blk pt).view.emb i = i := funext fun a => Fin.ext (no_offset _ _ (i a).val (index0 13 pt a))
    exact e ▸ View.emb_mem_set (((cfg0.win 13).blk pt).view) i

/-! ## The host's reshapes -/

/-- The arguments as the layer's operands: row `r` is position `r % 512` of sequence `r / 512`. -/
def arg : Inp where
  x r d := (m ((c : Thread nD τ).loc main_arg0) : Vec Ideal S4x512x1536 .fp8e4m3) (ix3 (row 4 (r.val / 512)) (row 512 (r.val % 512)) d)
  xs r := (m ((c : Thread nD τ).loc main_arg1) : Vec Ideal S4x512 .f32) (ix2 (row 4 (r.val / 512)) (row 512 (r.val % 512)))
  rs r := (m ((c : Thread nD τ).loc main_arg2) : Vec Ideal S4x512 .f32) (ix2 (row 4 (r.val / 512)) (row 512 (r.val % 512)))
  g d := (m ((c : Thread nD τ).loc main_arg3) : Vec Ideal S1536 .f32) (ix1 d)
  w d k := (m ((c : Thread nD τ).loc main_arg4) : Vec Ideal S1536x2048 .fp8e4m3) (ix2 d k)
  ws k := (m ((c : Thread nD τ).loc main_arg5) : Vec Ideal S2048 .f32) (ix1 k)
  dq r k := (m ((c : Thread nD τ).loc main_arg6) : Vec Ideal S4x512x2048 .bf16) (ix3 (row 4 (r.val / 512)) (row 512 (r.val % 512)) k)

/-- The region's operands are the arguments. -/
theorem inp_eq : inp m c = arg m c := by
  have e0 : (V m c main_v0 : Vec Ideal S2048x1536 .fp8e4m3) = shapeCast S2048x1536 (m ((c : Thread nD τ).loc main_arg0)) shapeCasts_S4x512x1536_S2048x1536 := rfl
  have e1 : (V m c main_v1 : Vec Ideal S2048x1 .f32) = shapeCast S2048x1 (m ((c : Thread nD τ).loc main_arg1)) shapeCasts_S4x512_S2048x1 := rfl
  have e2 : (V m c main_v2 : Vec Ideal S2048x1 .f32) = shapeCast S2048x1 (m ((c : Thread nD τ).loc main_arg2)) shapeCasts_S4x512_S2048x1 := rfl
  have e3 : (V m c main_v3 : Vec Ideal S1x1536 .f32) = shapeCast S1x1536 (m ((c : Thread nD τ).loc main_arg3)) shapeCasts_S1536_S1x1536 := rfl
  have e4 : (V m c main_arg4 : Vec Ideal S1536x2048 .fp8e4m3) = m ((c : Thread nD τ).loc main_arg4) := V_main_arg4 m c
  have e5 : (V m c main_v4 : Vec Ideal S1x2048 .f32) = shapeCast S1x2048 (m ((c : Thread nD τ).loc main_arg5)) shapeCasts_S2048_S1x2048 := rfl
  have e6 : (V m c main_v5 : Vec Ideal S2048x2048 .bf16) = shapeCast S2048x2048 (m ((c : Thread nD τ).loc main_arg6)) shapeCasts_S4x512x2048_S2048x2048 := rfl
  show inpOf (V m c main_v0) (V m c main_v1) (V m c main_v2) (V m c main_v3) (V m c main_arg4) (V m c main_v4) (V m c main_v5) = _
  rw [e0, e1, e2, e3, e4, e5, e6, inpOf, arg, Inp.mk.injEq]
  refine ⟨?_, ?_, ?_, ?_, rfl, ?_, ?_⟩
  · exact funext fun r => funext fun d => shapeCast_apply _ _ _ _ (flat3 r d)
  · exact funext fun r => shapeCast_apply _ _ _ _ (flat2 r)
  · exact funext fun r => shapeCast_apply _ _ _ _ (flat2 r)
  · exact funext fun d => shapeCast_apply _ _ _ _ (flat1 d)
  · exact funext fun d => shapeCast_apply _ _ _ _ (flat1 d)
  · exact funext fun r => funext fun d => shapeCast_apply _ _ _ _ (flat3 r d)

/-- Every execution ends with the layer's seven results. -/
theorem run_results (ρ : Dev nD → PrngReg) : θ_run defs (onTc (τ := τ) (main (F := Ideal))) ⟨m, fun _ => 0, ρ⟩ (fun r => ∀ c : Dev nD,
      r.2.mem ((c.tc : Thread nD τ).loc main_v6_0) = (fun i => dx (arg m c) (i 0) (i 1) : Vec Ideal S2048x1536 .bf16)
      ∧ r.2.mem ((c.tc : Thread nD τ).loc main_v6_1) = (fun i => dw (arg m c) (i 0) (i 1) : Vec Ideal S1536x2048 .f32)
      ∧ r.2.mem ((c.tc : Thread nD τ).loc main_v6_2) = (fun i => dgamma (arg m c) (i 1) : Vec Ideal S1x1536 .f32)
      ∧ r.2.mem ((c.tc : Thread nD τ).loc main_v6_3) = (fun i => xcode (arg m c) (i 0) (i 1) : Vec Ideal S2048x1536 .fp8e4m3)
      ∧ r.2.mem ((c.tc : Thread nD τ).loc main_v6_4) = (fun i => scale (xmax (arg m c) (i 1)) : Vec Ideal S1x1536 .f32)
      ∧ r.2.mem ((c.tc : Thread nD τ).loc main_v6_5) = (fun i => qcode (arg m c) (i 0) (i 1) : Vec Ideal S2048x2048 .fp8e4m3)
      ∧ r.2.mem ((c.tc : Thread nD τ).loc main_v6_6) = (fun i => scale (qmax (arg m c) (i 1)) : Vec Ideal S1x2048 .f32)) := by
  refine (θ_run defs _ _).mono (fun r h c => ?_) (run_main m ρ)
  rw [← inp_eq]
  exact ⟨((h c).1 7).trans (final7 m c), ((h c).1 8).trans (final8 m c), ((h c).1 9).trans (final9 m c), ((h c).1 10).trans (final10 m c), ((h c).1 11).trans (final11 m c), ((h c).1 12).trans (final12 m c), ((h c).1 13).trans (final13 m c)⟩

end Cert.ReferenceIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.Ends
public import proofs.«01_k».proof.Proof.EndsBits
public import proofs.«01_k».proof.Proof.RefVal
public import Idealize.ShloMosaic.Adequacy
public import Idealize.ShloMosaic.Init

@[expose] public section

noncomputable section

namespace Cert.Proof

open Idealize.ShloMosaic Idealize.ShloMosaic.TcCoe Idealize.SL.Sem Cert.Spec Cert.Blocks

/-- Memories that agree on the arguments give the two programs the same operands. -/
theorem arg_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Val.arg m' c = Cert.KernelIdeal.Run.arg m c := by
  obtain ⟨h0, h1, h2, h3, h4, h5, h6⟩ := h
  rw [Cert.ReferenceIdeal.Val.arg, Cert.KernelIdeal.Run.arg, h0, h1, h2, h3, h4, h5, h6]

/-- The idealized kernel and the idealized reference end with equal results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => (fun i => dx (Cert.KernelIdeal.Run.arg m c) (i 0) (i 1) : Vec Ideal Cert.KernelIdeal.S2048x1536 .bf16),
    fun c => (fun i => dw (Cert.KernelIdeal.Run.arg m c) (i 0) (i 1) : Vec Ideal Cert.KernelIdeal.S1536x2048 .f32),
    fun c => (fun i => dgamma (Cert.KernelIdeal.Run.arg m c) (i 1) : Vec Ideal Cert.KernelIdeal.S1x1536 .f32),
    fun c => (fun i => xcode (Cert.KernelIdeal.Run.arg m c) (i 0) (i 1) : Vec Ideal Cert.KernelIdeal.S2048x1536 .fp8e4m3),
    fun c => (fun i => scale (xmax (Cert.KernelIdeal.Run.arg m c) (i 1)) : Vec Ideal Cert.KernelIdeal.S1x1536 .f32),
    fun c => (fun i => qcode (Cert.KernelIdeal.Run.arg m c) (i 0) (i 1) : Vec Ideal Cert.KernelIdeal.S2048x2048 .fp8e4m3),
    fun c => (fun i => scale (qmax (Cert.KernelIdeal.Run.arg m c) (i 1)) : Vec Ideal Cert.KernelIdeal.S1x2048 .f32),
    (θ_run Cert.KernelIdeal.defs _ _).mono (fun r h c => ?_) (θ_run_and (Cert.KernelIdeal.Run.run_results m g) (Cert.KernelIdeal.Ends.run_frame m g)),
    (θ_run Cert.ReferenceIdeal.defs _ _).mono (fun r h c => ?_) (θ_run_and (Cert.ReferenceIdeal.Val.run_results m' g') (Cert.ReferenceIdeal.Gen.unchanged m' g'))⟩
  · obtain ⟨h0, h1, h2, h3, h4, h5, h6⟩ := h.1 c
    exact ⟨h0, h1, h2, h3, h4, h5, h6, h.2.1 c⟩
  · obtain ⟨h0, h1, h2, h3, h4, h5, h6⟩ := h.1 c
    have e := arg_eq m m' c (hagree c)
    rw [e] at h0 h1 h2 h3 h4 h5 h6
    exact ⟨h0, h1, h2, h3, h4, h5, h6, h.2 c⟩

/-- The five claims. -/
theorem claim : Cert.Claim := ⟨Cert.Kernel.Gen.facts, Cert.KernelIdeal.Gen.facts, Cert.ReferenceIdeal.Gen.facts,
  fun m ρ _ => Cert.Kernel.Ends.run_frame m ρ, fun m ρ _ => Cert.KernelIdeal.Ends.run_frame m ρ, fun m ρ _ => Cert.ReferenceIdeal.Gen.frame m ρ,
  IdealRules.named_const.statement Cert.KernelIdeal.κ "inv_d" .f32 0x3A2AAAAB#32 ((1 / 1536 : ℝ) : EReal) rfl, algebraic⟩

end Cert.Proof

end
